-- ==== Defs.lean ====
def Pre_Kernel [hPre_counts : Cert.Pre_counts.Facts] (m : (ℓ : Loc Cert.Kernel.nD Cert.Kernel.τ Cert.Kernel.sig) → Buf (Elt Bits) ℓ) : Prop :=
  ∀ c : Dev Cert.Kernel.nD,
    (Cert.Pre_counts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_counts : Cert.Pre_counts.Facts] (m : (ℓ : Loc Cert.KernelIdeal.nD Cert.KernelIdeal.τ Cert.KernelIdeal.sig) → Buf (Elt Ideal) ℓ) : Prop :=
  ∀ c : Dev Cert.KernelIdeal.nD,
    (Cert.Pre_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_pairs [hPre_pairs : Cert.Pre_pairs.Facts] (m : (ℓ : Loc Cert.KernelIdeal.nD Cert.KernelIdeal.τ Cert.KernelIdeal.sig) → Buf (Elt Ideal) ℓ) : Prop :=
  ∀ c : Dev Cert.KernelIdeal.nD,
    (Cert.Pre_pairs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pairs [hPre_pairs : Cert.Pre_pairs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pairs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_counts : Cert.Pre_counts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_counts : Cert.Pre_counts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_pairs [hKernelIdeal : Cert.KernelIdeal.Facts] [hPre_pairs : Cert.Pre_pairs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pairs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pairs [hReferenceIdeal : Cert.ReferenceIdeal.Facts] [hPre_pairs : Cert.Pre_pairs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pairs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_pairs [hKernelIdeal : Cert.KernelIdeal.Facts] [hReferenceIdeal : Cert.ReferenceIdeal.Facts] [hPre_pairs : Cert.Pre_pairs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pairs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_counts : Cert.Pre_counts.Facts) (hPre_pairs : Cert.Pre_pairs.Facts),
    quiescent_Kernel (hKernel := hKernel) (hPre_counts := hPre_counts)
    ∧ quiescent_KernelIdeal (hKernelIdeal := hKernelIdeal) (hPre_counts := hPre_counts)
    ∧ quiescent_KernelIdeal_pre_pairs (hKernelIdeal := hKernelIdeal) (hPre_pairs := hPre_pairs)
    ∧ quiescent_ReferenceIdeal (hReferenceIdeal := hReferenceIdeal)
    ∧ quiescent_ReferenceIdeal_pre_pairs (hReferenceIdeal := hReferenceIdeal) (hPre_pairs := hPre_pairs)
    ∧ preserves_Kernel_KernelIdeal
    ∧ algebraic_KernelIdeal_ReferenceIdeal_pre_pairs (hKernelIdeal := hKernelIdeal) (hReferenceIdeal := hReferenceIdeal) (hPre_pairs := hPre_pairs)
-- ==== Pre_counts.lean ====
abbrev S768x384 : Shape := ⟨2, ![768, 384]⟩
abbrev S768 : Shape := ⟨1, ![768]⟩
abbrev S768x960 : Shape := ⟨2, ![768, 960]⟩
abbrev S27x768 : Shape := ⟨2, ![27, 768]⟩
abbrev S27 : Shape := ⟨1, ![27]⟩
abbrev S_ : Shape := ⟨0, ![]⟩

class Facts : Prop where
  bcast_S_S27 : S_.BroadcastsInDim S27 (![] : Fin 0 → Fin S27.rank)
  reducesTo_S27_S_d0 : S27.ReducesTo [0] S_
  h_S_ : 0 < S_.numel

variable [Facts]

def fn {F : FTy → Type} [FloatOps F] (main_arg0 : IVec S768x384 8) (main_arg1 : FVec F S768 .f32) (main_arg2 : IVec S768x960 8) (main_arg3 : FVec F S768 .f32) (main_arg4 : IVec S27x768 32) (main_arg5 : IVec S27x768 32) (main_arg6 : IVec S27 32) : IVec S_ 1 :=
  let main_c : IVec S_ 32 := constantI S_ 32 0#32
  let main_v0 : IVec S27 32 := broadcastInDim S27 ![] bcast_S_S27 main_c
  let main_v1 : IVec S27 1 := cmpi .sge main_arg6 main_v0
  let main_c_0 : IVec S_ 32 := constantI S_ 32 768#32
  let main_v2 : IVec S27 32 := broadcastInDim S27 ![] bcast_S_S27 main_c_0
  let main_v3 : IVec S27 1 := cmpi .sle main_arg6 main_v2
  let main_v4 : IVec S27 1 := andi main_v1 main_v3
  let main_c_1 : IVec S_ 1 := constantI S_ 1 1#1
  let main_v5 : IVec S_ 1 := (fun x v => Host.reduce IntOp.andi x v reducesTo_S27_S_d0 h_S_) main_v4 main_c_1
  main_v5
-- ==== Pre_pairs.lean ====
abbrev S768x384 : Shape := ⟨2, ![768, 384]⟩
abbrev S768 : Shape := ⟨1, ![768]⟩
abbrev S768x960 : Shape := ⟨2, ![768, 960]⟩
abbrev S27x768 : Shape := ⟨2, ![27, 768]⟩
abbrev S27 : Shape := ⟨1, ![27]⟩
abbrev S_ : Shape := ⟨0, ![]⟩

class Facts : Prop where
  bcast_S_S27x768 : S_.BroadcastsInDim S27x768 (![] : Fin 0 → Fin S27x768.rank)
  reducesTo_S27x768_S_d0_1 : S27x768.ReducesTo [0, 1] S_
  h_S_ : 0 < S_.numel
  bcast_S_S27 : S_.BroadcastsInDim S27 (![] : Fin 0 → Fin S27.rank)
  reducesTo_S27_S_d0 : S27.ReducesTo [0] S_

variable [Facts]

def fn_part1 {F : FTy → Type} [FloatOps F] (main_arg6 : IVec S27 32) (main_v12 : IVec S_ 1) (main_v14 : IVec S27 1) (main_v15 : IVec S27 32) : IVec S_ 1 :=
  let main_v16 : IVec S27 1 := cmpi .sle main_arg6 main_v15
  let main_v17 : IVec S27 1 := andi main_v14 main_v16
  let main_c_7 : IVec S_ 1 := constantI S_ 1 1#1
  let main_v18 : IVec S_ 1 := (fun x v => Host.reduce IntOp.andi x v reducesTo_S27_S_d0 h_S_) main_v17 main_c_7
  let main_v19 : IVec S_ 1 := andi main_v12 main_v18
  main_v19

def fn {F : FTy → Type} [FloatOps F] (main_arg0 : IVec S768x384 8) (main_arg1 : FVec F S768 .f32) (main_arg2 : IVec S768x960 8) (main_arg3 : FVec F S768 .f32) (main_arg4 : IVec S27x768 32) (main_arg5 : IVec S27x768 32) (main_arg6 : IVec S27 32) : IVec S_ 1 :=
  let main_c : IVec S_ 32 := constantI S_ 32 0#32
  let main_v0 : IVec S27x768 32 := broadcastInDim S27x768 ![] bcast_S_S27x768 main_c
  let main_v1 : IVec S27x768 1 := cmpi .sge main_arg4 main_v0
  let main_c_0 : IVec S_ 32 := constantI S_ 32 767#32
  let main_v2 : IVec S27x768 32 := broadcastInDim S27x768 ![] bcast_S_S27x768 main_c_0
  let main_v3 : IVec S27x768 1 := cmpi .sle main_arg4 main_v2
  let main_v4 : IVec S27x768 1 := andi main_v1 main_v3
  let main_c_1 : IVec S_ 1 := constantI S_ 1 1#1
  let main_v5 : IVec S_ 1 := (fun x v => Host.reduce IntOp.andi x v reducesTo_S27x768_S_d0_1 h_S_) main_v4 main_c_1
  let main_c_2 : IVec S_ 32 := constantI S_ 32 0#32
  let main_v6 : IVec S27x768 32 := broadcastInDim S27x768 ![] bcast_S_S27x768 main_c_2
  let main_v7 : IVec S27x768 1 := cmpi .sge main_arg5 main_v6
  let main_c_3 : IVec S_ 32 := constantI S_ 32 767#32
  let main_v8 : IVec S27x768 32 := broadcastInDim S27x768 ![] bcast_S_S27x768 main_c_3
  let main_v9 : IVec S27x768 1 := cmpi .sle main_arg5 main_v8
  let main_v10 : IVec S27x768 1 := andi main_v7 main_v9
  let main_c_4 : IVec S_ 1 := constantI S_ 1 1#1
  let main_v11 : IVec S_ 1 := (fun x v => Host.reduce IntOp.andi x v reducesTo_S27x768_S_d0_1 h_S_) main_v10 main_c_4
  let main_v12 : IVec S_ 1 := andi main_v5 main_v11
  let main_c_5 : IVec S_ 32 := constantI S_ 32 0#32
  let main_v13 : IVec S27 32 := broadcastInDim S27 ![] bcast_S_S27 main_c_5
  let main_v14 : IVec S27 1 := cmpi .sge main_arg6 main_v13
  let main_c_6 : IVec S_ 32 := constantI S_ 32 768#32
  let main_v15 : IVec S27 32 := broadcastInDim S27 ![] bcast_S_S27 main_c_6
  fn_part1 (F := F) main_arg6 main_v12 main_v14 main_v15
-- ==== Kernel.lean ====
abbrev S768x384 : Shape := ⟨2, ![768, 384]⟩
abbrev S768 : Shape := ⟨1, ![768]⟩
abbrev S768x960 : Shape := ⟨2, ![768, 960]⟩
abbrev S27x768 : Shape := ⟨2, ![27, 768]⟩
abbrev S27 : Shape := ⟨1, ![27]⟩
abbrev S1x768 : Shape := ⟨2, ![1, 768]⟩
abbrev S27x384x960 : Shape := ⟨3, ![27, 384, 960]⟩
abbrev S1x384x960 : Shape := ⟨3, ![1, 384, 960]⟩
abbrev S96x768 : Shape := ⟨2, ![96, 768]⟩
abbrev S240x768 : Shape := ⟨2, ![240, 768]⟩
abbrev S8x768 : Shape := ⟨2, ![8, 768]⟩
abbrev S384x768 : Shape := ⟨2, ![384, 768]⟩
abbrev S960x768 : Shape := ⟨2, ![960, 768]⟩
abbrev S6x27x128 : Shape := ⟨3, ![6, 27, 128]⟩
abbrev S27x128 : Shape := ⟨2, ![27, 128]⟩
abbrev S1x27x128 : Shape := ⟨3, ![1, 27, 128]⟩
abbrev S1 : Shape := ⟨1, ![1]⟩
abbrev S1x1x128 : Shape := ⟨3, ![1, 1, 128]⟩
abbrev S1x128 : Shape := ⟨2, ![1, 128]⟩
abbrev S8x128 : Shape := ⟨2, ![8, 128]⟩
abbrev S8x128x1 : Shape := ⟨3, ![8, 128, 1]⟩
abbrev S32x128 : Shape := ⟨2, ![32, 128]⟩
abbrev S384x256 : Shape := ⟨2, ![384, 256]⟩
abbrev S960x256 : Shape := ⟨2, ![960, 256]⟩
abbrev S384x960 : Shape := ⟨2, ![384, 960]⟩
abbrev S384x512 : Shape := ⟨2, ![384, 512]⟩
abbrev S960x512 : Shape := ⟨2, ![960, 512]⟩

abbrev nBuf : Space → Nat
  | .hbm => 9
  | .vmem => 16
  | .smem => 1
  | _ => 0

abbrev bufTy : (tb : Table) → Fin (tcTables nBuf tb) → BufTy
  | .hbm, ⟨0, _⟩ => ⟨S768x384, .i8⟩
  | .hbm, ⟨1, _⟩ => ⟨S768, .f32⟩
  | .hbm, ⟨2, _⟩ => ⟨S768x960, .i8⟩
  | .hbm, ⟨3, _⟩ => ⟨S768, .f32⟩
  | .hbm, ⟨4, _⟩ => ⟨S27x768, .i32⟩
  | .hbm, ⟨5, _⟩ => ⟨S27x768, .i32⟩
  | .hbm, ⟨6, _⟩ => ⟨S1x768, .f32⟩
  | .hbm, ⟨7, _⟩ => ⟨S1x768, .f32⟩
  | .hbm, ⟨8, _⟩ => ⟨S27x384x960, .f32⟩
  | .local _ .vmem, ⟨0, _⟩ => ⟨S768x384, .i8⟩
  | .local _ .vmem, ⟨1, _⟩ => ⟨S1x768, .f32⟩
  | .local _ .vmem, ⟨2, _⟩ => ⟨S768x960, .i8⟩
  | .local _ .vmem, ⟨3, _⟩ => ⟨S1x768, .f32⟩
  | .local _ .vmem, ⟨4, _⟩ => ⟨S27x768, .i32⟩
  | .local _ .vmem, ⟨5, _⟩ => ⟨S27x768, .i32⟩
  | .local _ .vmem, ⟨6, _⟩ => ⟨S1x384x960, .f32⟩
  | .local _ .vmem, ⟨7, _⟩ => ⟨S1x384x960, .f32⟩
  | .local _ .vmem, ⟨8, _⟩ => ⟨S96x768, .i32⟩
  | .local _ .vmem, ⟨9, _⟩ => ⟨S240x768, .i32⟩
  | .local _ .vmem, ⟨10, _⟩ => ⟨S8x768, .f32⟩
  | .local _ .vmem, ⟨11, _⟩ => ⟨S8x768, .f32⟩
  | .local _ .vmem, ⟨12, _⟩ => ⟨S384x768, .bf16⟩
  | .local _ .vmem, ⟨13, _⟩ => ⟨S960x768, .fp8e5m2⟩
  | .local _ .vmem, ⟨14, _⟩ => ⟨S6x27x128, .i32⟩
  | .local _ .vmem, ⟨15, _⟩ => ⟨S6x27x128, .i32⟩
  | .local _ .smem, ⟨0, _⟩ => ⟨S27, .i32⟩
  | _, _ => ⟨S768x384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_arg6 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7

abbrev nD : Nat := 1
abbrev τ : Topo := Topo.v7x

variable {F : FTy → Type} [FloatOps F]

abbrev grid0 : Pipeline.Grid := ⟨1, ![27], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
@[reducible] def k0_t1_loop (v4 : BitVec 32) : Scf.Loop 32 :=
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_3 : BitVec 32 := 1#32
  ⟨c0_i32_2, v12, c1_i32_3⟩

def k0_mult1 (v4 : BitVec 32) (k0_t1 : Fin (k0_t1_loop v4).trips) : BitVec 32 :=
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  v25
def k0_off2 (i : grid0.Coords) (v4 : BitVec 32) (k0_t1 : Fin (k0_t1_loop v4).trips) : Fin 3 → Nat :=
  let c0_i32_2 : BitVec 32 := 0#32
  let c1_i32_3 : BitVec 32 := 1#32
  let arg17 : BitVec 32 := Scf.iv c0_i32_2 c1_i32_3 k0_t1
  let v27 : Index := Scalar.indexCast arg17
  let arg0 : BitVec 32 := BitVec.ofNat 32 (i 0).val
  let v28 : Index := Scalar.indexCast arg0
  let c0 : Index := 0#32
  ![v27.toNat, v28.toNat, 0]
def k0_off3 (v4 : BitVec 32) (k0_t1 : Fin (k0_t1_loop v4).trips) : Fin 2 → Nat :=
  let c0_93 : Index := 0#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v262 : Index := Scalar.indexCast v26
  ![0, v262.toNat]
def k0_off4 (v4 : BitVec 32) (k0_t1 : Fin (k0_t1_loop v4).trips) : Fin 2 → Nat :=
  let c32 : Index := 32#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v328 : Index := Scalar.indexCast v26
  ![32, v328.toNat]
def k0_off5 (v4 : BitVec 32) (k0_t1 : Fin (k0_t1_loop v4).trips) : Fin 2 → Nat :=
  let c64 : Index := 64#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v394 : Index := Scalar.indexCast v26
  ![64, v394.toNat]
def k0_off6 (v4 : BitVec 32) (k0_t1 : Fin (k0_t1_loop v4).trips) : Fin 2 → Nat :=
  let c96 : Index := 96#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v460 : Index := Scalar.indexCast v26
  ![96, v460.toNat]
def k0_off7 (v4 : BitVec 32) (k0_t1 : Fin (k0_t1_loop v4).trips) : Fin 2 → Nat :=
  let c128_187 : Index := 128#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v526 : Index := Scalar.indexCast v26
  ![128, v526.toNat]
def k0_off8 (v4 : BitVec 32) (k0_t1 : Fin (k0_t1_loop v4).trips) : Fin 2 → Nat :=
  let c160 : Index := 160#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v592 : Index := Scalar.indexCast v26
  ![160, v592.toNat]
def k0_off9 (v4 : BitVec 32) (k0_t1 : Fin (k0_t1_loop v4).trips) : Fin 2 → Nat :=
  let c192 : Index := 192#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v658 : Index := Scalar.indexCast v26
  ![192, v658.toNat]
def k0_off10 (v4 : BitVec 32) (k0_t1 : Fin (k0_t1_loop v4).trips) : Fin 2 → Nat :=
  let c224 : Index := 224#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v724 : Index := Scalar.indexCast v26
  ![224, v724.toNat]
def k0_off11 (v4 : BitVec 32) (k0_t1 : Fin (k0_t1_loop v4).trips) : Fin 2 → Nat :=
  let c256_281 : Index := 256#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v790 : Index := Scalar.indexCast v26
  ![256, v790.toNat]
def k0_off12 (v4 : BitVec 32) (k0_t1 : Fin (k0_t1_loop v4).trips) : Fin 2 → Nat :=
  let c288 : Index := 288#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v856 : Index := Scalar.indexCast v26
  ![288, v856.toNat]
def k0_off13 (v4 : BitVec 32) (k0_t1 : Fin (k0_t1_loop v4).trips) : Fin 2 → Nat :=
  let c320 : Index := 320#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v922 : Index := Scalar.indexCast v26
  ![320, v922.toNat]
def k0_off14 (v4 : BitVec 32) (k0_t1 : Fin (k0_t1_loop v4).trips) : Fin 2 → Nat :=
  let c352 : Index := 352#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v988 : Index := Scalar.indexCast v26
  ![352, v988.toNat]
def k0_off15 (v4 : BitVec 32) (k0_t1 : Fin (k0_t1_loop v4).trips) : Fin 2 → Nat :=
  let c0_375 : Index := 0#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v1052 : Index := Scalar.indexCast v26
  ![0, v1052.toNat]
def k0_off16 (v4 : BitVec 32) (k0_t1 : Fin (k0_t1_loop v4).trips) : Fin 2 → Nat :=
  let c32_400 : Index := 32#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v1116 : Index := Scalar.indexCast v26
  ![32, v1116.toNat]
def k0_off17 (v4 : BitVec 32) (k0_t1 : Fin (k0_t1_loop v4).trips) : Fin 2 → Nat :=
  let c64_425 : Index := 64#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v1180 : Index := Scalar.indexCast v26
  ![64, v1180.toNat]
def k0_off18 (v4 : BitVec 32) (k0_t1 : Fin (k0_t1_loop v4).trips) : Fin 2 → Nat :=
  let c96_450 : Index := 96#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v1244 : Index := Scalar.indexCast v26
  ![96, v1244.toNat]
def k0_off19 (v4 : BitVec 32) (k0_t1 : Fin (k0_t1_loop v4).trips) : Fin 2 → Nat :=
  let c128_475 : Index := 128#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v1308 : Index := Scalar.indexCast v26
  ![128, v1308.toNat]
def k0_off20 (v4 : BitVec 32) (k0_t1 : Fin (k0_t1_loop v4).trips) : Fin 2 → Nat :=
  let c160_500 : Index := 160#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v1372 : Index := Scalar.indexCast v26
  ![160, v1372.toNat]
def k0_off21 (v4 : BitVec 32) (k0_t1 : Fin (k0_t1_loop v4).trips) : Fin 2 → Nat :=
  let c192_525 : Index := 192#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v1436 : Index := Scalar.indexCast v26
  ![192, v1436.toNat]
def k0_off22 (v4 : BitVec 32) (k0_t1 : Fin (k0_t1_loop v4).trips) : Fin 2 → Nat :=
  let c224_550 : Index := 224#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v1500 : Index := Scalar.indexCast v26
  ![224, v1500.toNat]
def k0_off23 (v4 : BitVec 32) (k0_t1 : Fin (k0_t1_loop v4).trips) : Fin 2 → Nat :=
  let c256_575 : Index := 256#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v1564 : Index := Scalar.indexCast v26
  ![256, v1564.toNat]
def k0_off24 (v4 : BitVec 32) (k0_t1 : Fin (k0_t1_loop v4).trips) : Fin 2 → Nat :=
  let c288_600 : Index := 288#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v1628 : Index := Scalar.indexCast v26
  ![288, v1628.toNat]
def k0_off25 (v4 : BitVec 32) (k0_t1 : Fin (k0_t1_loop v4).trips) : Fin 2 → Nat :=
  let c320_625 : Index := 320#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v1692 : Index := Scalar.indexCast v26
  ![320, v1692.toNat]
def k0_off26 (v4 : BitVec 32) (k0_t1 : Fin (k0_t1_loop v4).trips) : Fin 2 → Nat :=
  let c352_650 : Index := 352#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v1756 : Index := Scalar.indexCast v26
  ![352, v1756.toNat]
def k0_off27 (v4 : BitVec 32) (k0_t1 : Fin (k0_t1_loop v4).trips) : Fin 2 → Nat :=
  let c384_675 : Index := 384#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v1820 : Index := Scalar.indexCast v26
  ![384, v1820.toNat]
def k0_off28 (v4 : BitVec 32) (k0_t1 : Fin (k0_t1_loop v4).trips) : Fin 2 → Nat :=
  let c416 : Index := 416#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v1884 : Index := Scalar.indexCast v26
  ![416, v1884.toNat]
def k0_off29 (v4 : BitVec 32) (k0_t1 : Fin (k0_t1_loop v4).trips) : Fin 2 → Nat :=
  let c448 : Index := 448#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v1948 : Index := Scalar.indexCast v26
  ![448, v1948.toNat]
def k0_off30 (v4 : BitVec 32) (k0_t1 : Fin (k0_t1_loop v4).trips) : Fin 2 → Nat :=
  let c480 : Index := 480#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v2012 : Index := Scalar.indexCast v26
  ![480, v2012.toNat]
def k0_off31 (v4 : BitVec 32) (k0_t1 : Fin (k0_t1_loop v4).trips) : Fin 2 → Nat :=
  let c512_769 : Index := 512#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v2076 : Index := Scalar.indexCast v26
  ![512, v2076.toNat]
def k0_off32 (v4 : BitVec 32) (k0_t1 : Fin (k0_t1_loop v4).trips) : Fin 2 → Nat :=
  let c544 : Index := 544#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v2140 : Index := Scalar.indexCast v26
  ![544, v2140.toNat]
def k0_off33 (v4 : BitVec 32) (k0_t1 : Fin (k0_t1_loop v4).trips) : Fin 2 → Nat :=
  let c576 : Index := 576#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v2204 : Index := Scalar.indexCast v26
  ![576, v2204.toNat]
def k0_off34 (v4 : BitVec 32) (k0_t1 : Fin (k0_t1_loop v4).trips) : Fin 2 → Nat :=
  let c608 : Index := 608#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v2268 : Index := Scalar.indexCast v26
  ![608, v2268.toNat]
def k0_off35 (v4 : BitVec 32) (k0_t1 : Fin (k0_t1_loop v4).trips) : Fin 2 → Nat :=
  let c640_863 : Index := 640#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v2332 : Index := Scalar.indexCast v26
  ![640, v2332.toNat]
def k0_off36 (v4 : BitVec 32) (k0_t1 : Fin (k0_t1_loop v4).trips) : Fin 2 → Nat :=
  let c672 : Index := 672#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v2396 : Index := Scalar.indexCast v26
  ![672, v2396.toNat]
def k0_off37 (v4 : BitVec 32) (k0_t1 : Fin (k0_t1_loop v4).trips) : Fin 2 → Nat :=
  let c704 : Index := 704#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v2460 : Index := Scalar.indexCast v26
  ![704, v2460.toNat]
def k0_off38 (v4 : BitVec 32) (k0_t1 : Fin (k0_t1_loop v4).trips) : Fin 2 → Nat :=
  let c736 : Index := 736#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v2524 : Index := Scalar.indexCast v26
  ![736, v2524.toNat]
def k0_off39 (v4 : BitVec 32) (k0_t1 : Fin (k0_t1_loop v4).trips) : Fin 2 → Nat :=
  let c768 : Index := 768#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v2588 : Index := Scalar.indexCast v26
  ![768, v2588.toNat]
def k0_off40 (v4 : BitVec 32) (k0_t1 : Fin (k0_t1_loop v4).trips) : Fin 2 → Nat :=
  let c800 : Index := 800#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v2652 : Index := Scalar.indexCast v26
  ![800, v2652.toNat]
def k0_off41 (v4 : BitVec 32) (k0_t1 : Fin (k0_t1_loop v4).trips) : Fin 2 → Nat :=
  let c832 : Index := 832#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v2716 : Index := Scalar.indexCast v26
  ![832, v2716.toNat]
def k0_off42 (v4 : BitVec 32) (k0_t1 : Fin (k0_t1_loop v4).trips) : Fin 2 → Nat :=
  let c864 : Index := 864#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v2780 : Index := Scalar.indexCast v26
  ![864, v2780.toNat]
def k0_off43 (v4 : BitVec 32) (k0_t1 : Fin (k0_t1_loop v4).trips) : Fin 2 → Nat :=
  let c896 : Index := 896#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v2844 : Index := Scalar.indexCast v26
  ![896, v2844.toNat]
def k0_off44 (v4 : BitVec 32) (k0_t1 : Fin (k0_t1_loop v4).trips) : Fin 2 → Nat :=
  let c928 : Index := 928#32
  let c0_i32_2 : BitVec 32 := 0#32
  let c1_i32_3 : BitVec 32 := 1#32
  let arg17 : BitVec 32 := Scf.iv c0_i32_2 c1_i32_3 k0_t1
  let c128_i32 : BitVec 32 := 128#32
  let v25 : BitVec 32 := Scalar.muli arg17 c128_i32
  let v26 : BitVec 32 := v25
  let v2908 : Index := Scalar.indexCast v26
  ![928, v2908.toNat]
@[reducible] def k0_t2_loop (v4 : BitVec 32) : Scf.Loop 32 :=
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let v9 : BitVec 32 := Scalar.addi c0_i32_2 v8
  let c1_i32_4 : BitVec 32 := 1#32
  ⟨v12, v9, c1_i32_4⟩
def k0_mult2 (v4 : BitVec 32) (k0_t2 : Fin (k0_t2_loop v4).trips) : BitVec 32 :=
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  v25
def k0_off45 (i : grid0.Coords) (v4 : BitVec 32) (k0_t2 : Fin (k0_t2_loop v4).trips) : Fin 3 → Nat :=
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let v27 : Index := Scalar.indexCast arg17
  let arg0 : BitVec 32 := BitVec.ofNat 32 (i 0).val
  let v28 : Index := Scalar.indexCast arg0
  let c0 : Index := 0#32
  ![v27.toNat, v28.toNat, 0]
def k0_off46 (v4 : BitVec 32) (k0_t2 : Fin (k0_t2_loop v4).trips) : Fin 2 → Nat :=
  let c0_93 : Index := 0#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v262 : Index := Scalar.indexCast v26
  ![0, v262.toNat]
def k0_off47 (v4 : BitVec 32) (k0_t2 : Fin (k0_t2_loop v4).trips) : Fin 2 → Nat :=
  let c32 : Index := 32#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v328 : Index := Scalar.indexCast v26
  ![32, v328.toNat]
def k0_off48 (v4 : BitVec 32) (k0_t2 : Fin (k0_t2_loop v4).trips) : Fin 2 → Nat :=
  let c64 : Index := 64#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v394 : Index := Scalar.indexCast v26
  ![64, v394.toNat]
def k0_off49 (v4 : BitVec 32) (k0_t2 : Fin (k0_t2_loop v4).trips) : Fin 2 → Nat :=
  let c96 : Index := 96#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v460 : Index := Scalar.indexCast v26
  ![96, v460.toNat]
def k0_off50 (v4 : BitVec 32) (k0_t2 : Fin (k0_t2_loop v4).trips) : Fin 2 → Nat :=
  let c128_187 : Index := 128#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v526 : Index := Scalar.indexCast v26
  ![128, v526.toNat]
def k0_off51 (v4 : BitVec 32) (k0_t2 : Fin (k0_t2_loop v4).trips) : Fin 2 → Nat :=
  let c160 : Index := 160#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v592 : Index := Scalar.indexCast v26
  ![160, v592.toNat]
def k0_off52 (v4 : BitVec 32) (k0_t2 : Fin (k0_t2_loop v4).trips) : Fin 2 → Nat :=
  let c192 : Index := 192#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v658 : Index := Scalar.indexCast v26
  ![192, v658.toNat]
def k0_off53 (v4 : BitVec 32) (k0_t2 : Fin (k0_t2_loop v4).trips) : Fin 2 → Nat :=
  let c224 : Index := 224#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v724 : Index := Scalar.indexCast v26
  ![224, v724.toNat]
def k0_off54 (v4 : BitVec 32) (k0_t2 : Fin (k0_t2_loop v4).trips) : Fin 2 → Nat :=
  let c256_281 : Index := 256#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v790 : Index := Scalar.indexCast v26
  ![256, v790.toNat]
def k0_off55 (v4 : BitVec 32) (k0_t2 : Fin (k0_t2_loop v4).trips) : Fin 2 → Nat :=
  let c288 : Index := 288#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v856 : Index := Scalar.indexCast v26
  ![288, v856.toNat]
def k0_off56 (v4 : BitVec 32) (k0_t2 : Fin (k0_t2_loop v4).trips) : Fin 2 → Nat :=
  let c320 : Index := 320#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v922 : Index := Scalar.indexCast v26
  ![320, v922.toNat]
def k0_off57 (v4 : BitVec 32) (k0_t2 : Fin (k0_t2_loop v4).trips) : Fin 2 → Nat :=
  let c352 : Index := 352#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v988 : Index := Scalar.indexCast v26
  ![352, v988.toNat]
def k0_off58 (v4 : BitVec 32) (k0_t2 : Fin (k0_t2_loop v4).trips) : Fin 2 → Nat :=
  let c0_375 : Index := 0#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v1052 : Index := Scalar.indexCast v26
  ![0, v1052.toNat]
def k0_off59 (v4 : BitVec 32) (k0_t2 : Fin (k0_t2_loop v4).trips) : Fin 2 → Nat :=
  let c32_400 : Index := 32#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v1116 : Index := Scalar.indexCast v26
  ![32, v1116.toNat]
def k0_off60 (v4 : BitVec 32) (k0_t2 : Fin (k0_t2_loop v4).trips) : Fin 2 → Nat :=
  let c64_425 : Index := 64#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v1180 : Index := Scalar.indexCast v26
  ![64, v1180.toNat]
def k0_off61 (v4 : BitVec 32) (k0_t2 : Fin (k0_t2_loop v4).trips) : Fin 2 → Nat :=
  let c96_450 : Index := 96#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v1244 : Index := Scalar.indexCast v26
  ![96, v1244.toNat]
def k0_off62 (v4 : BitVec 32) (k0_t2 : Fin (k0_t2_loop v4).trips) : Fin 2 → Nat :=
  let c128_475 : Index := 128#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v1308 : Index := Scalar.indexCast v26
  ![128, v1308.toNat]
def k0_off63 (v4 : BitVec 32) (k0_t2 : Fin (k0_t2_loop v4).trips) : Fin 2 → Nat :=
  let c160_500 : Index := 160#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v1372 : Index := Scalar.indexCast v26
  ![160, v1372.toNat]
def k0_off64 (v4 : BitVec 32) (k0_t2 : Fin (k0_t2_loop v4).trips) : Fin 2 → Nat :=
  let c192_525 : Index := 192#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v1436 : Index := Scalar.indexCast v26
  ![192, v1436.toNat]
def k0_off65 (v4 : BitVec 32) (k0_t2 : Fin (k0_t2_loop v4).trips) : Fin 2 → Nat :=
  let c224_550 : Index := 224#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v1500 : Index := Scalar.indexCast v26
  ![224, v1500.toNat]
def k0_off66 (v4 : BitVec 32) (k0_t2 : Fin (k0_t2_loop v4).trips) : Fin 2 → Nat :=
  let c256_575 : Index := 256#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v1564 : Index := Scalar.indexCast v26
  ![256, v1564.toNat]
def k0_off67 (v4 : BitVec 32) (k0_t2 : Fin (k0_t2_loop v4).trips) : Fin 2 → Nat :=
  let c288_600 : Index := 288#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v1628 : Index := Scalar.indexCast v26
  ![288, v1628.toNat]
def k0_off68 (v4 : BitVec 32) (k0_t2 : Fin (k0_t2_loop v4).trips) : Fin 2 → Nat :=
  let c320_625 : Index := 320#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v1692 : Index := Scalar.indexCast v26
  ![320, v1692.toNat]
def k0_off69 (v4 : BitVec 32) (k0_t2 : Fin (k0_t2_loop v4).trips) : Fin 2 → Nat :=
  let c352_650 : Index := 352#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v1756 : Index := Scalar.indexCast v26
  ![352, v1756.toNat]
def k0_off70 (v4 : BitVec 32) (k0_t2 : Fin (k0_t2_loop v4).trips) : Fin 2 → Nat :=
  let c384_675 : Index := 384#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v1820 : Index := Scalar.indexCast v26
  ![384, v1820.toNat]
def k0_off71 (v4 : BitVec 32) (k0_t2 : Fin (k0_t2_loop v4).trips) : Fin 2 → Nat :=
  let c416 : Index := 416#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v1884 : Index := Scalar.indexCast v26
  ![416, v1884.toNat]
def k0_off72 (v4 : BitVec 32) (k0_t2 : Fin (k0_t2_loop v4).trips) : Fin 2 → Nat :=
  let c448 : Index := 448#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v1948 : Index := Scalar.indexCast v26
  ![448, v1948.toNat]
def k0_off73 (v4 : BitVec 32) (k0_t2 : Fin (k0_t2_loop v4).trips) : Fin 2 → Nat :=
  let c480 : Index := 480#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v2012 : Index := Scalar.indexCast v26
  ![480, v2012.toNat]
def k0_off74 (v4 : BitVec 32) (k0_t2 : Fin (k0_t2_loop v4).trips) : Fin 2 → Nat :=
  let c512_769 : Index := 512#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v2076 : Index := Scalar.indexCast v26
  ![512, v2076.toNat]
def k0_off75 (v4 : BitVec 32) (k0_t2 : Fin (k0_t2_loop v4).trips) : Fin 2 → Nat :=
  let c544 : Index := 544#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v2140 : Index := Scalar.indexCast v26
  ![544, v2140.toNat]
def k0_off76 (v4 : BitVec 32) (k0_t2 : Fin (k0_t2_loop v4).trips) : Fin 2 → Nat :=
  let c576 : Index := 576#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v2204 : Index := Scalar.indexCast v26
  ![576, v2204.toNat]
def k0_off77 (v4 : BitVec 32) (k0_t2 : Fin (k0_t2_loop v4).trips) : Fin 2 → Nat :=
  let c608 : Index := 608#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v2268 : Index := Scalar.indexCast v26
  ![608, v2268.toNat]
def k0_off78 (v4 : BitVec 32) (k0_t2 : Fin (k0_t2_loop v4).trips) : Fin 2 → Nat :=
  let c640_863 : Index := 640#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v2332 : Index := Scalar.indexCast v26
  ![640, v2332.toNat]
def k0_off79 (v4 : BitVec 32) (k0_t2 : Fin (k0_t2_loop v4).trips) : Fin 2 → Nat :=
  let c672 : Index := 672#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v2396 : Index := Scalar.indexCast v26
  ![672, v2396.toNat]
def k0_off80 (v4 : BitVec 32) (k0_t2 : Fin (k0_t2_loop v4).trips) : Fin 2 → Nat :=
  let c704 : Index := 704#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v2460 : Index := Scalar.indexCast v26
  ![704, v2460.toNat]
def k0_off81 (v4 : BitVec 32) (k0_t2 : Fin (k0_t2_loop v4).trips) : Fin 2 → Nat :=
  let c736 : Index := 736#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v2524 : Index := Scalar.indexCast v26
  ![736, v2524.toNat]
def k0_off82 (v4 : BitVec 32) (k0_t2 : Fin (k0_t2_loop v4).trips) : Fin 2 → Nat :=
  let c768 : Index := 768#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v2588 : Index := Scalar.indexCast v26
  ![768, v2588.toNat]
def k0_off83 (v4 : BitVec 32) (k0_t2 : Fin (k0_t2_loop v4).trips) : Fin 2 → Nat :=
  let c800 : Index := 800#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v2652 : Index := Scalar.indexCast v26
  ![800, v2652.toNat]
def k0_off84 (v4 : BitVec 32) (k0_t2 : Fin (k0_t2_loop v4).trips) : Fin 2 → Nat :=
  let c832 : Index := 832#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v2716 : Index := Scalar.indexCast v26
  ![832, v2716.toNat]
def k0_off85 (v4 : BitVec 32) (k0_t2 : Fin (k0_t2_loop v4).trips) : Fin 2 → Nat :=
  let c864 : Index := 864#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v2780 : Index := Scalar.indexCast v26
  ![864, v2780.toNat]
def k0_off86 (v4 : BitVec 32) (k0_t2 : Fin (k0_t2_loop v4).trips) : Fin 2 → Nat :=
  let c896 : Index := 896#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v2844 : Index := Scalar.indexCast v26
  ![896, v2844.toNat]
def k0_off87 (v4 : BitVec 32) (k0_t2 : Fin (k0_t2_loop v4).trips) : Fin 2 → Nat :=
  let c928 : Index := 928#32
  let c0_i32_2 : BitVec 32 := 0#32
  let c255_i32 : BitVec 32 := 255#32
  let v5 : BitVec 32 := Scalar.addi v4 c255_i32
  let c8_i32 : BitVec 32 := 8#32
  let v6 : BitVec 32 := Scalar.shrui v5 c8_i32
  let c2_i32 : BitVec 32 := 2#32
  let v7 : BitVec 32 := Scalar.muli v6 c2_i32
  let v8 : BitVec 32 := Scalar.subi v7 c0_i32_2
  let c1_i32 : BitVec 32 := 1#32
  let v10 : BitVec 32 := Scalar.divsi v8 c1_i32
  let v11 : BitVec 32 := Scalar.muli v10 c1_i32
  let v12 : BitVec 32 := Scalar.addi c0_i32_2 v11
  let c1_i32_4 : BitVec 32 := 1#32
  let arg17 : BitVec 32 := Scf.iv v12 c1_i32_4 k0_t2
  let c128_i32 : BitVec 32 := 128#32
  let v25 : BitVec 32 := Scalar.muli arg17 c128_i32
  let v26 : BitVec 32 := v25
  let v2908 : Index := Scalar.indexCast v26
  ![928, v2908.toNat]

def k0_chk1_0 (i : grid0.Coords) (v4 : BitVec 32) : Prop :=
  ((k0_t1_loop v4).OK) ∧
  (∀ k0_t1 : Fin (k0_t1_loop v4).trips, 128 ∣ (k0_mult1 v4 k0_t1).toNat) ∧
  (∀ k0_t1 : Fin (k0_t1_loop v4).trips, ∀ a, (k0_off2 i v4 k0_t1) a + S1x1x128.size a ≤ S6x27x128.size a) ∧
  (∀ k0_t1 : Fin (k0_t1_loop v4).trips, ∀ a, (k0_off3 v4 k0_t1) a + S32x128.size a ≤ S384x768.size a) ∧
  (∀ k0_t1 : Fin (k0_t1_loop v4).trips, ∀ (hinb : ∀ a, (k0_off3 v4 k0_t1) a + S32x128.size a ≤ S384x768.size a), (Rect.unit (s := S384x768) (k0_off3 v4 k0_t1) S32x128.size hinb).PackedRows (EltTy.packing .bf16)) ∧
  (∀ k0_t1 : Fin (k0_t1_loop v4).trips, ∀ a, (k0_off4 v4 k0_t1) a + S32x128.size a ≤ S384x768.size a) ∧
  (∀ k0_t1 : Fin (k0_t1_loop v4).trips, ∀ (hinb : ∀ a, (k0_off4 v4 k0_t1) a + S32x128.size a ≤ S384x768.size a), (Rect.unit (s := S384x768) (k0_off4 v4 k0_t1) S32x128.size hinb).PackedRows (EltTy.packing .bf16)) ∧
  (∀ k0_t1 : Fin (k0_t1_loop v4).trips, ∀ a, (k0_off5 v4 k0_t1) a + S32x128.size a ≤ S384x768.size a) ∧
  (∀ k0_t1 : Fin (k0_t1_loop v4).trips, ∀ (hinb : ∀ a, (k0_off5 v4 k0_t1) a + S32x128.size a ≤ S384x768.size a), (Rect.unit (s := S384x768) (k0_off5 v4 k0_t1) S32x128.size hinb).PackedRows (EltTy.packing .bf16)) ∧
  (∀ k0_t1 : Fin (k0_t1_loop v4).trips, ∀ a, (k0_off6 v4 k0_t1) a + S32x128.size a ≤ S384x768.size a) ∧
  (∀ k0_t1 : Fin (k0_t1_loop v4).trips, ∀ (hinb : ∀ a, (k0_off6 v4 k0_t1) a + S32x128.size a ≤ S384x768.size a), (Rect.unit (s := S384x768) (k0_off6 v4 k0_t1) S32x128.size hinb).PackedRows (EltTy.packing .bf16)) ∧
  (∀ k0_t1 : Fin (k0_t1_loop v4).trips, ∀ a, (k0_off7 v4 k0_t1) a + S32x128.size a ≤ S384x768.size a) ∧
  (∀ k0_t1 : Fin (k0_t1_loop v4).trips, ∀ (hinb : ∀ a, (k0_off7 v4 k0_t1) a + S32x128.size a ≤ S384x768.size a), (Rect.unit (s := S384x768) (k0_off7 v4 k0_t1) S32x128.size hinb).PackedRows (EltTy.packing .bf16)) ∧
  (∀ k0_t1 : Fin (k0_t1_loop v4).trips, ∀ a, (k0_off8 v4 k0_t1) a + S32x128.size a ≤ S384x768.size a) ∧
  (∀ k0_t1 : Fin (k0_t1_loop v4).trips, ∀ (hinb : ∀ a, (k0_off8 v4 k0_t1) a + S32x128.size a ≤ S384x768.size a), (Rect.unit (s := S384x768) (k0_off8 v4 k0_t1) S32x128.size hinb).PackedRows (EltTy.packing .bf16)) ∧
  (∀ k0_t1 : Fin (k0_t1_loop v4).trips, ∀ a, (k0_off9 v4 k0_t1) a + S32x128.size a ≤ S384x768.size a) ∧
  (∀ k0_t1 : Fin (k0_t1_loop v4).trips, ∀ (hinb : ∀ a, (k0_off9 v4 k0_t1) a + S32x128.size a ≤ S384x768.size a), (Rect.unit (s := S384x768) (k0_off9 v4 k0_t1) S32x128.size hinb).PackedRows (EltTy.packing .bf16)) ∧
  (∀ k0_t1 : Fin (k0_t1_loop v4).trips, ∀ a, (k0_off10 v4 k0_t1) a + S32x128.size a ≤ S384x768.size a) ∧
  (∀ k0_t1 : Fin (k0_t1_loop v4).trips, ∀ (hinb : ∀ a, (k0_off10 v4 k0_t1) a + S32x128.size a ≤ S384x768.size a), (Rect.unit (s := S384x768) (k0_off10 v4 k0_t1) S32x128.size hinb).PackedRows (EltTy.packing .bf16)) ∧
  (∀ k0_t1 : Fin (k0_t1_loop v4).trips, ∀ a, (k0_off11 v4 k0_t1) a + S32x128.size a ≤ S384x768.size a) ∧
  (∀ k0_t1 : Fin (k0_t1_loop v4).trips, ∀ (hinb : ∀ a, (k0_off11 v4 k0_t1) a + S32x128.size a ≤ S384x768.size a), (Rect.unit (s := S384x768) (k0_off11 v4 k0_t1) S32x128.size hinb).PackedRows (EltTy.packing .bf16)) ∧
  (∀ k0_t1 : Fin (k0_t1_loop v4).trips, ∀ a, (k0_off12 v4 k0_t1) a + S32x128.size a ≤ S384x768.size a) ∧
  (∀ k0_t1 : Fin (k0_t1_loop v4).trips, ∀ (hinb : ∀ a, (k0_off12 v4 k0_t1) a + S32x128.size a ≤ S384x768.size a), (Rect.unit (s := S384x768) (k0_off12 v4 k0_t1) S32x128.size hinb).PackedRows (EltTy.packing .bf16)) ∧
  (∀ k0_t1 : Fin (k0_t1_loop v4).trips, ∀ a, (k0_off13 v4 k0_t1) a + S32x128.size a ≤ S384x768.size a) ∧
  (∀ k0_t1 : Fin (k0_t1_loop v4).trips, ∀ (hinb : ∀ a, (k0_off13 v4 k0_t1) a + S32x128.size a ≤ S384x768.size a), (Rect.unit (s := S384x768) (k0_off13 v4 k0_t1) S32x128.size hinb).PackedRows (EltTy.packing .bf16)) ∧
  (∀ k0_t1 : Fin (k0_t1_loop v4).trips, ∀ a, (k0_off14 v4 k0_t1) a + S32x128.size a ≤ S384x768.size a) ∧
  (∀ k0_t1 : Fin (k0_t1_loop v4).trips, ∀ (hinb : ∀ a, (k0_off14 v4 k0_t1) a + S32x128.size a ≤ S384x768.size a), (Rect.unit (s := S384x768) (k0_off14 v4 k0_t1) S32x128.size hinb).PackedRows (EltTy.packing .bf16)) ∧
  (∀ k0_t1 : Fin (k0_t1_loop v4).trips, ∀ a, (k0_off15 v4 k0_t1) a + S32x128.size a ≤ S960x768.size a) ∧
  (∀ k0_t1 : Fin (k0_t1_loop v4).trips, ∀ (hinb : ∀ a, (k0_off15 v4 k0_t1) a + S32x128.size a ≤ S960x768.size a), (Rect.unit (s := S960x768) (k0_off15 v4 k0_t1) S32x128.size hinb).PackedRows (EltTy.packing .fp8e5m2)) ∧
  (∀ k0_t1 : Fin (k0_t1_loop v4).trips, ∀ a, (k0_off16 v4 k0_t1) a + S32x128.size a ≤ S960x768.size a) ∧
  (∀ k0_t1 : Fin (k0_t1_loop v4).trips, ∀ (hinb : ∀ a, (k0_off16 v4 k0_t1) a + S32x128.size a ≤ S960x768.size a), (Rect.unit (s := S960x768) (k0_off16 v4 k0_t1) S32x128.size hinb).PackedRows (EltTy.packing .fp8e5m2)) ∧
  (∀ k0_t1 : Fin (k0_t1_loop v4).trips, ∀ a, (k0_off17 v4 k0_t1) a + S32x128.size a ≤ S960x768.size a)
def k0_chk1_1 (i : grid0.Coords) (v4 : BitVec 32) : Prop :=
  (∀ k0_t1 : Fin (k0_t1_loop v4).trips, ∀ (hinb : ∀ a, (k0_off17 v4 k0_t1) a + S32x128.size a ≤ S960x768.size a), (Rect.unit (s := S960x768) (k0_off17 v4 k0_t1) S32x128.size hinb).PackedRows (EltTy.packing .fp8e5m2)) ∧
  (∀ k0_t1 : Fin (k0_t1_loop v4).trips, ∀ a, (k0_off18 v4 k0_t1) a + S32x128.size a ≤ S960x768.size a) ∧
  (∀ k0_t1 : Fin (k0_t1_loop v4).trips, ∀ (hinb : ∀ a, (k0_off18 v4 k0_t1) a + S32x128.size a ≤ S960x768.size a), (Rect.unit (s := S960x768) (k0_off18 v4 k0_t1) S32x128.size hinb).PackedRows (EltTy.packing .fp8e5m2)) ∧
  (∀ k0_t1 : Fin (k0_t1_loop v4).trips, ∀ a, (k0_off19 v4 k0_t1) a + S32x128.size a ≤ S960x768.size a) ∧
  (∀ k0_t1 : Fin (k0_t1_loop v4).trips, ∀ (hinb : ∀ a, (k0_off19 v4 k0_t1) a + S32x128.size a ≤ S960x768.size a), (Rect.unit (s := S960x768) (k0_off19 v4 k0_t1) S32x128.size hinb).PackedRows (EltTy.packing .fp8e5m2)) ∧
  (∀ k0_t1 : Fin (k0_t1_loop v4).trips, ∀ a, (k0_off20 v4 k0_t1) a + S32x128.size a ≤ S960x768.size a) ∧
  (∀ k0_t1 : Fin (k0_t1_loop v4).trips, ∀ (hinb : ∀ a, (k0_off20 v4 k0_t1) a + S32x128.size a ≤ S960x768.size a), (Rect.unit (s := S960x768) (k0_off20 v4 k0_t1) S32x128.size hinb).PackedRows (EltTy.packing .fp8e5m2)) ∧
  (∀ k0_t1 : Fin (k0_t1_loop v4).trips, ∀ a, (k0_off21 v4 k0_t1) a + S32x128.size a ≤ S960x768.size a) ∧
  (∀ k0_t1 : Fin (k0_t1_loop v4).trips, ∀ (hinb : ∀ a, (k0_off21 v4 k0_t1) a + S32x128.size a ≤ S960x768.size a), (Rect.unit (s := S960x768) (k0_off21 v4 k0_t1) S32x128.size hinb).PackedRows (EltTy.packing .fp8e5m2)) ∧
  (∀ k0_t1 : Fin (k0_t1_loop v4).trips, ∀ a, (k0_off22 v4 k0_t1) a + S32x128.size a ≤ S960x768.size a) ∧
  (∀ k0_t1 : Fin (k0_t1_loop v4).trips, ∀ (hinb : ∀ a, (k0_off22 v4 k0_t1) a + S32x128.size a ≤ S960x768.size a), (Rect.unit (s := S960x768) (k0_off22 v4 k0_t1) S32x128.size hinb).PackedRows (EltTy.packing .fp8e5m2)) ∧
  (∀ k0_t1 : Fin (k0_t1_loop v4).trips, ∀ a, (k0_off23 v4 k0_t1) a + S32x128.size a ≤ S960x768.size a) ∧
  (∀ k0_t1 : Fin (k0_t1_loop v4).trips, ∀ (hinb : ∀ a, (k0_off23 v4 k0_t1) a + S32x128.size a ≤ S960x768.size a), (Rect.unit (s := S960x768) (k0_off23 v4 k0_t1) S32x128.size hinb).PackedRows (EltTy.packing .fp8e5m2)) ∧
  (∀ k0_t1 : Fin (k0_t1_loop v4).trips, ∀ a, (k0_off24 v4 k0_t1) a + S32x128.size a ≤ S960x768.size a) ∧
  (∀ k0_t1 : Fin (k0_t1_loop v4).trips, ∀ (hinb : ∀ a, (k0_off24 v4 k0_t1) a + S32x128.size a ≤ S960x768.size a), (Rect.unit (s := S960x768) (k0_off24 v4 k0_t1) S32x128.size hinb).PackedRows (EltTy.packing .fp8e5m2)) ∧
  (∀ k0_t1 : Fin (k0_t1_loop v4).trips, ∀ a, (k0_off25 v4 k0_t1) a + S32x128.size a ≤ S960x768.size a) ∧
  (∀ k0_t1 : Fin (k0_t1_loop v4).trips, ∀ (hinb : ∀ a, (k0_off25 v4 k0_t1) a + S32x128.size a ≤ S960x768.size a), (Rect.unit (s := S960x768) (k0_off25 v4 k0_t1) S32x128.size hinb).PackedRows (EltTy.packing .fp8e5m2)) ∧
  (∀ k0_t1 : Fin (k0_t1_loop v4).trips, ∀ a, (k0_off26 v4 k0_t1) a + S32x128.size a ≤ S960x768.size a) ∧
  (∀ k0_t1 : Fin (k0_t1_loop v4).trips, ∀ (hinb : ∀ a, (k0_off26 v4 k0_t1) a + S32x128.size a ≤ S960x768.size a), (Rect.unit (s := S960x768) (k0_off26 v4 k0_t1) S32x128.size hinb).PackedRows (EltTy.packing .fp8e5m2)) ∧
  (∀ k0_t1 : Fin (k0_t1_loop v4).trips, ∀ a, (k0_off27 v4 k0_t1) a + S32x128.size a ≤ S960x768.size a) ∧
  (∀ k0_t1 : Fin (k0_t1_loop v4).trips, ∀ (hinb : ∀ a, (k0_off27 v4 k0_t1) a + S32x128.size a ≤ S960x768.size a), (Rect.unit (s := S960x768) (k0_off27 v4 k0_t1) S32x128.size hinb).PackedRows (EltTy.packing .fp8e5m2)) ∧
  (∀ k0_t1 : Fin (k0_t1_loop v4).trips, ∀ a, (k0_off28 v4 k0_t1) a + S32x128.size a ≤ S960x768.size a) ∧
  (∀ k0_t1 : Fin (k0_t1_loop v4).trips, ∀ (hinb : ∀ a, (k0_off28 v4 k0_t1) a + S32x128.size a ≤ S960x768.size a), (Rect.unit (s := S960x768) (k0_off28 v4 k0_t1) S32x128.size hinb).PackedRows (EltTy.packing .fp8e5m2)) ∧
  (∀ k0_t1 : Fin (k0_t1_loop v4).trips, ∀ a, (k0_off29 v4 k0_t1) a + S32x128.size a ≤ S960x768.size a) ∧
  (∀ k0_t1 : Fin (k0_t1_loop v4).trips, ∀ (hinb : ∀ a, (k0_off29 v4 k0_t1) a + S32x128.size a ≤ S960x768.size a), (Rect.unit (s := S960x768) (k0_off29 v4 k0_t1) S32x128.size hinb).PackedRows (EltTy.packing .fp8e5m2)) ∧
  (∀ k0_t1 : Fin (k0_t1_loop v4).trips, ∀ a, (k0_off30 v4 k0_t1) a + S32x128.size a ≤ S960x768.size a) ∧
  (∀ k0_t1 : Fin (k0_t1_loop v4).trips, ∀ (hinb : ∀ a, (k0_off30 v4 k0_t1) a + S32x128.size a ≤ S960x768.size a), (Rect.unit (s := S960x768) (k0_off30 v4 k0_t1) S32x128.size hinb).PackedRows (EltTy.packing .fp8e5m2)) ∧
  (∀ k0_t1 : Fin (k0_t1_loop v4).trips, ∀ a, (k0_off31 v4 k0_t1) a + S32x128.size a ≤ S960x768.size a) ∧
  (∀ k0_t1 : Fin (k0_t1_loop v4).trips, ∀ (hinb : ∀ a, (k0_off31 v4 k0_t1) a + S32x128.size a ≤ S960x768.size a), (Rect.unit (s := S960x768) (k0_off31 v4 k0_t1) S32x128.size hinb).PackedRows (EltTy.packing .fp8e5m2)) ∧
  (∀ k0_t1 : Fin (k0_t1_loop v4).trips, ∀ a, (k0_off32 v4 k0_t1) a + S32x128.size a ≤ S960x768.size a) ∧
  (∀ k0_t1 : Fin (k0_t1_loop v4).trips, ∀ (hinb : ∀ a, (k0_off32 v4 k0_t1) a + S32x128.size a ≤ S960x768.size a), (Rect.unit (s := S960x768) (k0_off32 v4 k0_t1) S32x128.size hinb).PackedRows (EltTy.packing .fp8e5m2)) ∧
  (∀ k0_t1 : Fin (k0_t1_loop v4).trips, ∀ a, (k0_off33 v4 k0_t1) a + S32x128.size a ≤ S960x768.size a)
def k0_chk1_2 (i : grid0.Coords) (v4 : BitVec 32) : Prop :=
  (∀ k0_t1 : Fin (k0_t1_loop v4).trips, ∀ (hinb : ∀ a, (k0_off33 v4 k0_t1) a + S32x128.size a ≤ S960x768.size a), (Rect.unit (s := S960x768) (k0_off33 v4 k0_t1) S32x128.size hinb).PackedRows (EltTy.packing .fp8e5m2)) ∧
  (∀ k0_t1 : Fin (k0_t1_loop v4).trips, ∀ a, (k0_off34 v4 k0_t1) a + S32x128.size a ≤ S960x768.size a) ∧
  (∀ k0_t1 : Fin (k0_t1_loop v4).trips, ∀ (hinb : ∀ a, (k0_off34 v4 k0_t1) a + S32x128.size a ≤ S960x768.size a), (Rect.unit (s := S960x768) (k0_off34 v4 k0_t1) S32x128.size hinb).PackedRows (EltTy.packing .fp8e5m2)) ∧
  (∀ k0_t1 : Fin (k0_t1_loop v4).trips, ∀ a, (k0_off35 v4 k0_t1) a + S32x128.size a ≤ S960x768.size a) ∧
  (∀ k0_t1 : Fin (k0_t1_loop v4).trips, ∀ (hinb : ∀ a, (k0_off35 v4 k0_t1) a + S32x128.size a ≤ S960x768.size a), (Rect.unit (s := S960x768) (k0_off35 v4 k0_t1) S32x128.size hinb).PackedRows (EltTy.packing .fp8e5m2)) ∧
  (∀ k0_t1 : Fin (k0_t1_loop v4).trips, ∀ a, (k0_off36 v4 k0_t1) a + S32x128.size a ≤ S960x768.size a) ∧
  (∀ k0_t1 : Fin (k0_t1_loop v4).trips, ∀ (hinb : ∀ a, (k0_off36 v4 k0_t1) a + S32x128.size a ≤ S960x768.size a), (Rect.unit (s := S960x768) (k0_off36 v4 k0_t1) S32x128.size hinb).PackedRows (EltTy.packing .fp8e5m2)) ∧
  (∀ k0_t1 : Fin (k0_t1_loop v4).trips, ∀ a, (k0_off37 v4 k0_t1) a + S32x128.size a ≤ S960x768.size a) ∧
  (∀ k0_t1 : Fin (k0_t1_loop v4).trips, ∀ (hinb : ∀ a, (k0_off37 v4 k0_t1) a + S32x128.size a ≤ S960x768.size a), (Rect.unit (s := S960x768) (k0_off37 v4 k0_t1) S32x128.size hinb).PackedRows (EltTy.packing .fp8e5m2)) ∧
  (∀ k0_t1 : Fin (k0_t1_loop v4).trips, ∀ a, (k0_off38 v4 k0_t1) a + S32x128.size a ≤ S960x768.size a) ∧
  (∀ k0_t1 : Fin (k0_t1_loop v4).trips, ∀ (hinb : ∀ a, (k0_off38 v4 k0_t1) a + S32x128.size a ≤ S960x768.size a), (Rect.unit (s := S960x768) (k0_off38 v4 k0_t1) S32x128.size hinb).PackedRows (EltTy.packing .fp8e5m2)) ∧
  (∀ k0_t1 : Fin (k0_t1_loop v4).trips, ∀ a, (k0_off39 v4 k0_t1) a + S32x128.size a ≤ S960x768.size a) ∧
  (∀ k0_t1 : Fin (k0_t1_loop v4).trips, ∀ (hinb : ∀ a, (k0_off39 v4 k0_t1) a + S32x128.size a ≤ S960x768.size a), (Rect.unit (s := S960x768) (k0_off39 v4 k0_t1) S32x128.size hinb).PackedRows (EltTy.packing .fp8e5m2)) ∧
  (∀ k0_t1 : Fin (k0_t1_loop v4).trips, ∀ a, (k0_off40 v4 k0_t1) a + S32x128.size a ≤ S960x768.size a) ∧
  (∀ k0_t1 : Fin (k0_t1_loop v4).trips, ∀ (hinb : ∀ a, (k0_off40 v4 k0_t1) a + S32x128.size a ≤ S960x768.size a), (Rect.unit (s := S960x768) (k0_off40 v4 k0_t1) S32x128.size hinb).PackedRows (EltTy.packing .fp8e5m2)) ∧
  (∀ k0_t1 : Fin (k0_t1_loop v4).trips, ∀ a, (k0_off41 v4 k0_t1) a + S32x128.size a ≤ S960x768.size a) ∧
  (∀ k0_t1 : Fin (k0_t1_loop v4).trips, ∀ (hinb : ∀ a, (k0_off41 v4 k0_t1) a + S32x128.size a ≤ S960x768.size a), (Rect.unit (s := S960x768) (k0_off41 v4 k0_t1) S32x128.size hinb).PackedRows (EltTy.packing .fp8e5m2)) ∧
  (∀ k0_t1 : Fin (k0_t1_loop v4).trips, ∀ a, (k0_off42 v4 k0_t1) a + S32x128.size a ≤ S960x768.size a) ∧
  (∀ k0_t1 : Fin (k0_t1_loop v4).trips, ∀ (hinb : ∀ a, (k0_off42 v4 k0_t1) a + S32x128.size a ≤ S960x768.size a), (Rect.unit (s := S960x768) (k0_off42 v4 k0_t1) S32x128.size hinb).PackedRows (EltTy.packing .fp8e5m2)) ∧
  (∀ k0_t1 : Fin (k0_t1_loop v4).trips, ∀ a, (k0_off43 v4 k0_t1) a + S32x128.size a ≤ S960x768.size a) ∧
  (∀ k0_t1 : Fin (k0_t1_loop v4).trips, ∀ (hinb : ∀ a, (k0_off43 v4 k0_t1) a + S32x128.size a ≤ S960x768.size a), (Rect.unit (s := S960x768) (k0_off43 v4 k0_t1) S32x128.size hinb).PackedRows (EltTy.packing .fp8e5m2)) ∧
  (∀ k0_t1 : Fin (k0_t1_loop v4).trips, ∀ a, (k0_off44 v4 k0_t1) a + S32x128.size a ≤ S960x768.size a) ∧
  (∀ k0_t1 : Fin (k0_t1_loop v4).trips, ∀ (hinb : ∀ a, (k0_off44 v4 k0_t1) a + S32x128.size a ≤ S960x768.size a), (Rect.unit (s := S960x768) (k0_off44 v4 k0_t1) S32x128.size hinb).PackedRows (EltTy.packing .fp8e5m2)) ∧
  ((k0_t2_loop v4).OK) ∧
  (∀ k0_t2 : Fin (k0_t2_loop v4).trips, 128 ∣ (k0_mult2 v4 k0_t2).toNat) ∧
  (∀ k0_t2 : Fin (k0_t2_loop v4).trips, ∀ a, (k0_off45 i v4 k0_t2) a + S1x1x128.size a ≤ S6x27x128.size a) ∧
  (∀ k0_t2 : Fin (k0_t2_loop v4).trips, ∀ a, (k0_off46 v4 k0_t2) a + S32x128.size a ≤ S384x768.size a) ∧
  (∀ k0_t2 : Fin (k0_t2_loop v4).trips, ∀ (hinb : ∀ a, (k0_off46 v4 k0_t2) a + S32x128.size a ≤ S384x768.size a), (Rect.unit (s := S384x768) (k0_off46 v4 k0_t2) S32x128.size hinb).PackedRows (EltTy.packing .bf16)) ∧
  (∀ k0_t2 : Fin (k0_t2_loop v4).trips, ∀ a, (k0_off47 v4 k0_t2) a + S32x128.size a ≤ S384x768.size a) ∧
  (∀ k0_t2 : Fin (k0_t2_loop v4).trips, ∀ (hinb : ∀ a, (k0_off47 v4 k0_t2) a + S32x128.size a ≤ S384x768.size a), (Rect.unit (s := S384x768) (k0_off47 v4 k0_t2) S32x128.size hinb).PackedRows (EltTy.packing .bf16)) ∧
  (∀ k0_t2 : Fin (k0_t2_loop v4).trips, ∀ a, (k0_off48 v4 k0_t2) a + S32x128.size a ≤ S384x768.size a) ∧
  (∀ k0_t2 : Fin (k0_t2_loop v4).trips, ∀ (hinb : ∀ a, (k0_off48 v4 k0_t2) a + S32x128.size a ≤ S384x768.size a), (Rect.unit (s := S384x768) (k0_off48 v4 k0_t2) S32x128.size hinb).PackedRows (EltTy.packing .bf16))
def k0_chk1_3 (i : grid0.Coords) (v4 : BitVec 32) : Prop :=
  (∀ k0_t2 : Fin (k0_t2_loop v4).trips, ∀ a, (k0_off49 v4 k0_t2) a + S32x128.size a ≤ S384x768.size a) ∧
  (∀ k0_t2 : Fin (k0_t2_loop v4).trips, ∀ (hinb : ∀ a, (k0_off49 v4 k0_t2) a + S32x128.size a ≤ S384x768.size a), (Rect.unit (s := S384x768) (k0_off49 v4 k0_t2) S32x128.size hinb).PackedRows (EltTy.packing .bf16)) ∧
  (∀ k0_t2 : Fin (k0_t2_loop v4).trips, ∀ a, (k0_off50 v4 k0_t2) a + S32x128.size a ≤ S384x768.size a) ∧
  (∀ k0_t2 : Fin (k0_t2_loop v4).trips, ∀ (hinb : ∀ a, (k0_off50 v4 k0_t2) a + S32x128.size a ≤ S384x768.size a), (Rect.unit (s := S384x768) (k0_off50 v4 k0_t2) S32x128.size hinb).PackedRows (EltTy.packing .bf16)) ∧
  (∀ k0_t2 : Fin (k0_t2_loop v4).trips, ∀ a, (k0_off51 v4 k0_t2) a + S32x128.size a ≤ S384x768.size a) ∧
  (∀ k0_t2 : Fin (k0_t2_loop v4).trips, ∀ (hinb : ∀ a, (k0_off51 v4 k0_t2) a + S32x128.size a ≤ S384x768.size a), (Rect.unit (s := S384x768) (k0_off51 v4 k0_t2) S32x128.size hinb).PackedRows (EltTy.packing .bf16)) ∧
  (∀ k0_t2 : Fin (k0_t2_loop v4).trips, ∀ a, (k0_off52 v4 k0_t2) a + S32x128.size a ≤ S384x768.size a) ∧
  (∀ k0_t2 : Fin (k0_t2_loop v4).trips, ∀ (hinb : ∀ a, (k0_off52 v4 k0_t2) a + S32x128.size a ≤ S384x768.size a), (Rect.unit (s := S384x768) (k0_off52 v4 k0_t2) S32x128.size hinb).PackedRows (EltTy.packing .bf16)) ∧
  (∀ k0_t2 : Fin (k0_t2_loop v4).trips, ∀ a, (k0_off53 v4 k0_t2) a + S32x128.size a ≤ S384x768.size a) ∧
  (∀ k0_t2 : Fin (k0_t2_loop v4).trips, ∀ (hinb : ∀ a, (k0_off53 v4 k0_t2) a + S32x128.size a ≤ S384x768.size a), (Rect.unit (s := S384x768) (k0_off53 v4 k0_t2) S32x128.size hinb).PackedRows (EltTy.packing .bf16)) ∧
  (∀ k0_t2 : Fin (k0_t2_loop v4).trips, ∀ a, (k0_off54 v4 k0_t2) a + S32x128.size a ≤ S384x768.size a) ∧
  (∀ k0_t2 : Fin (k0_t2_loop v4).trips, ∀ (hinb : ∀ a, (k0_off54 v4 k0_t2) a + S32x128.size a ≤ S384x768.size a), (Rect.unit (s := S384x768) (k0_off54 v4 k0_t2) S32x128.size hinb).PackedRows (EltTy.packing .bf16)) ∧
  (∀ k0_t2 : Fin (k0_t2_loop v4).trips, ∀ a, (k0_off55 v4 k0_t2) a + S32x128.size a ≤ S384x768.size a) ∧
  (∀ k0_t2 : Fin (k0_t2_loop v4).trips, ∀ (hinb : ∀ a, (k0_off55 v4 k0_t2) a + S32x128.size a ≤ S384x768.size a), (Rect.unit (s := S384x768) (k0_off55 v4 k0_t2) S32x128.size hinb).PackedRows (EltTy.packing .bf16)) ∧
  (∀ k0_t2 : Fin (k0_t2_loop v4).trips, ∀ a, (k0_off56 v4 k0_t2) a + S32x128.size a ≤ S384x768.size a) ∧
  (∀ k0_t2 : Fin (k0_t2_loop v4).trips, ∀ (hinb : ∀ a, (k0_off56 v4 k0_t2) a + S32x128.size a ≤ S384x768.size a), (Rect.unit (s := S384x768) (k0_off56 v4 k0_t2) S32x128.size hinb).PackedRows (EltTy.packing .bf16)) ∧
  (∀ k0_t2 : Fin (k0_t2_loop v4).trips, ∀ a, (k0_off57 v4 k0_t2) a + S32x128.size a ≤ S384x768.size a) ∧
  (∀ k0_t2 : Fin (k0_t2_loop v4).trips, ∀ (hinb : ∀ a, (k0_off57 v4 k0_t2) a + S32x128.size a ≤ S384x768.size a), (Rect.unit (s := S384x768) (k0_off57 v4 k0_t2) S32x128.size hinb).PackedRows (EltTy.packing .bf16)) ∧
  (∀ k0_t2 : Fin (k0_t2_loop v4).trips, ∀ a, (k0_off58 v4 k0_t2) a + S32x128.size a ≤ S960x768.size a) ∧
  (∀ k0_t2 : Fin (k0_t2_loop v4).trips, ∀ (hinb : ∀ a, (k0_off58 v4 k0_t2) a + S32x128.size a ≤ S960x768.size a), (Rect.unit (s := S960x768) (k0_off58 v4 k0_t2) S32x128.size hinb).PackedRows (EltTy.packing .fp8e5m2)) ∧
  (∀ k0_t2 : Fin (k0_t2_loop v4).trips, ∀ a, (k0_off59 v4 k0_t2) a + S32x128.size a ≤ S960x768.size a) ∧
  (∀ k0_t2 : Fin (k0_t2_loop v4).trips, ∀ (hinb : ∀ a, (k0_off59 v4 k0_t2) a + S32x128.size a ≤ S960x768.size a), (Rect.unit (s := S960x768) (k0_off59 v4 k0_t2) S32x128.size hinb).PackedRows (EltTy.packing .fp8e5m2)) ∧
  (∀ k0_t2 : Fin (k0_t2_loop v4).trips, ∀ a, (k0_off60 v4 k0_t2) a + S32x128.size a ≤ S960x768.size a) ∧
  (∀ k0_t2 : Fin (k0_t2_loop v4).trips, ∀ (hinb : ∀ a, (k0_off60 v4 k0_t2) a + S32x128.size a ≤ S960x768.size a), (Rect.unit (s := S960x768) (k0_off60 v4 k0_t2) S32x128.size hinb).PackedRows (EltTy.packing .fp8e5m2)) ∧
  (∀ k0_t2 : Fin (k0_t2_loop v4).trips, ∀ a, (k0_off61 v4 k0_t2) a + S32x128.size a ≤ S960x768.size a) ∧
  (∀ k0_t2 : Fin (k0_t2_loop v4).trips, ∀ (hinb : ∀ a, (k0_off61 v4 k0_t2) a + S32x128.size a ≤ S960x768.size a), (Rect.unit (s := S960x768) (k0_off61 v4 k0_t2) S32x128.size hinb).PackedRows (EltTy.packing .fp8e5m2)) ∧
  (∀ k0_t2 : Fin (k0_t2_loop v4).trips, ∀ a, (k0_off62 v4 k0_t2) a + S32x128.size a ≤ S960x768.size a) ∧
  (∀ k0_t2 : Fin (k0_t2_loop v4).trips, ∀ (hinb : ∀ a, (k0_off62 v4 k0_t2) a + S32x128.size a ≤ S960x768.size a), (Rect.unit (s := S960x768) (k0_off62 v4 k0_t2) S32x128.size hinb).PackedRows (EltTy.packing .fp8e5m2)) ∧
  (∀ k0_t2 : Fin (k0_t2_loop v4).trips, ∀ a, (k0_off63 v4 k0_t2) a + S32x128.size a ≤ S960x768.size a) ∧
  (∀ k0_t2 : Fin (k0_t2_loop v4).trips, ∀ (hinb : ∀ a, (k0_off63 v4 k0_t2) a + S32x128.size a ≤ S960x768.size a), (Rect.unit (s := S960x768) (k0_off63 v4 k0_t2) S32x128.size hinb).PackedRows (EltTy.packing .fp8e5m2)) ∧
  (∀ k0_t2 : Fin (k0_t2_loop v4).trips, ∀ a, (k0_off64 v4 k0_t2) a + S32x128.size a ≤ S960x768.size a) ∧
  (∀ k0_t2 : Fin (k0_t2_loop v4).trips, ∀ (hinb : ∀ a, (k0_off64 v4 k0_t2) a + S32x128.size a ≤ S960x768.size a), (Rect.unit (s := S960x768) (k0_off64 v4 k0_t2) S32x128.size hinb).PackedRows (EltTy.packing .fp8e5m2))
def k0_chk1_4 (i : grid0.Coords) (v4 : BitVec 32) : Prop :=
  (∀ k0_t2 : Fin (k0_t2_loop v4).trips, ∀ a, (k0_off65 v4 k0_t2) a + S32x128.size a ≤ S960x768.size a) ∧
  (∀ k0_t2 : Fin (k0_t2_loop v4).trips, ∀ (hinb : ∀ a, (k0_off65 v4 k0_t2) a + S32x128.size a ≤ S960x768.size a), (Rect.unit (s := S960x768) (k0_off65 v4 k0_t2) S32x128.size hinb).PackedRows (EltTy.packing .fp8e5m2)) ∧
  (∀ k0_t2 : Fin (k0_t2_loop v4).trips, ∀ a, (k0_off66 v4 k0_t2) a + S32x128.size a ≤ S960x768.size a) ∧
  (∀ k0_t2 : Fin (k0_t2_loop v4).trips, ∀ (hinb : ∀ a, (k0_off66 v4 k0_t2) a + S32x128.size a ≤ S960x768.size a), (Rect.unit (s := S960x768) (k0_off66 v4 k0_t2) S32x128.size hinb).PackedRows (EltTy.packing .fp8e5m2)) ∧
  (∀ k0_t2 : Fin (k0_t2_loop v4).trips, ∀ a, (k0_off67 v4 k0_t2) a + S32x128.size a ≤ S960x768.size a) ∧
  (∀ k0_t2 : Fin (k0_t2_loop v4).trips, ∀ (hinb : ∀ a, (k0_off67 v4 k0_t2) a + S32x128.size a ≤ S960x768.size a), (Rect.unit (s := S960x768) (k0_off67 v4 k0_t2) S32x128.size hinb).PackedRows (EltTy.packing .fp8e5m2)) ∧
  (∀ k0_t2 : Fin (k0_t2_loop v4).trips, ∀ a, (k0_off68 v4 k0_t2) a + S32x128.size a ≤ S960x768.size a) ∧
  (∀ k0_t2 : Fin (k0_t2_loop v4).trips, ∀ (hinb : ∀ a, (k0_off68 v4 k0_t2) a + S32x128.size a ≤ S960x768.size a), (Rect.unit (s := S960x768) (k0_off68 v4 k0_t2) S32x128.size hinb).PackedRows (EltTy.packing .fp8e5m2)) ∧
  (∀ k0_t2 : Fin (k0_t2_loop v4).trips, ∀ a, (k0_off69 v4 k0_t2) a + S32x128.size a ≤ S960x768.size a) ∧
  (∀ k0_t2 : Fin (k0_t2_loop v4).trips, ∀ (hinb : ∀ a, (k0_off69 v4 k0_t2) a + S32x128.size a ≤ S960x768.size a), (Rect.unit (s := S960x768) (k0_off69 v4 k0_t2) S32x128.size hinb).PackedRows (EltTy.packing .fp8e5m2)) ∧
  (∀ k0_t2 : Fin (k0_t2_loop v4).trips, ∀ a, (k0_off70 v4 k0_t2) a + S32x128.size a ≤ S960x768.size a) ∧
  (∀ k0_t2 : Fin (k0_t2_loop v4).trips, ∀ (hinb : ∀ a, (k0_off70 v4 k0_t2) a + S32x128.size a ≤ S960x768.size a), (Rect.unit (s := S960x768) (k0_off70 v4 k0_t2) S32x128.size hinb).PackedRows (EltTy.packing .fp8e5m2)) ∧
  (∀ k0_t2 : Fin (k0_t2_loop v4).trips, ∀ a, (k0_off71 v4 k0_t2) a + S32x128.size a ≤ S960x768.size a) ∧
  (∀ k0_t2 : Fin (k0_t2_loop v4).trips, ∀ (hinb : ∀ a, (k0_off71 v4 k0_t2) a + S32x128.size a ≤ S960x768.size a), (Rect.unit (s := S960x768) (k0_off71 v4 k0_t2) S32x128.size hinb).PackedRows (EltTy.packing .fp8e5m2)) ∧
  (∀ k0_t2 : Fin (k0_t2_loop v4).trips, ∀ a, (k0_off72 v4 k0_t2) a + S32x128.size a ≤ S960x768.size a) ∧
  (∀ k0_t2 : Fin (k0_t2_loop v4).trips, ∀ (hinb : ∀ a, (k0_off72 v4 k0_t2) a + S32x128.size a ≤ S960x768.size a), (Rect.unit (s := S960x768) (k0_off72 v4 k0_t2) S32x128.size hinb).PackedRows (EltTy.packing .fp8e5m2)) ∧
  (∀ k0_t2 : Fin (k0_t2_loop v4).trips, ∀ a, (k0_off73 v4 k0_t2) a + S32x128.size a ≤ S960x768.size a) ∧
  (∀ k0_t2 : Fin (k0_t2_loop v4).trips, ∀ (hinb : ∀ a, (k0_off73 v4 k0_t2) a + S32x128.size a ≤ S960x768.size a), (Rect.unit (s := S960x768) (k0_off73 v4 k0_t2) S32x128.size hinb).PackedRows (EltTy.packing .fp8e5m2)) ∧
  (∀ k0_t2 : Fin (k0_t2_loop v4).trips, ∀ a, (k0_off74 v4 k0_t2) a + S32x128.size a ≤ S960x768.size a) ∧
  (∀ k0_t2 : Fin (k0_t2_loop v4).trips, ∀ (hinb : ∀ a, (k0_off74 v4 k0_t2) a + S32x128.size a ≤ S960x768.size a), (Rect.unit (s := S960x768) (k0_off74 v4 k0_t2) S32x128.size hinb).PackedRows (EltTy.packing .fp8e5m2)) ∧
  (∀ k0_t2 : Fin (k0_t2_loop v4).trips, ∀ a, (k0_off75 v4 k0_t2) a + S32x128.size a ≤ S960x768.size a) ∧
  (∀ k0_t2 : Fin (k0_t2_loop v4).trips, ∀ (hinb : ∀ a, (k0_off75 v4 k0_t2) a + S32x128.size a ≤ S960x768.size a), (Rect.unit (s := S960x768) (k0_off75 v4 k0_t2) S32x128.size hinb).PackedRows (EltTy.packing .fp8e5m2)) ∧
  (∀ k0_t2 : Fin (k0_t2_loop v4).trips, ∀ a, (k0_off76 v4 k0_t2) a + S32x128.size a ≤ S960x768.size a) ∧
  (∀ k0_t2 : Fin (k0_t2_loop v4).trips, ∀ (hinb : ∀ a, (k0_off76 v4 k0_t2) a + S32x128.size a ≤ S960x768.size a), (Rect.unit (s := S960x768) (k0_off76 v4 k0_t2) S32x128.size hinb).PackedRows (EltTy.packing .fp8e5m2)) ∧
  (∀ k0_t2 : Fin (k0_t2_loop v4).trips, ∀ a, (k0_off77 v4 k0_t2) a + S32x128.size a ≤ S960x768.size a) ∧
  (∀ k0_t2 : Fin (k0_t2_loop v4).trips, ∀ (hinb : ∀ a, (k0_off77 v4 k0_t2) a + S32x128.size a ≤ S960x768.size a), (Rect.unit (s := S960x768) (k0_off77 v4 k0_t2) S32x128.size hinb).PackedRows (EltTy.packing .fp8e5m2)) ∧
  (∀ k0_t2 : Fin (k0_t2_loop v4).trips, ∀ a, (k0_off78 v4 k0_t2) a + S32x128.size a ≤ S960x768.size a) ∧
  (∀ k0_t2 : Fin (k0_t2_loop v4).trips, ∀ (hinb : ∀ a, (k0_off78 v4 k0_t2) a + S32x128.size a ≤ S960x768.size a), (Rect.unit (s := S960x768) (k0_off78 v4 k0_t2) S32x128.size hinb).PackedRows (EltTy.packing .fp8e5m2)) ∧
  (∀ k0_t2 : Fin (k0_t2_loop v4).trips, ∀ a, (k0_off79 v4 k0_t2) a + S32x128.size a ≤ S960x768.size a) ∧
  (∀ k0_t2 : Fin (k0_t2_loop v4).trips, ∀ (hinb : ∀ a, (k0_off79 v4 k0_t2) a + S32x128.size a ≤ S960x768.size a), (Rect.unit (s := S960x768) (k0_off79 v4 k0_t2) S32x128.size hinb).PackedRows (EltTy.packing .fp8e5m2)) ∧
  (∀ k0_t2 : Fin (k0_t2_loop v4).trips, ∀ a, (k0_off80 v4 k0_t2) a + S32x128.size a ≤ S960x768.size a) ∧
  (∀ k0_t2 : Fin (k0_t2_loop v4).trips, ∀ (hinb : ∀ a, (k0_off80 v4 k0_t2) a + S32x128.size a ≤ S960x768.size a), (Rect.unit (s := S960x768) (k0_off80 v4 k0_t2) S32x128.size hinb).PackedRows (EltTy.packing .fp8e5m2))
def k0_chk1_5 (i : grid0.Coords) (v4 : BitVec 32) : Prop :=
  (∀ k0_t2 : Fin (k0_t2_loop v4).trips, ∀ a, (k0_off81 v4 k0_t2) a + S32x128.size a ≤ S960x768.size a) ∧
  (∀ k0_t2 : Fin (k0_t2_loop v4).trips, ∀ (hinb : ∀ a, (k0_off81 v4 k0_t2) a + S32x128.size a ≤ S960x768.size a), (Rect.unit (s := S960x768) (k0_off81 v4 k0_t2) S32x128.size hinb).PackedRows (EltTy.packing .fp8e5m2)) ∧
  (∀ k0_t2 : Fin (k0_t2_loop v4).trips, ∀ a, (k0_off82 v4 k0_t2) a + S32x128.size a ≤ S960x768.size a) ∧
  (∀ k0_t2 : Fin (k0_t2_loop v4).trips, ∀ (hinb : ∀ a, (k0_off82 v4 k0_t2) a + S32x128.size a ≤ S960x768.size a), (Rect.unit (s := S960x768) (k0_off82 v4 k0_t2) S32x128.size hinb).PackedRows (EltTy.packing .fp8e5m2)) ∧
  (∀ k0_t2 : Fin (k0_t2_loop v4).trips, ∀ a, (k0_off83 v4 k0_t2) a + S32x128.size a ≤ S960x768.size a) ∧
  (∀ k0_t2 : Fin (k0_t2_loop v4).trips, ∀ (hinb : ∀ a, (k0_off83 v4 k0_t2) a + S32x128.size a ≤ S960x768.size a), (Rect.unit (s := S960x768) (k0_off83 v4 k0_t2) S32x128.size hinb).PackedRows (EltTy.packing .fp8e5m2)) ∧
  (∀ k0_t2 : Fin (k0_t2_loop v4).trips, ∀ a, (k0_off84 v4 k0_t2) a + S32x128.size a ≤ S960x768.size a) ∧
  (∀ k0_t2 : Fin (k0_t2_loop v4).trips, ∀ (hinb : ∀ a, (k0_off84 v4 k0_t2) a + S32x128.size a ≤ S960x768.size a), (Rect.unit (s := S960x768) (k0_off84 v4 k0_t2) S32x128.size hinb).PackedRows (EltTy.packing .fp8e5m2)) ∧
  (∀ k0_t2 : Fin (k0_t2_loop v4).trips, ∀ a, (k0_off85 v4 k0_t2) a + S32x128.size a ≤ S960x768.size a) ∧
  (∀ k0_t2 : Fin (k0_t2_loop v4).trips, ∀ (hinb : ∀ a, (k0_off85 v4 k0_t2) a + S32x128.size a ≤ S960x768.size a), (Rect.unit (s := S960x768) (k0_off85 v4 k0_t2) S32x128.size hinb).PackedRows (EltTy.packing .fp8e5m2)) ∧
  (∀ k0_t2 : Fin (k0_t2_loop v4).trips, ∀ a, (k0_off86 v4 k0_t2) a + S32x128.size a ≤ S960x768.size a) ∧
  (∀ k0_t2 : Fin (k0_t2_loop v4).trips, ∀ (hinb : ∀ a, (k0_off86 v4 k0_t2) a + S32x128.size a ≤ S960x768.size a), (Rect.unit (s := S960x768) (k0_off86 v4 k0_t2) S32x128.size hinb).PackedRows (EltTy.packing .fp8e5m2)) ∧
  (∀ k0_t2 : Fin (k0_t2_loop v4).trips, ∀ a, (k0_off87 v4 k0_t2) a + S32x128.size a ≤ S960x768.size a) ∧
  (∀ k0_t2 : Fin (k0_t2_loop v4).trips, ∀ (hinb : ∀ a, (k0_off87 v4 k0_t2) a + S32x128.size a ≤ S960x768.size a), (Rect.unit (s := S960x768) (k0_off87 v4 k0_t2) S32x128.size hinb).PackedRows (EltTy.packing .fp8e5m2))
def k0_chk1 (i : grid0.Coords) (v4 : BitVec 32) : Prop :=
  k0_chk1_0 i v4 ∧
  k0_chk1_1 i v4 ∧
  k0_chk1_2 i v4 ∧
  k0_chk1_3 i v4 ∧
  k0_chk1_4 i v4 ∧
  k0_chk1_5 i v4
theorem k0_t1_ok : ∀ (i : grid0.Coords) (v4 : BitVec 32) (k0_hw1 : k0_chk1 i v4), (k0_t1_loop v4).OK := fun i v4 k0_hw1 => k0_hw1.1.1
theorem k0_mult1_dvd : ∀ (i : grid0.Coords) (v4 : BitVec 32) (k0_hw1 : k0_chk1 i v4) (k0_t1 : Fin (k0_t1_loop v4).trips), 128 ∣ (k0_mult1 v4 k0_t1).toNat := fun i v4 k0_hw1 k0_t1 => k0_hw1.1.2.1 k0_t1
theorem k0_off2_inb : ∀ (i : grid0.Coords) (v4 : BitVec 32) (k0_hw1 : k0_chk1 i v4) (k0_t1 : Fin (k0_t1_loop v4).trips), ∀ a, (k0_off2 i v4 k0_t1) a + S1x1x128.size a ≤ S6x27x128.size a := fun i v4 k0_hw1 k0_t1 => k0_hw1.1.2.2.1 k0_t1
theorem k0_off3_inb : ∀ (i : grid0.Coords) (v4 : BitVec 32) (k0_hw1 : k0_chk1 i v4) (k0_t1 : Fin (k0_t1_loop v4).trips), ∀ a, (k0_off3 v4 k0_t1) a + S32x128.size a ≤ S384x768.size a := fun i v4 k0_hw1 k0_t1 => k0_hw1.1.2.2.2.1 k0_t1
theorem k0_off3_packedbf16 : ∀ (i : grid0.Coords) (v4 : BitVec 32) (k0_hw1 : k0_chk1 i v4) (k0_t1 : Fin (k0_t1_loop v4).trips), (Rect.unit (s := S384x768) (k0_off3 v4 k0_t1) S32x128.size (k0_off3_inb i v4 k0_hw1 k0_t1)).PackedRows (EltTy.packing .bf16) := fun i v4 k0_hw1 k0_t1 => k0_hw1.1.2.2.2.2.1 k0_t1 (k0_off3_inb i v4 k0_hw1 k0_t1)
theorem k0_off4_inb : ∀ (i : grid0.Coords) (v4 : BitVec 32) (k0_hw1 : k0_chk1 i v4) (k0_t1 : Fin (k0_t1_loop v4).trips), ∀ a, (k0_off4 v4 k0_t1) a + S32x128.size a ≤ S384x768.size a := fun i v4 k0_hw1 k0_t1 => k0_hw1.1.2.2.2.2.2.1 k0_t1
theorem k0_off4_packedbf16 : ∀ (i : grid0.Coords) (v4 : BitVec 32) (k0_hw1 : k0_chk1 i v4) (k0_t1 : Fin (k0_t1_loop v4).trips), (Rect.unit (s := S384x768) (k0_off4 v4 k0_t1) S32x128.size (k0_off4_inb i v4 k0_hw1 k0_t1)).PackedRows (EltTy.packing .bf16) := fun i v4 k0_hw1 k0_t1 => k0_hw1.1.2.2.2.2.2.2.1 k0_t1 (k0_off4_inb i v4 k0_hw1 k0_t1)
theorem k0_off5_inb : ∀ (i : grid0.Coords) (v4 : BitVec 32) (k0_hw1 : k0_chk1 i v4) (k0_t1 : Fin (k0_t1_loop v4).trips), ∀ a, (k0_off5 v4 k0_t1) a + S32x128.size a ≤ S384x768.size a := fun i v4 k0_hw1 k0_t1 => k0_hw1.1.2.2.2.2.2.2.2.1 k0_t1
theorem k0_off5_packedbf16 : ∀ (i : grid0.Coords) (v4 : BitVec 32) (k0_hw1 : k0_chk1 i v4) (k0_t1 : Fin (k0_t1_loop v4).trips), (Rect.unit (s := S384x768) (k0_off5 v4 k0_t1) S32x128.size (k0_off5_inb i v4 k0_hw1 k0_t1)).PackedRows (EltTy.packing .bf16) := fun i v4 k0_hw1 k0_t1 => k0_hw1.1.2.2.2.2.2.2.2.2.1 k0_t1 (k0_off5_inb i v4 k0_hw1 k0_t1)
theorem k0_off6_inb : ∀ (i : grid0.Coords) (v4 : BitVec 32) (k0_hw1 : k0_chk1 i v4) (k0_t1 : Fin (k0_t1_loop v4).trips), ∀ a, (k0_off6 v4 k0_t1) a + S32x128.size a ≤ S384x768.size a := fun i v4 k0_hw1 k0_t1 => k0_hw1.1.2.2.2.2.2.2.2.2.2.1 k0_t1
theorem k0_off6_packedbf16 : ∀ (i : grid0.Coords) (v4 : BitVec 32) (k0_hw1 : k0_chk1 i v4) (k0_t1 : Fin (k0_t1_loop v4).trips), (Rect.unit (s := S384x768) (k0_off6 v4 k0_t1) S32x128.size (k0_off6_inb i v4 k0_hw1 k0_t1)).PackedRows (EltTy.packing .bf16) := fun i v4 k0_hw1 k0_t1 => k0_hw1.1.2.2.2.2.2.2.2.2.2.2.1 k0_t1 (k0_off6_inb i v4 k0_hw1 k0_t1)
theorem k0_off7_inb : ∀ (i : grid0.Coords) (v4 : BitVec 32) (k0_hw1 : k0_chk1 i v4) (k0_t1 : Fin (k0_t1_loop v4).trips), ∀ a, (k0_off7 v4 k0_t1) a + S32x128.size a ≤ S384x768.size a := fun i v4 k0_hw1 k0_t1 => k0_hw1.1.2.2.2.2.2.2.2.2.2.2.2.1 k0_t1
theorem k0_off7_packedbf16 : ∀ (i : grid0.Coords) (v4 : BitVec 32) (k0_hw1 : k0_chk1 i v4) (k0_t1 : Fin (k0_t1_loop v4).trips), (Rect.unit (s := S384x768) (k0_off7 v4 k0_t1) S32x128.size (k0_off7_inb i v4 k0_hw1 k0_t1)).PackedRows (EltTy.packing .bf16) := fun i v4 k0_hw1 k0_t1 => k0_hw1.1.2.2.2.2.2.2.2.2.2.2.2.2.1 k0_t1 (k0_off7_inb i v4 k0_hw1 k0_t1)
theorem k0_off8_inb : ∀ (i : grid0.Coords) (v4 : BitVec 32) (k0_hw1 : k0_chk1 i v4) (k0_t1 : Fin (k0_t1_loop v4).trips), ∀ a, (k0_off8 v4 k0_t1) a + S32x128.size a ≤ S384x768.size a := fun i v4 k0_hw1 k0_t1 => k0_hw1.1.2.2.2.2.2.2.2.2.2.2.2.2.2.1 k0_t1
theorem k0_off8_packedbf16 : ∀ (i : grid0.Coords) (v4 : BitVec 32) (k0_hw1 : k0_chk1 i v4) (k0_t1 : Fin (k0_t1_loop v4).trips), (Rect.unit (s := S384x768) (k0_off8 v4 k0_t1) S32x128.size (k0_off8_inb i v4 k0_hw1 k0_t1)).PackedRows (EltTy.packing .bf16) := fun i v4 k0_hw1 k0_t1 => k0_hw1.1.2.2.2.2.2.2.2.2.2.2.2.2.2.2.1 k0_t1 (k0_off8_inb i v4 k0_hw1 k0_t1)
theorem k0_off9_inb : ∀ (i : grid0.Coords) (v4 : BitVec 32) (k0_hw1 : k0_chk1 i v4) (k0_t1 : Fin (k0_t1_loop v4).trips), ∀ a, (k0_off9 v4 k0_t1) a + S32x128.size a ≤ S384x768.size a := fun i v4 k0_hw1 k0_t1 => k0_hw1.1.2.2.2.2.2.2.2.2.2.2.2.2.2.2.2.1 k0_t1
theorem k0_off9_packedbf16 : ∀ (i : grid0.Coords) (v4 : BitVec 32) (k0_hw1 : k0_chk1 i v4) (k0_t1 : Fin (k0_t1_loop v4).trips), (Rect.unit (s := S384x768) (k0_off9 v4 k0_t1) S32x128.size (k0_off9_inb i v4 k0_hw1 k0_t1)).PackedRows (EltTy.packing .bf16) := fun i v4 k0_hw1 k0_t1 => k0_hw1.1.2.2.2.2.2.2.2.2.2.2.2.2.2.2.2.2.1 k0_t1 (k0_off9_inb i v4 k0_hw1 k0_t1)
theorem k0_off10_inb : ∀ (i : grid0.Coords) (v4 : BitVec 32) (k0_hw1 : k0_chk1 i v4) (k0_t1 : Fin (k0_t1_loop v4).trips), ∀ a, (k0_off10 v4 k0_t1) a + S32x128.size a ≤ S384x768.size a := fun i v4 k0_hw1 k0_t1 => k0_hw1.1.2.2.2.2.2.2.2.2.2.2.2.2.2.2.2.2.2.1 k0_t1
theorem k0_off10_packedbf16 : ∀ (i : grid0.Coords) (v4 : BitVec 32) (k0_hw1 : k0_chk1 i v4) (k0_t1 : Fin (k0_t1_loop v4).trips), (Rect.unit (s := S384x768) (k0_off10 v4 k0_t1) S32x128.size (k0_off10_inb i v4 k0_hw1 k0_t1)).PackedRows (EltTy.packing .bf16) := fun i v4 k0_hw1 k0_t1 => k0_hw1.1.2.2.2.2.2.2.2.2.2.2.2.2.2.2.2.2.2.2.1 k0_t1 (k0_off10_inb i v4 k0_hw1 k0_t1)
theorem k0_off11_inb : ∀ (i : grid0.Coords) (v4 : BitVec 32) (k0_hw1 : k0_chk1 i v4) (k0_t1 : Fin (k0_t1_loop v4).trips), ∀ a, (k0_off11 v4 k0_t1) a + S32x128.size a ≤ S384x768.size a := fun i v4 k0_hw1 k0_t1 => k0_hw1.1.2.2.2.2.2.2.2.2.2.2.2.2.2.2.2.2.2.2.2.1 k0_t1
theorem k0_off11_packedbf16 : ∀ (i : grid0.Coords) (v4 : BitVec 32) (k0_hw1 : k0_chk1 i v4) (k0_t1 : Fin (k0_t1_loop v4).trips), (Rect.unit (s := S384x768) (k0_off11 v4 k0_t1) S32x128.size (k0_off11_inb i v4 k0_hw1 k0_t1)).PackedRows (EltTy.packing .bf16) := fun i v4 k0_hw1 k0_t1 => k0_hw1.1.2.2.2.2.2.2.2.2.2.2.2.2.2.2.2.2.2.2.2.2.1 k0_t1 (k0_off11_inb i v4 k0_hw1 k0_t1)
theorem k0_off12_inb : ∀ (i : grid0.Coords) (v4 : BitVec 32) (k0_hw1 : k0_chk1 i v4) (k0_t1 : Fin (k0_t1_loop v4).trips), ∀ a, (k0_off12 v4 k0_t1) a + S32x128.size a ≤ S384x768.size a := fun i v4 k0_hw1 k0_t1 => k0_hw1.1.2.2.2.2.2.2.2.2.2.2.2.2.2.2.2.2.2.2.2.2.2.1 k0_t1
theorem k0_off12_packedbf16 : ∀ (i : grid0.Coords) (v4 : BitVec 32) (k0_hw1 : k0_chk1 i v4) (k0_t1 : Fin (k0_t1_loop v4).trips), (Rect.unit (s := S384x768) (k0_off12 v4 k0_t1) S32x128.size (k0_off12_inb i v4 k0_hw1 k0_t1)).PackedRows (EltTy.packing .bf16) := fun i v4 k0_hw1 k0_t1 => k0_hw1.1.2.2.2.2.2.2.2.2.2.2.2.2.2.2.2.2.2.2.2.2.2.2.1 k0_t1 (k0_off12_inb i v4 k0_hw1 k0_t1)
theorem k0_off13_inb : ∀ (i : grid0.Coords) (v4 : BitVec 32) (k0_hw1 : k0_chk1 i v4) (k0_t1 : Fin (k0_t1_loop v4).trips), ∀ a, (k0_off13 v4 k0_t1) a + S32x128.size a ≤ S384x768.size a := fun i v4 k0_hw1 k0_t1 => k0_hw1.1.2.2.2.2.2.2.2.2.2.2.2.2.2.2.2.2.2.2.2.2.2.2.2.1 k0_t1
theorem k0_off13_packedbf16 : ∀ (i : grid0.Coords) (v4 : BitVec 32) (k0_hw1 : k0_chk1 i v4) (k0_t1 : Fin (k0_t1_loop v4).trips), (Rect.unit (s := S384x768) (k0_off13 v4 k0_t1) S32x128.size (k0_off13_inb i v4 k0_hw1 k0_t1)).PackedRows (EltTy.packing .bf16) := fun i v4 k0_hw1 k0_t1 => k0_hw1.1.2.2.2.2.2.2.2.2.2.2.2.2.2.2.2.2.2.2.2.2.2.2.2.2.1 k0_t1 (k0_off13_inb i v4 k0_hw1 k0_t1)
theorem k0_off14_inb : ∀ (i : grid0.Coords) (v4 : BitVec 32) (k0_hw1 : k0_chk1 i v4) (k0_t1 : Fin (k0_t1_loop v4).trips), ∀ a, (k0_off14 v4 k0_t1) a + S32x128.size a ≤ S384x768.size a := fun i v4 k0_hw1 k0_t1 => k0_hw1.1.2.2.2.2.2.2.2.2.2.2.2.2.2.2.2.2.2.2.2.2.2.2.2.2.2.1 k0_t1
theorem k0_off14_packedbf16 : ∀ (i : grid0.Coords) (v4 : BitVec 32) (k0_hw1 : k0_chk1 i v4) (k0_t1 : Fin (k0_t1_loop v4).trips), (Rect.unit (s := S384x768) (k0_off14 v4 k0_t1) S32x128.size (k0_off14_inb i v4 k0_hw1 k0_t1)).PackedRows (EltTy.packing .bf16) := fun i v4 k0_hw1 k0_t1 => k0_hw1.1.2.2.2.2.2.2.2.2.2.2.2.2.2.2.2.2.2.2.2.2.2.2.2.2.2.2.1 k0_t1 (k0_off14_inb i v4 k0_hw1 k0_t1)
theorem k0_off15_inb : ∀ (i : grid0.Coords) (v4 : BitVec 32) (k0_hw1 : k0_chk1 i v4) (k0_t1 : Fin (k0_t1_loop v4).trips), ∀ a, (k0_off15 v4 k0_t1) a + S32x128.size a ≤ S960x768.size a := fun i v4 k0_hw1 k0_t1 => k0_hw1.1.2.2.2.2.2.2.2.2.2.2.2.2.2.2.2.2.2.2.2.2.2.2.2.2.2.2.2.1 k0_t1
theorem k0_off15_packedfp8e5m2 : ∀ (i : grid0.Coords) (v4 : BitVec 32) (k0_hw1 : k0_chk1 i v4) (k0_t1 : Fin (k0_t1_loop v4).trips), (Rect.unit (s := S960x768) (k0_off15 v4 k0_t1) S32x128.size (k0_off15_inb i v4 k0_hw1 k0_t1)).PackedRows (EltTy.packing .fp8e5m2) := fun i v4 k0_hw1 k0_t1 => k0_hw1.1.2.2.2.2.2.2.2.2.2.2.2.2.2.2.2.2.2.2.2.2.2.2.2.2.2.2.2.2.1 k0_t1 (k0_off15_inb i v4 k0_hw1 k0_t1)
theorem k0_off16_inb : ∀ (i : grid0.Coords) (v4 : BitVec 32) (k0_hw1 : k0_chk1 i v4) (k0_t1 : Fin (k0_t1_loop v4).trips), ∀ a, (k0_off16 v4 k0_t1) a + S32x128.size a ≤ S960x768.size a := fun i v4 k0_hw1 k0_t1 => k0_hw1.1.2.2.2.2.2.2.2.2.2.2.2.2.2.2.2.2.2.2.2.2.2.2.2.2.2.2.2.2.2.1 k0_t1
theorem k0_off16_packedfp8e5m2 : ∀ (i : grid0.Coords) (v4 : BitVec 32) (k0_hw1 : k0_chk1 i v4) (k0_t1 : Fin (k0_t1_loop v4).trips), (Rect.unit (s := S960x768) (k0_off16 v4 k0_t1) S32x128.size (k0_off16_inb i v4 k0_hw1 k0_t1)).PackedRows (EltTy.packing .fp8e5m2) := fun i v4 k0_hw1 k0_t1 => k0_hw1.1.2.2.2.2.2.2.2.2.2.2.2.2.2.2.2.2.2.2.2.2.2.2.2.2.2.2.2.2.2.2.1 k0_t1 (k0_off16_inb i v4 k0_hw1 k0_t1)
theorem k0_off17_inb : ∀ (i : grid0.Coords) (v4 : BitVec 32) (k0_hw1 : k0_chk1 i v4) (k0_t1 : Fin (k0_t1_loop v4).trips), ∀ a, (k0_off17 v4 k0_t1) a + S32x128.size a ≤ S960x768.size a := fun i v4 k0_hw1 k0_t1 => k0_hw1.1.2.2.2.2.2.2.2.2.2.2.2.2.2.2.2.2.2.2.2.2.2.2.2.2.2.2.2.2.2.2.2 k0_t1
theorem k0_off17_packedfp8e5m2 : ∀ (i : grid0.Coords) (v4 : BitVec 32) (k0_hw1 : k0_chk1 i v4) (k0_t1 : Fin (k0_t1_loop v4).trips), (Rect.unit (s := S960x768) (k0_off17 v4 k0_t1) S32x128.size (k0_off17_inb i v4 k0_hw1 k0_t1)).PackedRows (EltTy.packing .fp8e5m2) := fun i v4 k0_hw1 k0_t1 => k0_hw1.2.1.1 k0_t1 (k0_off17_inb i v4 k0_hw1 k0_t1)
theorem k0_off18_inb : ∀ (i : grid0.Coords) (v4 : BitVec 32) (k0_hw1 : k0_chk1 i v4) (k0_t1 : Fin (k0_t1_loop v4).trips), ∀ a, (k0_off18 v4 k0_t1) a + S32x128.size a ≤ S960x768.size a := fun i v4 k0_hw1 k0_t1 => k0_hw1.2.1.2.1 k0_t1
theorem k0_off18_packedfp8e5m2 : ∀ (i : grid0.Coords) (v4 : BitVec 32) (k0_hw1 : k0_chk1 i v4) (k0_t1 : Fin (k0_t1_loop v4).trips), (Rect.unit (s := S960x768) (k0_off18 v4 k0_t1) S32x128.size (k0_off18_inb i v4 k0_hw1 k0_t1)).PackedRows (EltTy.packing .fp8e5m2) := fun i v4 k0_hw1 k0_t1 => k0_hw1.2.1.2.2.1 k0_t1 (k0_off18_inb i v4 k0_hw1 k0_t1)
theorem k0_off19_inb : ∀ (i : grid0.Coords) (v4 : BitVec 32) (k0_hw1 : k0_chk1 i v4) (k0_t1 : Fin (k0_t1_loop v4).trips), ∀ a, (k0_off19 v4 k0_t1) a + S32x128.size a ≤ S960x768.size a := fun i v4 k0_hw1 k0_t1 => k0_hw1.2.1.2.2.2.1 k0_t1
theorem k0_off19_packedfp8e5m2 : ∀ (i : grid0.Coords) (v4 : BitVec 32) (k0_hw1 : k0_chk1 i v4) (k0_t1 : Fin (k0_t1_loop v4).trips), (Rect.unit (s := S960x768) (k0_off19 v4 k0_t1) S32x128.size (k0_off19_inb i v4 k0_hw1 k0_t1)).PackedRows (EltTy.packing .fp8e5m2) := fun i v4 k0_hw1 k0_t1 => k0_hw1.2.1.2.2.2.2.1 k0_t1 (k0_off19_inb i v4 k0_hw1 k0_t1)
theorem k0_off20_inb : ∀ (i : grid0.Coords) (v4 : BitVec 32) (k0_hw1 : k0_chk1 i v4) (k0_t1 : Fin (k0_t1_loop v4).trips), ∀ a, (k0_off20 v4 k0_t1) a + S32x128.size a ≤ S960x768.size a := fun i v4 k0_hw1 k0_t1 => k0_hw1.2.1.2.2.2.2.2.1 k0_t1
theorem k0_off20_packedfp8e5m2 : ∀ (i : grid0.Coords) (v4 : BitVec 32) (k0_hw1 : k0_chk1 i v4) (k0_t1 : Fin (k0_t1_loop v4).trips), (Rect.unit (s := S960x768) (k0_off20 v4 k0_t1) S32x128.size (k0_off20_inb i v4 k0_hw1 k0_t1)).PackedRows (EltTy.packing .fp8e5m2) := fun i v4 k0_hw1 k0_t1 => k0_hw1.2.1.2.2.2.2.2.2.1 k0_t1 (k0_off20_inb i v4 k0_hw1 k0_t1)
theorem k0_off21_inb : ∀ (i : grid0.Coords) (v4 : BitVec 32) (k0_hw1 : k0_chk1 i v4) (k0_t1 : Fin (k0_t1_loop v4).trips), ∀ a, (k0_off21 v4 k0_t1) a + S32x128.size a ≤ S960x768.size a := fun i v4 k0_hw1 k0_t1 => k0_hw1.2.1.2.2.2.2.2.2.2.1 k0_t1
theorem k0_off21_packedfp8e5m2 : ∀ (i : grid0.Coords) (v4 : BitVec 32) (k0_hw1 : k0_chk1 i v4) (k0_t1 : Fin (k0_t1_loop v4).trips), (Rect.unit (s := S960x768) (k0_off21 v4 k0_t1) S32x128.size (k0_off21_inb i v4 k0_hw1 k0_t1)).PackedRows (EltTy.packing .fp8e5m2) := fun i v4 k0_hw1 k0_t1 => k0_hw1.2.1.2.2.2.2.2.2.2.2.1 k0_t1 (k0_off21_inb i v4 k0_hw1 k0_t1)
theorem k0_off22_inb : ∀ (i : grid0.Coords) (v4 : BitVec 32) (k0_hw1 : k0_chk1 i v4) (k0_t1 : Fin (k0_t1_loop v4).trips), ∀ a, (k0_off22 v4 k0_t1) a + S32x128.size a ≤ S960x768.size a := fun i v4 k0_hw1 k0_t1 => k0_hw1.2.1.2.2.2.2.2.2.2.2.2.1 k0_t1
theorem k0_off22_packedfp8e5m2 : ∀ (i : grid0.Coords) (v4 : BitVec 32) (k0_hw1 : k0_chk1 i v4) (k0_t1 : Fin (k0_t1_loop v4).trips), (Rect.unit (s := S960x768) (k0_off22 v4 k0_t1) S32x128.size (k0_off22_inb i v4 k0_hw1 k0_t1)).PackedRows (EltTy.packing .fp8e5m2) := fun i v4 k0_hw1 k0_t1 => k0_hw1.2.1.2.2.2.2.2.2.2.2.2.2.1 k0_t1 (k0_off22_inb i v4 k0_hw1 k0_t1)
theorem k0_off23_inb : ∀ (i : grid0.Coords) (v4 : BitVec 32) (k0_hw1 : k0_chk1 i v4) (k0_t1 : Fin (k0_t1_loop v4).trips), ∀ a, (k0_off23 v4 k0_t1) a + S32x128.size a ≤ S960x768.size a := fun i v4 k0_hw1 k0_t1 => k0_hw1.2.1.2.2.2.2.2.2.2.2.2.2.2.1 k0_t1
theorem k0_off23_packedfp8e5m2 : ∀ (i : grid0.Coords) (v4 : BitVec 32) (k0_hw1 : k0_chk1 i v4) (k0_t1 : Fin (k0_t1_loop v4).trips), (Rect.unit (s := S960x768) (k0_off23 v4 k0_t1) S32x128.size (k0_off23_inb i v4 k0_hw1 k0_t1)).PackedRows (EltTy.packing .fp8e5m2) := fun i v4 k0_hw1 k0_t1 => k0_hw1.2.1.2.2.2.2.2.2.2.2.2.2.2.2.1 k0_t1 (k0_off23_inb i v4 k0_hw1 k0_t1)
theorem k0_off24_inb : ∀ (i : grid0.Coords) (v4 : BitVec 32) (k0_hw1 : k0_chk1 i v4) (k0_t1 : Fin (k0_t1_loop v4).trips), ∀ a, (k0_off24 v4 k0_t1) a + S32x128.size a ≤ S960x768.size a := fun i v4 k0_hw1 k0_t1 => k0_hw1.2.1.2.2.2.2.2.2.2.2.2.2.2.2.2.1 k0_t1
theorem k0_off24_packedfp8e5m2 : ∀ (i : grid0.Coords) (v4 : BitVec 32) (k0_hw1 : k0_chk1 i v4) (k0_t1 : Fin (k0_t1_loop v4).trips), (Rect.unit (s := S960x768) (k0_off24 v4 k0_t1) S32x128.size (k0_off24_inb i v4 k0_hw1 k0_t1)).PackedRows (EltTy.packing .fp8e5m2) := fun i v4 k0_hw1 k0_t1 => k0_hw1.2.1.2.2.2.2.2.2.2.2.2.2.2.2.2.2.1 k0_t1 (k0_off24_inb i v4 k0_hw1 k0_t1)
theorem k0_off25_inb : ∀ (i : grid0.Coords) (v4 : BitVec 32) (k0_hw1 : k0_chk1 i v4) (k0_t1 : Fin (k0_t1_loop v4).trips), ∀ a, (k0_off25 v4 k0_t1) a + S32x128.size a ≤ S960x768.size a := fun i v4 k0_hw1 k0_t1 => k0_hw1.2.1.2.2.2.2.2.2.2.2.2.2.2.2.2.2.2.1 k0_t1
theorem k0_off25_packedfp8e5m2 : ∀ (i : grid0.Coords) (v4 : BitVec 32) (k0_hw1 : k0_chk1 i v4) (k0_t1 : Fin (k0_t1_loop v4).trips), (Rect.unit (s := S960x768) (k0_off25 v4 k0_t1) S32x128.size (k0_off25_inb i v4 k0_hw1 k0_t1)).PackedRows (EltTy.packing .fp8e5m2) := fun i v4 k0_hw1 k0_t1 => k0_hw1.2.1.2.2.2.2.2.2.2.2.2.2.2.2.2.2.2.2.1 k0_t1 (k0_off25_inb i v4 k0_hw1 k0_t1)
theorem k0_off26_inb : ∀ (i : grid0.Coords) (v4 : BitVec 32) (k0_hw1 : k0_chk1 i v4) (k0_t1 : Fin (k0_t1_loop v4).trips), ∀ a, (k0_off26 v4 k0_t1) a + S32x128.size a ≤ S960x768.size a := fun i v4 k0_hw1 k0_t1 => k0_hw1.2.1.2.2.2.2.2.2.2.2.2.2.2.2.2.2.2.2.2.1 k0_t1
theorem k0_off26_packedfp8e5m2 : ∀ (i : grid0.Coords) (v4 : BitVec 32) (k0_hw1 : k0_chk1 i v4) (k0_t1 : Fin (k0_t1_loop v4).trips), (Rect.unit (s := S960x768) (k0_off26 v4 k0_t1) S32x128.size (k0_off26_inb i v4 k0_hw1 k0_t1)).PackedRows (EltTy.packing .fp8e5m2) := fun i v4 k0_hw1 k0_t1 => k0_hw1.2.1.2.2.2.2.2.2.2.2.2.2.2.2.2.2.2.2.2.2.1 k0_t1 (k0_off26_inb i v4 k0_hw1 k0_t1)
theorem k0_off27_inb : ∀ (i : grid0.Coords) (v4 : BitVec 32) (k0_hw1 : k0_chk1 i v4) (k0_t1 : Fin (k0_t1_loop v4).trips), ∀ a, (k0_off27 v4 k0_t1) a + S32x128.size a ≤ S960x768.size a := fun i v4 k0_hw1 k0_t1 => k0_hw1.2.1.2.2.2.2.2.2.2.2.2.2.2.2.2.2.2.2.2.2.2.1 k0_t1
theorem k0_off27_packedfp8e5m2 : ∀ (i : grid0.Coords) (v4 : BitVec 32) (k0_hw1 : k0_chk1 i v4) (k0_t1 : Fin (k0_t1_loop v4).trips), (Rect.unit (s := S960x768) (k0_off27 v4 k0_t1) S32x128.size (k0_off27_inb i v4 k0_hw1 k0_t1)).PackedRows (EltTy.packing .fp8e5m2) := fun i v4 k0_hw1 k0_t1 => k0_hw1.2.1.2.2.2.2.2.2.2.2.2.2.2.2.2.2.2.2.2.2.2.2.1 k0_t1 (k0_off27_inb i v4 k0_hw1 k0_t1)
theorem k0_off28_inb : ∀ (i : grid0.Coords) (v4 : BitVec 32) (k0_hw1 : k0_chk1 i v4) (k0_t1 : Fin (k0_t1_loop v4).trips), ∀ a, (k0_off28 v4 k0_t1) a + S32x128.size a ≤ S960x768.size a := fun i v4 k0_hw1 k0_t1 => k0_hw1.2.1.2.2.2.2.2.2.2.2.2.2.2.2.2.2.2.2.2.2.2.2.2.1 k0_t1
theorem k0_off28_packedfp8e5m2 : ∀ (i : grid0.Coords) (v4 : BitVec 32) (k0_hw1 : k0_chk1 i v4) (k0_t1 : Fin (k0_t1_loop v4).trips), (Rect.unit (s := S960x768) (k0_off28 v4 k0_t1) S32x128.size (k0_off28_inb i v4 k0_hw1 k0_t1)).PackedRows (EltTy.packing .fp8e5m2) := fun i v4 k0_hw1 k0_t1 => k0_hw1.2.1.2.2.2.2.2.2.2.2.2.2.2.2.2.2.2.2.2.2.2.2.2.2.1 k0_t1 (k0_off28_inb i v4 k0_hw1 k0_t1)
theorem k0_off29_inb : ∀ (i : grid0.Coords) (v4 : BitVec 32) (k0_hw1 : k0_chk1 i v4) (k0_t1 : Fin (k0_t1_loop v4).trips), ∀ a, (k0_off29 v4 k0_t1) a + S32x128.size a ≤ S960x768.size a := fun i v4 k0_hw1 k0_t1 => k0_hw1.2.1.2.2.2.2.2.2.2.2.2.2.2.2.2.2.2.2.2.2.2.2.2.2.2.1 k0_t1
theorem k0_off29_packedfp8e5m2 : ∀ (i : grid0.Coords) (v4 : BitVec 32) (k0_hw1 : k0_chk1 i v4) (k0_t1 : Fin (k0_t1_loop v4).trips), (Rect.unit (s := S960x768) (k0_off29 v4 k0_t1) S32x128.size (k0_off29_inb i v4 k0_hw1 k0_t1)).PackedRows (EltTy.packing .fp8e5m2) := fun i v4 k0_hw1 k0_t1 => k0_hw1.2.1.2.2.2.2.2.2.2.2.2.2.2.2.2.2.2.2.2.2.2.2.2.2.2.2.1 k0_t1 (k0_off29_inb i v4 k0_hw1 k0_t1)
theorem k0_off30_inb : ∀ (i : grid0.Coords) (v4 : BitVec 32) (k0_hw1 : k0_chk1 i v4) (k0_t1 : Fin (k0_t1_loop v4).trips), ∀ a, (k0_off30 v4 k0_t1) a + S32x128.size a ≤ S960x768.size a := fun i v4 k0_hw1 k0_t1 => k0_hw1.2.1.2.2.2.2.2.2.2.2.2.2.2.2.2.2.2.2.2.2.2.2.2.2.2.2.2.1 k0_t1
theorem k0_off30_packedfp8e5m2 : ∀ (i : grid0.Coords) (v4 : BitVec 32) (k0_hw1 : k0_chk1 i v4) (k0_t1 : Fin (k0_t1_loop v4).trips), (Rect.unit (s := S960x768) (k0_off30 v4 k0_t1) S32x128.size (k0_off30_inb i v4 k0_hw1 k0_t1)).PackedRows (EltTy.packing .fp8e5m2) := fun i v4 k0_hw1 k0_t1 => k0_hw1.2.1.2.2.2.2.2.2.2.2.2.2.2.2.2.2.2.2.2.2.2.2.2.2.2.2.2.2.1 k0_t1 (k0_off30_inb i v4 k0_hw1 k0_t1)
theorem k0_off31_inb : ∀ (i : grid0.Coords) (v4 : BitVec 32) (k0_hw1 : k0_chk1 i v4) (k0_t1 : Fin (k0_t1_loop v4).trips), ∀ a, (k0_off31 v4 k0_t1) a + S32x128.size a ≤ S960x768.size a := fun i v4 k0_hw1 k0_t1 => k0_hw1.2.1.2.2.2.2.2.2.2.2.2.2.2.2.2.2.2.2.2.2.2.2.2.2.2.2.2.2.2.1 k0_t1
theorem k0_off31_packedfp8e5m2 : ∀ (i : grid0.Coords) (v4 : BitVec 32) (k0_hw1 : k0_chk1 i v4) (k0_t1 : Fin (k0_t1_loop v4).trips), (Rect.unit (s := S960x768) (k0_off31 v4 k0_t1) S32x128.size (k0_off31_inb i v4 k0_hw1 k0_t1)).PackedRows (EltTy.packing .fp8e5m2) := fun i v4 k0_hw1 k0_t1 => k0_hw1.2.1.2.2.2.2.2.2.2.2.2.2.2.2.2.2.2.2.2.2.2.2.2.2.2.2.2.2.2.2.1 k0_t1 (k0_off31_inb i v4 k0_hw1 k0_t1)
theorem k0_off32_inb : ∀ (i : grid0.Coords) (v4 : BitVec 32) (k0_hw1 : k0_chk1 i v4) (k0_t1 : Fin (k0_t1_loop v4).trips), ∀ a, (k0_off32 v4 k0_t1) a + S32x128.size a ≤ S960x768.size a := fun i v4 k0_hw1 k0_t1 => k0_hw1.2.1.2.2.2.2.2.2.2.2.2.2.2.2.2.2.2.2.2.2.2.2.2.2.2.2.2.2.2.2.2.1 k0_t1
theorem k0_off32_packedfp8e5m2 : ∀ (i : grid0.Coords) (v4 : BitVec 32) (k0_hw1 : k0_chk1 i v4) (k0_t1 : Fin (k0_t1_loop v4).trips), (Rect.unit (s := S960x768) (k0_off32 v4 k0_t1) S32x128.size (k0_off32_inb i v4 k0_hw1 k0_t1)).PackedRows (EltTy.packing .fp8e5m2) := fun i v4 k0_hw1 k0_t1 => k0_hw1.2.1.2.2.2.2.2.2.2.2.2.2.2.2.2.2.2.2.2.2.2.2.2.2.2.2.2.2.2.2.2.2.1 k0_t1 (k0_off32_inb i v4 k0_hw1 k0_t1)
theorem k0_off33_inb : ∀ (i : grid0.Coords) (v4 : BitVec 32) (k0_hw1 : k0_chk1 i v4) (k0_t1 : Fin (k0_t1_loop v4).trips), ∀ a, (k0_off33 v4 k0_t1) a + S32x128.size a ≤ S960x768.size a := fun i v4 k0_hw1 k0_t1 => k0_hw1.2.1.2.2.2.2.2.2.2.2.2.2.2.2.2.2.2.2.2.2.2.2.2.2.2.2.2.2.2.2.2.2.2 k0_t1
theorem k0_off33_packedfp8e5m2 : ∀ (i : grid0.Coords) (v4 : BitVec 32) (k0_hw1 : k0_chk1 i v4) (k0_t1 : Fin (k0_t1_loop v4).trips), (Rect.unit (s := S960x768) (k0_off33 v4 k0_t1) S32x128.size (k0_off33_inb i v4 k0_hw1 k0_t1)).PackedRows (EltTy.packing .fp8e5m2) := fun i v4 k0_hw1 k0_t1 => k0_hw1.2.2.1.1 k0_t1 (k0_off33_inb i v4 k0_hw1 k0_t1)
theorem k0_off34_inb : ∀ (i : grid0.Coords) (v4 : BitVec 32) (k0_hw1 : k0_chk1 i v4) (k0_t1 : Fin (k0_t1_loop v4).trips), ∀ a, (k0_off34 v4 k0_t1) a + S32x128.size a ≤ S960x768.size a := fun i v4 k0_hw1 k0_t1 => k0_hw1.2.2.1.2.1 k0_t1
theorem k0_off34_packedfp8e5m2 : ∀ (i : grid0.Coords) (v4 : BitVec 32) (k0_hw1 : k0_chk1 i v4) (k0_t1 : Fin (k0_t1_loop v4).trips), (Rect.unit (s := S960x768) (k0_off34 v4 k0_t1) S32x128.size (k0_off34_inb i v4 k0_hw1 k0_t1)).PackedRows (EltTy.packing .fp8e5m2) := fun i v4 k0_hw1 k0_t1 => k0_hw1.2.2.1.2.2.1 k0_t1 (k0_off34_inb i v4 k0_hw1 k0_t1)
theorem k0_off35_inb : ∀ (i : grid0.Coords) (v4 : BitVec 32) (k0_hw1 : k0_chk1 i v4) (k0_t1 : Fin (k0_t1_loop v4).trips), ∀ a, (k0_off35 v4 k0_t1) a + S32x128.size a ≤ S960x768.size a := fun i v4 k0_hw1 k0_t1 => k0_hw1.2.2.1.2.2.2.1 k0_t1
theorem k0_off35_packedfp8e5m2 : ∀ (i : grid0.Coords) (v4 : BitVec 32) (k0_hw1 : k0_chk1 i v4) (k0_t1 : Fin (k0_t1_loop v4).trips), (Rect.unit (s := S960x768) (k0_off35 v4 k0_t1) S32x128.size (k0_off35_inb i v4 k0_hw1 k0_t1)).PackedRows (EltTy.packing .fp8e5m2) := fun i v4 k0_hw1 k0_t1 => k0_hw1.2.2.1.2.2.2.2.1 k0_t1 (k0_off35_inb i v4 k0_hw1 k0_t1)
theorem k0_off36_inb : ∀ (i : grid0.Coords) (v4 : BitVec 32) (k0_hw1 : k0_chk1 i v4) (k0_t1 : Fin (k0_t1_loop v4).trips), ∀ a, (k0_off36 v4 k0_t1) a + S32x128.size a ≤ S960x768.size a := fun i v4 k0_hw1 k0_t1 => k0_hw1.2.2.1.2.2.2.2.2.1 k0_t1
theorem k0_off36_packedfp8e5m2 : ∀ (i : grid0.Coords) (v4 : BitVec 32) (k0_hw1 : k0_chk1 i v4) (k0_t1 : Fin (k0_t1_loop v4).trips), (Rect.unit (s := S960x768) (k0_off36 v4 k0_t1) S32x128.size (k0_off36_inb i v4 k0_hw1 k0_t1)).PackedRows (EltTy.packing .fp8e5m2) := fun i v4 k0_hw1 k0_t1 => k0_hw1.2.2.1.2.2.2.2.2.2.1 k0_t1 (k0_off36_inb i v4 k0_hw1 k0_t1)
theorem k0_off37_inb : ∀ (i : grid0.Coords) (v4 : BitVec 32) (k0_hw1 : k0_chk1 i v4) (k0_t1 : Fin (k0_t1_loop v4).trips), ∀ a, (k0_off37 v4 k0_t1) a + S32x128.size a ≤ S960x768.size a := fun i v4 k0_hw1 k0_t1 => k0_hw1.2.2.1.2.2.2.2.2.2.2.1 k0_t1
theorem k0_off37_packedfp8e5m2 : ∀ (i : grid0.Coords) (v4 : BitVec 32) (k0_hw1 : k0_chk1 i v4) (k0_t1 : Fin (k0_t1_loop v4).trips), (Rect.unit (s := S960x768) (k0_off37 v4 k0_t1) S32x128.size (k0_off37_inb i v4 k0_hw1 k0_t1)).PackedRows (EltTy.packing .fp8e5m2) := fun i v4 k0_hw1 k0_t1 => k0_hw1.2.2.1.2.2.2.2.2.2.2.2.1 k0_t1 (k0_off37_inb i v4 k0_hw1 k0_t1)
theorem k0_off38_inb : ∀ (i : grid0.Coords) (v4 : BitVec 32) (k0_hw1 : k0_chk1 i v4) (k0_t1 : Fin (k0_t1_loop v4).trips), ∀ a, (k0_off38 v4 k0_t1) a + S32x128.size a ≤ S960x768.size a := fun i v4 k0_hw1 k0_t1 => k0_hw1.2.2.1.2.2.2.2.2.2.2.2.2.1 k0_t1
theorem k0_off38_packedfp8e5m2 : ∀ (i : grid0.Coords) (v4 : BitVec 32) (k0_hw1 : k0_chk1 i v4) (k0_t1 : Fin (k0_t1_loop v4).trips), (Rect.unit (s := S960x768) (k0_off38 v4 k0_t1) S32x128.size (k0_off38_inb i v4 k0_hw1 k0_t1)).PackedRows (EltTy.packing .fp8e5m2) := fun i v4 k0_hw1 k0_t1 => k0_hw1.2.2.1.2.2.2.2.2.2.2.2.2.2.1 k0_t1 (k0_off38_inb i v4 k0_hw1 k0_t1)
theorem k0_off39_inb : ∀ (i : grid0.Coords) (v4 : BitVec 32) (k0_hw1 : k0_chk1 i v4) (k0_t1 : Fin (k0_t1_loop v4).trips), ∀ a, (k0_off39 v4 k0_t1) a + S32x128.size a ≤ S960x768.size a := fun i v4 k0_hw1 k0_t1 => k0_hw1.2.2.1.2.2.2.2.2.2.2.2.2.2.2.1 k0_t1
theorem k0_off39_packedfp8e5m2 : ∀ (i : grid0.Coords) (v4 : BitVec 32) (k0_hw1 : k0_chk1 i v4) (k0_t1 : Fin (k0_t1_loop v4).trips), (Rect.unit (s := S960x768) (k0_off39 v4 k0_t1) S32x128.size (k0_off39_inb i v4 k0_hw1 k0_t1)).PackedRows (EltTy.packing .fp8e5m2) := fun i v4 k0_hw1 k0_t1 => k0_hw1.2.2.1.2.2.2.2.2.2.2.2.2.2.2.2.1 k0_t1 (k0_off39_inb i v4 k0_hw1 k0_t1)
theorem k0_off40_inb : ∀ (i : grid0.Coords) (v4 : BitVec 32) (k0_hw1 : k0_chk1 i v4) (k0_t1 : Fin (k0_t1_loop v4).trips), ∀ a, (k0_off40 v4 k0_t1) a + S32x128.size a ≤ S960x768.size a := fun i v4 k0_hw1 k0_t1 => k0_hw1.2.2.1.2.2.2.2.2.2.2.2.2.2.2.2.2.1 k0_t1
theorem k0_off40_packedfp8e5m2 : ∀ (i : grid0.Coords) (v4 : BitVec 32) (k0_hw1 : k0_chk1 i v4) (k0_t1 : Fin (k0_t1_loop v4).trips), (Rect.unit (s := S960x768) (k0_off40 v4 k0_t1) S32x128.size (k0_off40_inb i v4 k0_hw1 k0_t1)).PackedRows (EltTy.packing .fp8e5m2) := fun i v4 k0_hw1 k0_t1 => k0_hw1.2.2.1.2.2.2.2.2.2.2.2.2.2.2.2.2.2.1 k0_t1 (k0_off40_inb i v4 k0_hw1 k0_t1)
theorem k0_off41_inb : ∀ (i : grid0.Coords) (v4 : BitVec 32) (k0_hw1 : k0_chk1 i v4) (k0_t1 : Fin (k0_t1_loop v4).trips), ∀ a, (k0_off41 v4 k0_t1) a + S32x128.size a ≤ S960x768.size a := fun i v4 k0_hw1 k0_t1 => k0_hw1.2.2.1.2.2.2.2.2.2.2.2.2.2.2.2.2.2.2.1 k0_t1
theorem k0_off41_packedfp8e5m2 : ∀ (i : grid0.Coords) (v4 : BitVec 32) (k0_hw1 : k0_chk1 i v4) (k0_t1 : Fin (k0_t1_loop v4).trips), (Rect.unit (s := S960x768) (k0_off41 v4 k0_t1) S32x128.size (k0_off41_inb i v4 k0_hw1 k0_t1)).PackedRows (EltTy.packing .fp8e5m2) := fun i v4 k0_hw1 k0_t1 => k0_hw1.2.2.1.2.2.2.2.2.2.2.2.2.2.2.2.2.2.2.2.1 k0_t1 (k0_off41_inb i v4 k0_hw1 k0_t1)
theorem k0_off42_inb : ∀ (i : grid0.Coords) (v4 : BitVec 32) (k0_hw1 : k0_chk1 i v4) (k0_t1 : Fin (k0_t1_loop v4).trips), ∀ a, (k0_off42 v4 k0_t1) a + S32x128.size a ≤ S960x768.size a := fun i v4 k0_hw1 k0_t1 => k0_hw1.2.2.1.2.2.2.2.2.2.2.2.2.2.2.2.2.2.2.2.2.1 k0_t1
theorem k0_off42_packedfp8e5m2 : ∀ (i : grid0.Coords) (v4 : BitVec 32) (k0_hw1 : k0_chk1 i v4) (k0_t1 : Fin (k0_t1_loop v4).trips), (Rect.unit (s := S960x768) (k0_off42 v4 k0_t1) S32x128.size (k0_off42_inb i v4 k0_hw1 k0_t1)).PackedRows (EltTy.packing .fp8e5m2) := fun i v4 k0_hw1 k0_t1 => k0_hw1.2.2.1.2.2.2.2.2.2.2.2.2.2.2.2.2.2.2.2.2.2.1 k0_t1 (k0_off42_inb i v4 k0_hw1 k0_t1)
theorem k0_off43_inb : ∀ (i : grid0.Coords) (v4 : BitVec 32) (k0_hw1 : k0_chk1 i v4) (k0_t1 : Fin (k0_t1_loop v4).trips), ∀ a, (k0_off43 v4 k0_t1) a + S32x128.size a ≤ S960x768.size a := fun i v4 k0_hw1 k0_t1 => k0_hw1.2.2.1.2.2.2.2.2.2.2.2.2.2.2.2.2.2.2.2.2.2.2.1 k0_t1
theorem k0_off43_packedfp8e5m2 : ∀ (i : grid0.Coords) (v4 : BitVec 32) (k0_hw1 : k0_chk1 i v4) (k0_t1 : Fin (k0_t1_loop v4).trips), (Rect.unit (s := S960x768) (k0_off43 v4 k0_t1) S32x128.size (k0_off43_inb i v4 k0_hw1 k0_t1)).PackedRows (EltTy.packing .fp8e5m2) := fun i v4 k0_hw1 k0_t1 => k0_hw1.2.2.1.2.2.2.2.2.2.2.2.2.2.2.2.2.2.2.2.2.2.2.2.1 k0_t1 (k0_off43_inb i v4 k0_hw1 k0_t1)
theorem k0_off44_inb : ∀ (i : grid0.Coords) (v4 : BitVec 32) (k0_hw1 : k0_chk1 i v4) (k0_t1 : Fin (k0_t1_loop v4).trips), ∀ a, (k0_off44 v4 k0_t1) a + S32x128.size a ≤ S960x768.size a := fun i v4 k0_hw1 k0_t1 => k0_hw1.2.2.1.2.2.2.2.2.2.2.2.2.2.2.2.2.2.2.2.2.2.2.2.2.1 k0_t1
theorem k0_off44_packedfp8e5m2 : ∀ (i : grid0.Coords) (v4 : BitVec 32) (k0_hw1 : k0_chk1 i v4) (k0_t1 : Fin (k0_t1_loop v4).trips), (Rect.unit (s := S960x768) (k0_off44 v4 k0_t1) S32x128.size (k0_off44_inb i v4 k0_hw1 k0_t1)).PackedRows (EltTy.packing .fp8e5m2) := fun i v4 k0_hw1 k0_t1 => k0_hw1.2.2.1.2.2.2.2.2.2.2.2.2.2.2.2.2.2.2.2.2.2.2.2.2.2.1 k0_t1 (k0_off44_inb i v4 k0_hw1 k0_t1)
theorem k0_t2_ok : ∀ (i : grid0.Coords) (v4 : BitVec 32) (k0_hw1 : k0_chk1 i v4), (k0_t2_loop v4).OK := fun i v4 k0_hw1 => k0_hw1.2.2.1.2.2.2.2.2.2.2.2.2.2.2.2.2.2.2.2.2.2.2.2.2.2.2.1
theorem k0_mult2_dvd : ∀ (i : grid0.Coords) (v4 : BitVec 32) (k0_hw1 : k0_chk1 i v4) (k0_t2 : Fin (k0_t2_loop v4).trips), 128 ∣ (k0_mult2 v4 k0_t2).toNat := fun i v4 k0_hw1 k0_t2 => k0_hw1.2.2.1.2.2.2.2.2.2.2.2.2.2.2.2.2.2.2.2.2.2.2.2.2.2.2.2.1 k0_t2
theorem k0_off45_inb : ∀ (i : grid0.Coords) (v4 : BitVec 32) (k0_hw1 : k0_chk1 i v4) (k0_t2 : Fin (k0_t2_loop v4).trips), ∀ a, (k0_off45 i v4 k0_t2) a + S1x1x128.size a ≤ S6x27x128.size a := fun i v4 k0_hw1 k0_t2 => k0_hw1.2.2.1.2.2.2.2.2.2.2.2.2.2.2.2.2.2.2.2.2.2.2.2.2.2.2.2.2.1 k0_t2
theorem k0_off46_inb : ∀ (i : grid0.Coords) (v4 : BitVec 32) (k0_hw1 : k0_chk1 i v4) (k0_t2 : Fin (k0_t2_loop v4).trips), ∀ a, (k0_off46 v4 k0_t2) a + S32x128.size a ≤ S384x768.size a := fun i v4 k0_hw1 k0_t2 => k0_hw1.2.2.1.2.2.2.2.2.2.2.2.2.2.2.2.2.2.2.2.2.2.2.2.2.2.2.2.2.2.1 k0_t2
theorem k0_off46_packedbf16 : ∀ (i : grid0.Coords) (v4 : BitVec 32) (k0_hw1 : k0_chk1 i v4) (k0_t2 : Fin (k0_t2_loop v4).trips), (Rect.unit (s := S384x768) (k0_off46 v4 k0_t2) S32x128.size (k0_off46_inb i v4 k0_hw1 k0_t2)).PackedRows (EltTy.packing .bf16) := fun i v4 k0_hw1 k0_t2 => k0_hw1.2.2.1.2.2.2.2.2.2.2.2.2.2.2.2.2.2.2.2.2.2.2.2.2.2.2.2.2.2.2.1 k0_t2 (k0_off46_inb i v4 k0_hw1 k0_t2)
theorem k0_off47_inb : ∀ (i : grid0.Coords) (v4 : BitVec 32) (k0_hw1 : k0_chk1 i v4) (k0_t2 : Fin (k0_t2_loop v4).trips), ∀ a, (k0_off47 v4 k0_t2) a + S32x128.size a ≤ S384x768.size a := fun i v4 k0_hw1 k0_t2 => k0_hw1.2.2.1.2.2.2.2.2.2.2.2.2.2.2.2.2.2.2.2.2.2.2.2.2.2.2.2.2.2.2.2.1 k0_t2
theorem k0_off47_packedbf16 : ∀ (i : grid0.Coords) (v4 : BitVec 32) (k0_hw1 : k0_chk1 i v4) (k0_t2 : Fin (k0_t2_loop v4).trips), (Rect.unit (s := S384x768) (k0_off47 v4 k0_t2) S32x128.size (k0_off47_inb i v4 k0_hw1 k0_t2)).PackedRows (EltTy.packing .bf16) := fun i v4 k0_hw1 k0_t2 => k0_hw1.2.2.1.2.2.2.2.2.2.2.2.2.2.2.2.2.2.2.2.2.2.2.2.2.2.2.2.2.2.2.2.2.1 k0_t2 (k0_off47_inb i v4 k0_hw1 k0_t2)
theorem k0_off48_inb : ∀ (i : grid0.Coords) (v4 : BitVec 32) (k0_hw1 : k0_chk1 i v4) (k0_t2 : Fin (k0_t2_loop v4).trips), ∀ a, (k0_off48 v4 k0_t2) a + S32x128.size a ≤ S384x768.size a := fun i v4 k0_hw1 k0_t2 => k0_hw1.2.2.1.2.2.2.2.2.2.2.2.2.2.2.2.2.2.2.2.2.2.2.2.2.2.2.2.2.2.2.2.2.2.1 k0_t2
theorem k0_off48_packedbf16 : ∀ (i : grid0.Coords) (v4 : BitVec 32) (k0_hw1 : k0_chk1 i v4) (k0_t2 : Fin (k0_t2_loop v4).trips), (Rect.unit (s := S384x768) (k0_off48 v4 k0_t2) S32x128.size (k0_off48_inb i v4 k0_hw1 k0_t2)).PackedRows (EltTy.packing .bf16) := fun i v4 k0_hw1 k0_t2 => k0_hw1.2.2.1.2.2.2.2.2.2.2.2.2.2.2.2.2.2.2.2.2.2.2.2.2.2.2.2.2.2.2.2.2.2.2 k0_t2 (k0_off48_inb i v4 k0_hw1 k0_t2)
theorem k0_off49_inb : ∀ (i : grid0.Coords) (v4 : BitVec 32) (k0_hw1 : k0_chk1 i v4) (k0_t2 : Fin (k0_t2_loop v4).trips), ∀ a, (k0_off49 v4 k0_t2) a + S32x128.size a ≤ S384x768.size a := fun i v4 k0_hw1 k0_t2 => k0_hw1.2.2.2.1.1 k0_t2
theorem k0_off49_packedbf16 : ∀ (i : grid0.Coords) (v4 : BitVec 32) (k0_hw1 : k0_chk1 i v4) (k0_t2 : Fin (k0_t2_loop v4).trips), (Rect.unit (s := S384x768) (k0_off49 v4 k0_t2) S32x128.size (k0_off49_inb i v4 k0_hw1 k0_t2)).PackedRows (EltTy.packing .bf16) := fun i v4 k0_hw1 k0_t2 => k0_hw1.2.2.2.1.2.1 k0_t2 (k0_off49_inb i v4 k0_hw1 k0_t2)
theorem k0_off50_inb : ∀ (i : grid0.Coords) (v4 : BitVec 32) (k0_hw1 : k0_chk1 i v4) (k0_t2 : Fin (k0_t2_loop v4).trips), ∀ a, (k0_off50 v4 k0_t2) a + S32x128.size a ≤ S384x768.size a := fun i v4 k0_hw1 k0_t2 => k0_hw1.2.2.2.1.2.2.1 k0_t2
theorem k0_off50_packedbf16 : ∀ (i : grid0.Coords) (v4 : BitVec 32) (k0_hw1 : k0_chk1 i v4) (k0_t2 : Fin (k0_t2_loop v4).trips), (Rect.unit (s := S384x768) (k0_off50 v4 k0_t2) S32x128.size (k0_off50_inb i v4 k0_hw1 k0_t2)).PackedRows (EltTy.packing .bf16) := fun i v4 k0_hw1 k0_t2 => k0_hw1.2.2.2.1.2.2.2.1 k0_t2 (k0_off50_inb i v4 k0_hw1 k0_t2)
theorem k0_off51_inb : ∀ (i : grid0.Coords) (v4 : BitVec 32) (k0_hw1 : k0_chk1 i v4) (k0_t2 : Fin (k0_t2_loop v4).trips), ∀ a, (k0_off51 v4 k0_t2) a + S32x128.size a ≤ S384x768.size a := fun i v4 k0_hw1 k0_t2 => k0_hw1.2.2.2.1.2.2.2.2.1 k0_t2
theorem k0_off51_packedbf16 : ∀ (i : grid0.Coords) (v4 : BitVec 32) (k0_hw1 : k0_chk1 i v4) (k0_t2 : Fin (k0_t2_loop v4).trips), (Rect.unit (s := S384x768) (k0_off51 v4 k0_t2) S32x128.size (k0_off51_inb i v4 k0_hw1 k0_t2)).PackedRows (EltTy.packing .bf16) := fun i v4 k0_hw1 k0_t2 => k0_hw1.2.2.2.1.2.2.2.2.2.1 k0_t2 (k0_off51_inb i v4 k0_hw1 k0_t2)
theorem k0_off52_inb : ∀ (i : grid0.Coords) (v4 : BitVec 32) (k0_hw1 : k0_chk1 i v4) (k0_t2 : Fin (k0_t2_loop v4).trips), ∀ a, (k0_off52 v4 k0_t2) a + S32x128.size a ≤ S384x768.size a := fun i v4 k0_hw1 k0_t2 => k0_hw1.2.2.2.1.2.2.2.2.2.2.1 k0_t2
theorem k0_off52_packedbf16 : ∀ (i : grid0.Coords) (v4 : BitVec 32) (k0_hw1 : k0_chk1 i v4) (k0_t2 : Fin (k0_t2_loop v4).trips), (Rect.unit (s := S384x768) (k0_off52 v4 k0_t2) S32x128.size (k0_off52_inb i v4 k0_hw1 k0_t2)).PackedRows (EltTy.packing .bf16) := fun i v4 k0_hw1 k0_t2 => k0_hw1.2.2.2.1.2.2.2.2.2.2.2.1 k0_t2 (k0_off52_inb i v4 k0_hw1 k0_t2)
theorem k0_off53_inb : ∀ (i : grid0.Coords) (v4 : BitVec 32) (k0_hw1 : k0_chk1 i v4) (k0_t2 : Fin (k0_t2_loop v4).trips), ∀ a, (k0_off53 v4 k0_t2) a + S32x128.size a ≤ S384x768.size a := fun i v4 k0_hw1 k0_t2 => k0_hw1.2.2.2.1.2.2.2.2.2.2.2.2.1 k0_t2
theorem k0_off53_packedbf16 : ∀ (i : grid0.Coords) (v4 : BitVec 32) (k0_hw1 : k0_chk1 i v4) (k0_t2 : Fin (k0_t2_loop v4).trips), (Rect.unit (s := S384x768) (k0_off53 v4 k0_t2) S32x128.size (k0_off53_inb i v4 k0_hw1 k0_t2)).PackedRows (EltTy.packing .bf16) := fun i v4 k0_hw1 k0_t2 => k0_hw1.2.2.2.1.2.2.2.2.2.2.2.2.2.1 k0_t2 (k0_off53_inb i v4 k0_hw1 k0_t2)
theorem k0_off54_inb : ∀ (i : grid0.Coords) (v4 : BitVec 32) (k0_hw1 : k0_chk1 i v4) (k0_t2 : Fin (k0_t2_loop v4).trips), ∀ a, (k0_off54 v4 k0_t2) a + S32x128.size a ≤ S384x768.size a := fun i v4 k0_hw1 k0_t2 => k0_hw1.2.2.2.1.2.2.2.2.2.2.2.2.2.2.1 k0_t2
theorem k0_off54_packedbf16 : ∀ (i : grid0.Coords) (v4 : BitVec 32) (k0_hw1 : k0_chk1 i v4) (k0_t2 : Fin (k0_t2_loop v4).trips), (Rect.unit (s := S384x768) (k0_off54 v4 k0_t2) S32x128.size (k0_off54_inb i v4 k0_hw1 k0_t2)).PackedRows (EltTy.packing .bf16) := fun i v4 k0_hw1 k0_t2 => k0_hw1.2.2.2.1.2.2.2.2.2.2.2.2.2.2.2.1 k0_t2 (k0_off54_inb i v4 k0_hw1 k0_t2)
theorem k0_off55_inb : ∀ (i : grid0.Coords) (v4 : BitVec 32) (k0_hw1 : k0_chk1 i v4) (k0_t2 : Fin (k0_t2_loop v4).trips), ∀ a, (k0_off55 v4 k0_t2) a + S32x128.size a ≤ S384x768.size a := fun i v4 k0_hw1 k0_t2 => k0_hw1.2.2.2.1.2.2.2.2.2.2.2.2.2.2.2.2.1 k0_t2
theorem k0_off55_packedbf16 : ∀ (i : grid0.Coords) (v4 : BitVec 32) (k0_hw1 : k0_chk1 i v4) (k0_t2 : Fin (k0_t2_loop v4).trips), (Rect.unit (s := S384x768) (k0_off55 v4 k0_t2) S32x128.size (k0_off55_inb i v4 k0_hw1 k0_t2)).PackedRows (EltTy.packing .bf16) := fun i v4 k0_hw1 k0_t2 => k0_hw1.2.2.2.1.2.2.2.2.2.2.2.2.2.2.2.2.2.1 k0_t2 (k0_off55_inb i v4 k0_hw1 k0_t2)
theorem k0_off56_inb : ∀ (i : grid0.Coords) (v4 : BitVec 32) (k0_hw1 : k0_chk1 i v4) (k0_t2 : Fin (k0_t2_loop v4).trips), ∀ a, (k0_off56 v4 k0_t2) a + S32x128.size a ≤ S384x768.size a := fun i v4 k0_hw1 k0_t2 => k0_hw1.2.2.2.1.2.2.2.2.2.2.2.2.2.2.2.2.2.2.1 k0_t2
theorem k0_off56_packedbf16 : ∀ (i : grid0.Coords) (v4 : BitVec 32) (k0_hw1 : k0_chk1 i v4) (k0_t2 : Fin (k0_t2_loop v4).trips), (Rect.unit (s := S384x768) (k0_off56 v4 k0_t2) S32x128.size (k0_off56_inb i v4 k0_hw1 k0_t2)).PackedRows (EltTy.packing .bf16) := fun i v4 k0_hw1 k0_t2 => k0_hw1.2.2.2.1.2.2.2.2.2.2.2.2.2.2.2.2.2.2.2.1 k0_t2 (k0_off56_inb i v4 k0_hw1 k0_t2)
theorem k0_off57_inb : ∀ (i : grid0.Coords) (v4 : BitVec 32) (k0_hw1 : k0_chk1 i v4) (k0_t2 : Fin (k0_t2_loop v4).trips), ∀ a, (k0_off57 v4 k0_t2) a + S32x128.size a ≤ S384x768.size a := fun i v4 k0_hw1 k0_t2 => k0_hw1.2.2.2.1.2.2.2.2.2.2.2.2.2.2.2.2.2.2.2.2.1 k0_t2
theorem k0_off57_packedbf16 : ∀ (i : grid0.Coords) (v4 : BitVec 32) (k0_hw1 : k0_chk1 i v4) (k0_t2 : Fin (k0_t2_loop v4).trips), (Rect.unit (s := S384x768) (k0_off57 v4 k0_t2) S32x128.size (k0_off57_inb i v4 k0_hw1 k0_t2)).PackedRows (EltTy.packing .bf16) := fun i v4 k0_hw1 k0_t2 => k0_hw1.2.2.2.1.2.2.2.2.2.2.2.2.2.2.2.2.2.2.2.2.2.1 k0_t2 (k0_off57_inb i v4 k0_hw1 k0_t2)
theorem k0_off58_inb : ∀ (i : grid0.Coords) (v4 : BitVec 32) (k0_hw1 : k0_chk1 i v4) (k0_t2 : Fin (k0_t2_loop v4).trips), ∀ a, (k0_off58 v4 k0_t2) a + S32x128.size a ≤ S960x768.size a := fun i v4 k0_hw1 k0_t2 => k0_hw1.2.2.2.1.2.2.2.2.2.2.2.2.2.2.2.2.2.2.2.2.2.2.1 k0_t2
theorem k0_off58_packedfp8e5m2 : ∀ (i : grid0.Coords) (v4 : BitVec 32) (k0_hw1 : k0_chk1 i v4) (k0_t2 : Fin (k0_t2_loop v4).trips), (Rect.unit (s := S960x768) (k0_off58 v4 k0_t2) S32x128.size (k0_off58_inb i v4 k0_hw1 k0_t2)).PackedRows (EltTy.packing .fp8e5m2) := fun i v4 k0_hw1 k0_t2 => k0_hw1.2.2.2.1.2.2.2.2.2.2.2.2.2.2.2.2.2.2.2.2.2.2.2.1 k0_t2 (k0_off58_inb i v4 k0_hw1 k0_t2)
theorem k0_off59_inb : ∀ (i : grid0.Coords) (v4 : BitVec 32) (k0_hw1 : k0_chk1 i v4) (k0_t2 : Fin (k0_t2_loop v4).trips), ∀ a, (k0_off59 v4 k0_t2) a + S32x128.size a ≤ S960x768.size a := fun i v4 k0_hw1 k0_t2 => k0_hw1.2.2.2.1.2.2.2.2.2.2.2.2.2.2.2.2.2.2.2.2.2.2.2.2.1 k0_t2
theorem k0_off59_packedfp8e5m2 : ∀ (i : grid0.Coords) (v4 : BitVec 32) (k0_hw1 : k0_chk1 i v4) (k0_t2 : Fin (k0_t2_loop v4).trips), (Rect.unit (s := S960x768) (k0_off59 v4 k0_t2) S32x128.size (k0_off59_inb i v4 k0_hw1 k0_t2)).PackedRows (EltTy.packing .fp8e5m2) := fun i v4 k0_hw1 k0_t2 => k0_hw1.2.2.2.1.2.2.2.2.2.2.2.2.2.2.2.2.2.2.2.2.2.2.2.2.2.1 k0_t2 (k0_off59_inb i v4 k0_hw1 k0_t2)
theorem k0_off60_inb : ∀ (i : grid0.Coords) (v4 : BitVec 32) (k0_hw1 : k0_chk1 i v4) (k0_t2 : Fin (k0_t2_loop v4).trips), ∀ a, (k0_off60 v4 k0_t2) a + S32x128.size a ≤ S960x768.size a := fun i v4 k0_hw1 k0_t2 => k0_hw1.2.2.2.1.2.2.2.2.2.2.2.2.2.2.2.2.2.2.2.2.2.2.2.2.2.2.1 k0_t2
theorem k0_off60_packedfp8e5m2 : ∀ (i : grid0.Coords) (v4 : BitVec 32) (k0_hw1 : k0_chk1 i v4) (k0_t2 : Fin (k0_t2_loop v4).trips), (Rect.unit (s := S960x768) (k0_off60 v4 k0_t2) S32x128.size (k0_off60_inb i v4 k0_hw1 k0_t2)).PackedRows (EltTy.packing .fp8e5m2) := fun i v4 k0_hw1 k0_t2 => k0_hw1.2.2.2.1.2.2.2.2.2.2.2.2.2.2.2.2.2.2.2.2.2.2.2.2.2.2.2.1 k0_t2 (k0_off60_inb i v4 k0_hw1 k0_t2)
theorem k0_off61_inb : ∀ (i : grid0.Coords) (v4 : BitVec 32) (k0_hw1 : k0_chk1 i v4) (k0_t2 : Fin (k0_t2_loop v4).trips), ∀ a, (k0_off61 v4 k0_t2) a + S32x128.size a ≤ S960x768.size a := fun i v4 k0_hw1 k0_t2 => k0_hw1.2.2.2.1.2.2.2.2.2.2.2.2.2.2.2.2.2.2.2.2.2.2.2.2.2.2.2.2.1 k0_t2
theorem k0_off61_packedfp8e5m2 : ∀ (i : grid0.Coords) (v4 : BitVec 32) (k0_hw1 : k0_chk1 i v4) (k0_t2 : Fin (k0_t2_loop v4).trips), (Rect.unit (s := S960x768) (k0_off61 v4 k0_t2) S32x128.size (k0_off61_inb i v4 k0_hw1 k0_t2)).PackedRows (EltTy.packing .fp8e5m2) := fun i v4 k0_hw1 k0_t2 => k0_hw1.2.2.2.1.2.2.2.2.2.2.2.2.2.2.2.2.2.2.2.2.2.2.2.2.2.2.2.2.2.1 k0_t2 (k0_off61_inb i v4 k0_hw1 k0_t2)
theorem k0_off62_inb : ∀ (i : grid0.Coords) (v4 : BitVec 32) (k0_hw1 : k0_chk1 i v4) (k0_t2 : Fin (k0_t2_loop v4).trips), ∀ a, (k0_off62 v4 k0_t2) a + S32x128.size a ≤ S960x768.size a := fun i v4 k0_hw1 k0_t2 => k0_hw1.2.2.2.1.2.2.2.2.2.2.2.2.2.2.2.2.2.2.2.2.2.2.2.2.2.2.2.2.2.2.1 k0_t2
theorem k0_off62_packedfp8e5m2 : ∀ (i : grid0.Coords) (v4 : BitVec 32) (k0_hw1 : k0_chk1 i v4) (k0_t2 : Fin (k0_t2_loop v4).trips), (Rect.unit (s := S960x768) (k0_off62 v4 k0_t2) S32x128.size (k0_off62_inb i v4 k0_hw1 k0_t2)).PackedRows (EltTy.packing .fp8e5m2) := fun i v4 k0_hw1 k0_t2 => k0_hw1.2.2.2.1.2.2.2.2.2.2.2.2.2.2.2.2.2.2.2.2.2.2.2.2.2.2.2.2.2.2.2.1 k0_t2 (k0_off62_inb i v4 k0_hw1 k0_t2)
theorem k0_off63_inb : ∀ (i : grid0.Coords) (v4 : BitVec 32) (k0_hw1 : k0_chk1 i v4) (k0_t2 : Fin (k0_t2_loop v4).trips), ∀ a, (k0_off63 v4 k0_t2) a + S32x128.size a ≤ S960x768.size a := fun i v4 k0_hw1 k0_t2 => k0_hw1.2.2.2.1.2.2.2.2.2.2.2.2.2.2.2.2.2.2.2.2.2.2.2.2.2.2.2.2.2.2.2.2.1 k0_t2
theorem k0_off63_packedfp8e5m2 : ∀ (i : grid0.Coords) (v4 : BitVec 32) (k0_hw1 : k0_chk1 i v4) (k0_t2 : Fin (k0_t2_loop v4).trips), (Rect.unit (s := S960x768) (k0_off63 v4 k0_t2) S32x128.size (k0_off63_inb i v4 k0_hw1 k0_t2)).PackedRows (EltTy.packing .fp8e5m2) := fun i v4 k0_hw1 k0_t2 => k0_hw1.2.2.2.1.2.2.2.2.2.2.2.2.2.2.2.2.2.2.2.2.2.2.2.2.2.2.2.2.2.2.2.2.2.1 k0_t2 (k0_off63_inb i v4 k0_hw1 k0_t2)
theorem k0_off64_inb : ∀ (i : grid0.Coords) (v4 : BitVec 32) (k0_hw1 : k0_chk1 i v4) (k0_t2 : Fin (k0_t2_loop v4).trips), ∀ a, (k0_off64 v4 k0_t2) a + S32x128.size a ≤ S960x768.size a := fun i v4 k0_hw1 k0_t2 => k0_hw1.2.2.2.1.2.2.2.2.2.2.2.2.2.2.2.2.2.2.2.2.2.2.2.2.2.2.2.2.2.2.2.2.2.2.1 k0_t2
theorem k0_off64_packedfp8e5m2 : ∀ (i : grid0.Coords) (v4 : BitVec 32) (k0_hw1 : k0_chk1 i v4) (k0_t2 : Fin (k0_t2_loop v4).trips), (Rect.unit (s := S960x768) (k0_off64 v4 k0_t2) S32x128.size (k0_off64_inb i v4 k0_hw1 k0_t2)).PackedRows (EltTy.packing .fp8e5m2) := fun i v4 k0_hw1 k0_t2 => k0_hw1.2.2.2.1.2.2.2.2.2.2.2.2.2.2.2.2.2.2.2.2.2.2.2.2.2.2.2.2.2.2.2.2.2.2.2 k0_t2 (k0_off64_inb i v4 k0_hw1 k0_t2)
theorem k0_off65_inb : ∀ (i : grid0.Coords) (v4 : BitVec 32) (k0_hw1 : k0_chk1 i v4) (k0_t2 : Fin (k0_t2_loop v4).trips), ∀ a, (k0_off65 v4 k0_t2) a + S32x128.size a ≤ S960x768.size a := fun i v4 k0_hw1 k0_t2 => k0_hw1.2.2.2.2.1.1 k0_t2
theorem k0_off65_packedfp8e5m2 : ∀ (i : grid0.Coords) (v4 : BitVec 32) (k0_hw1 : k0_chk1 i v4) (k0_t2 : Fin (k0_t2_loop v4).trips), (Rect.unit (s := S960x768) (k0_off65 v4 k0_t2) S32x128.size (k0_off65_inb i v4 k0_hw1 k0_t2)).PackedRows (EltTy.packing .fp8e5m2) := fun i v4 k0_hw1 k0_t2 => k0_hw1.2.2.2.2.1.2.1 k0_t2 (k0_off65_inb i v4 k0_hw1 k0_t2)
theorem k0_off66_inb : ∀ (i : grid0.Coords) (v4 : BitVec 32) (k0_hw1 : k0_chk1 i v4) (k0_t2 : Fin (k0_t2_loop v4).trips), ∀ a, (k0_off66 v4 k0_t2) a + S32x128.size a ≤ S960x768.size a := fun i v4 k0_hw1 k0_t2 => k0_hw1.2.2.2.2.1.2.2.1 k0_t2
theorem k0_off66_packedfp8e5m2 : ∀ (i : grid0.Coords) (v4 : BitVec 32) (k0_hw1 : k0_chk1 i v4) (k0_t2 : Fin (k0_t2_loop v4).trips), (Rect.unit (s := S960x768) (k0_off66 v4 k0_t2) S32x128.size (k0_off66_inb i v4 k0_hw1 k0_t2)).PackedRows (EltTy.packing .fp8e5m2) := fun i v4 k0_hw1 k0_t2 => k0_hw1.2.2.2.2.1.2.2.2.1 k0_t2 (k0_off66_inb i v4 k0_hw1 k0_t2)
theorem k0_off67_inb : ∀ (i : grid0.Coords) (v4 : BitVec 32) (k0_hw1 : k0_chk1 i v4) (k0_t2 : Fin (k0_t2_loop v4).trips), ∀ a, (k0_off67 v4 k0_t2) a + S32x128.size a ≤ S960x768.size a := fun i v4 k0_hw1 k0_t2 => k0_hw1.2.2.2.2.1.2.2.2.2.1 k0_t2
theorem k0_off67_packedfp8e5m2 : ∀ (i : grid0.Coords) (v4 : BitVec 32) (k0_hw1 : k0_chk1 i v4) (k0_t2 : Fin (k0_t2_loop v4).trips), (Rect.unit (s := S960x768) (k0_off67 v4 k0_t2) S32x128.size (k0_off67_inb i v4 k0_hw1 k0_t2)).PackedRows (EltTy.packing .fp8e5m2) := fun i v4 k0_hw1 k0_t2 => k0_hw1.2.2.2.2.1.2.2.2.2.2.1 k0_t2 (k0_off67_inb i v4 k0_hw1 k0_t2)
theorem k0_off68_inb : ∀ (i : grid0.Coords) (v4 : BitVec 32) (k0_hw1 : k0_chk1 i v4) (k0_t2 : Fin (k0_t2_loop v4).trips), ∀ a, (k0_off68 v4 k0_t2) a + S32x128.size a ≤ S960x768.size a := fun i v4 k0_hw1 k0_t2 => k0_hw1.2.2.2.2.1.2.2.2.2.2.2.1 k0_t2
theorem k0_off68_packedfp8e5m2 : ∀ (i : grid0.Coords) (v4 : BitVec 32) (k0_hw1 : k0_chk1 i v4) (k0_t2 : Fin (k0_t2_loop v4).trips), (Rect.unit (s := S960x768) (k0_off68 v4 k0_t2) S32x128.size (k0_off68_inb i v4 k0_hw1 k0_t2)).PackedRows (EltTy.packing .fp8e5m2) := fun i v4 k0_hw1 k0_t2 => k0_hw1.2.2.2.2.1.2.2.2.2.2.2.2.1 k0_t2 (k0_off68_inb i v4 k0_hw1 k0_t2)
theorem k0_off69_inb : ∀ (i : grid0.Coords) (v4 : BitVec 32) (k0_hw1 : k0_chk1 i v4) (k0_t2 : Fin (k0_t2_loop v4).trips), ∀ a, (k0_off69 v4 k0_t2) a + S32x128.size a ≤ S960x768.size a := fun i v4 k0_hw1 k0_t2 => k0_hw1.2.2.2.2.1.2.2.2.2.2.2.2.2.1 k0_t2
theorem k0_off69_packedfp8e5m2 : ∀ (i : grid0.Coords) (v4 : BitVec 32) (k0_hw1 : k0_chk1 i v4) (k0_t2 : Fin (k0_t2_loop v4).trips), (Rect.unit (s := S960x768) (k0_off69 v4 k0_t2) S32x128.size (k0_off69_inb i v4 k0_hw1 k0_t2)).PackedRows (EltTy.packing .fp8e5m2) := fun i v4 k0_hw1 k0_t2 => k0_hw1.2.2.2.2.1.2.2.2.2.2.2.2.2.2.1 k0_t2 (k0_off69_inb i v4 k0_hw1 k0_t2)
theorem k0_off70_inb : ∀ (i : grid0.Coords) (v4 : BitVec 32) (k0_hw1 : k0_chk1 i v4) (k0_t2 : Fin (k0_t2_loop v4).trips), ∀ a, (k0_off70 v4 k0_t2) a + S32x128.size a ≤ S960x768.size a := fun i v4 k0_hw1 k0_t2 => k0_hw1.2.2.2.2.1.2.2.2.2.2.2.2.2.2.2.1 k0_t2
theorem k0_off70_packedfp8e5m2 : ∀ (i : grid0.Coords) (v4 : BitVec 32) (k0_hw1 : k0_chk1 i v4) (k0_t2 : Fin (k0_t2_loop v4).trips), (Rect.unit (s := S960x768) (k0_off70 v4 k0_t2) S32x128.size (k0_off70_inb i v4 k0_hw1 k0_t2)).PackedRows (EltTy.packing .fp8e5m2) := fun i v4 k0_hw1 k0_t2 => k0_hw1.2.2.2.2.1.2.2.2.2.2.2.2.2.2.2.2.1 k0_t2 (k0_off70_inb i v4 k0_hw1 k0_t2)
theorem k0_off71_inb : ∀ (i : grid0.Coords) (v4 : BitVec 32) (k0_hw1 : k0_chk1 i v4) (k0_t2 : Fin (k0_t2_loop v4).trips), ∀ a, (k0_off71 v4 k0_t2) a + S32x128.size a ≤ S960x768.size a := fun i v4 k0_hw1 k0_t2 => k0_hw1.2.2.2.2.1.2.2.2.2.2.2.2.2.2.2.2.2.1 k0_t2
theorem k0_off71_packedfp8e5m2 : ∀ (i : grid0.Coords) (v4 : BitVec 32) (k0_hw1 : k0_chk1 i v4) (k0_t2 : Fin (k0_t2_loop v4).trips), (Rect.unit (s := S960x768) (k0_off71 v4 k0_t2) S32x128.size (k0_off71_inb i v4 k0_hw1 k0_t2)).PackedRows (EltTy.packing .fp8e5m2) := fun i v4 k0_hw1 k0_t2 => k0_hw1.2.2.2.2.1.2.2.2.2.2.2.2.2.2.2.2.2.2.1 k0_t2 (k0_off71_inb i v4 k0_hw1 k0_t2)
theorem k0_off72_inb : ∀ (i : grid0.Coords) (v4 : BitVec 32) (k0_hw1 : k0_chk1 i v4) (k0_t2 : Fin (k0_t2_loop v4).trips), ∀ a, (k0_off72 v4 k0_t2) a + S32x128.size a ≤ S960x768.size a := fun i v4 k0_hw1 k0_t2 => k0_hw1.2.2.2.2.1.2.2.2.2.2.2.2.2.2.2.2.2.2.2.1 k0_t2
theorem k0_off72_packedfp8e5m2 : ∀ (i : grid0.Coords) (v4 : BitVec 32) (k0_hw1 : k0_chk1 i v4) (k0_t2 : Fin (k0_t2_loop v4).trips), (Rect.unit (s := S960x768) (k0_off72 v4 k0_t2) S32x128.size (k0_off72_inb i v4 k0_hw1 k0_t2)).PackedRows (EltTy.packing .fp8e5m2) := fun i v4 k0_hw1 k0_t2 => k0_hw1.2.2.2.2.1.2.2.2.2.2.2.2.2.2.2.2.2.2.2.2.1 k0_t2 (k0_off72_inb i v4 k0_hw1 k0_t2)
theorem k0_off73_inb : ∀ (i : grid0.Coords) (v4 : BitVec 32) (k0_hw1 : k0_chk1 i v4) (k0_t2 : Fin (k0_t2_loop v4).trips), ∀ a, (k0_off73 v4 k0_t2) a + S32x128.size a ≤ S960x768.size a := fun i v4 k0_hw1 k0_t2 => k0_hw1.2.2.2.2.1.2.2.2.2.2.2.2.2.2.2.2.2.2.2.2.2.1 k0_t2
theorem k0_off73_packedfp8e5m2 : ∀ (i : grid0.Coords) (v4 : BitVec 32) (k0_hw1 : k0_chk1 i v4) (k0_t2 : Fin (k0_t2_loop v4).trips), (Rect.unit (s := S960x768) (k0_off73 v4 k0_t2) S32x128.size (k0_off73_inb i v4 k0_hw1 k0_t2)).PackedRows (EltTy.packing .fp8e5m2) := fun i v4 k0_hw1 k0_t2 => k0_hw1.2.2.2.2.1.2.2.2.2.2.2.2.2.2.2.2.2.2.2.2.2.2.1 k0_t2 (k0_off73_inb i v4 k0_hw1 k0_t2)
theorem k0_off74_inb : ∀ (i : grid0.Coords) (v4 : BitVec 32) (k0_hw1 : k0_chk1 i v4) (k0_t2 : Fin (k0_t2_loop v4).trips), ∀ a, (k0_off74 v4 k0_t2) a + S32x128.size a ≤ S960x768.size a := fun i v4 k0_hw1 k0_t2 => k0_hw1.2.2.2.2.1.2.2.2.2.2.2.2.2.2.2.2.2.2.2.2.2.2.2.1 k0_t2
theorem k0_off74_packedfp8e5m2 : ∀ (i : grid0.Coords) (v4 : BitVec 32) (k0_hw1 : k0_chk1 i v4) (k0_t2 : Fin (k0_t2_loop v4).trips), (Rect.unit (s := S960x768) (k0_off74 v4 k0_t2) S32x128.size (k0_off74_inb i v4 k0_hw1 k0_t2)).PackedRows (EltTy.packing .fp8e5m2) := fun i v4 k0_hw1 k0_t2 => k0_hw1.2.2.2.2.1.2.2.2.2.2.2.2.2.2.2.2.2.2.2.2.2.2.2.2.1 k0_t2 (k0_off74_inb i v4 k0_hw1 k0_t2)
theorem k0_off75_inb : ∀ (i : grid0.Coords) (v4 : BitVec 32) (k0_hw1 : k0_chk1 i v4) (k0_t2 : Fin (k0_t2_loop v4).trips), ∀ a, (k0_off75 v4 k0_t2) a + S32x128.size a ≤ S960x768.size a := fun i v4 k0_hw1 k0_t2 => k0_hw1.2.2.2.2.1.2.2.2.2.2.2.2.2.2.2.2.2.2.2.2.2.2.2.2.2.1 k0_t2
theorem k0_off75_packedfp8e5m2 : ∀ (i : grid0.Coords) (v4 : BitVec 32) (k0_hw1 : k0_chk1 i v4) (k0_t2 : Fin (k0_t2_loop v4).trips), (Rect.unit (s := S960x768) (k0_off75 v4 k0_t2) S32x128.size (k0_off75_inb i v4 k0_hw1 k0_t2)).PackedRows (EltTy.packing .fp8e5m2) := fun i v4 k0_hw1 k0_t2 => k0_hw1.2.2.2.2.1.2.2.2.2.2.2.2.2.2.2.2.2.2.2.2.2.2.2.2.2.2.1 k0_t2 (k0_off75_inb i v4 k0_hw1 k0_t2)
theorem k0_off76_inb : ∀ (i : grid0.Coords) (v4 : BitVec 32) (k0_hw1 : k0_chk1 i v4) (k0_t2 : Fin (k0_t2_loop v4).trips), ∀ a, (k0_off76 v4 k0_t2) a + S32x128.size a ≤ S960x768.size a := fun i v4 k0_hw1 k0_t2 => k0_hw1.2.2.2.2.1.2.2.2.2.2.2.2.2.2.2.2.2.2.2.2.2.2.2.2.2.2.2.1 k0_t2
theorem k0_off76_packedfp8e5m2 : ∀ (i : grid0.Coords) (v4 : BitVec 32) (k0_hw1 : k0_chk1 i v4) (k0_t2 : Fin (k0_t2_loop v4).trips), (Rect.unit (s := S960x768) (k0_off76 v4 k0_t2) S32x128.size (k0_off76_inb i v4 k0_hw1 k0_t2)).PackedRows (EltTy.packing .fp8e5m2) := fun i v4 k0_hw1 k0_t2 => k0_hw1.2.2.2.2.1.2.2.2.2.2.2.2.2.2.2.2.2.2.2.2.2.2.2.2.2.2.2.2.1 k0_t2 (k0_off76_inb i v4 k0_hw1 k0_t2)
theorem k0_off77_inb : ∀ (i : grid0.Coords) (v4 : BitVec 32) (k0_hw1 : k0_chk1 i v4) (k0_t2 : Fin (k0_t2_loop v4).trips), ∀ a, (k0_off77 v4 k0_t2) a + S32x128.size a ≤ S960x768.size a := fun i v4 k0_hw1 k0_t2 => k0_hw1.2.2.2.2.1.2.2.2.2.2.2.2.2.2.2.2.2.2.2.2.2.2.2.2.2.2.2.2.2.1 k0_t2
theorem k0_off77_packedfp8e5m2 : ∀ (i : grid0.Coords) (v4 : BitVec 32) (k0_hw1 : k0_chk1 i v4) (k0_t2 : Fin (k0_t2_loop v4).trips), (Rect.unit (s := S960x768) (k0_off77 v4 k0_t2) S32x128.size (k0_off77_inb i v4 k0_hw1 k0_t2)).PackedRows (EltTy.packing .fp8e5m2) := fun i v4 k0_hw1 k0_t2 => k0_hw1.2.2.2.2.1.2.2.2.2.2.2.2.2.2.2.2.2.2.2.2.2.2.2.2.2.2.2.2.2.2.1 k0_t2 (k0_off77_inb i v4 k0_hw1 k0_t2)
theorem k0_off78_inb : ∀ (i : grid0.Coords) (v4 : BitVec 32) (k0_hw1 : k0_chk1 i v4) (k0_t2 : Fin (k0_t2_loop v4).trips), ∀ a, (k0_off78 v4 k0_t2) a + S32x128.size a ≤ S960x768.size a := fun i v4 k0_hw1 k0_t2 => k0_hw1.2.2.2.2.1.2.2.2.2.2.2.2.2.2.2.2.2.2.2.2.2.2.2.2.2.2.2.2.2.2.2.1 k0_t2
theorem k0_off78_packedfp8e5m2 : ∀ (i : grid0.Coords) (v4 : BitVec 32) (k0_hw1 : k0_chk1 i v4) (k0_t2 : Fin (k0_t2_loop v4).trips), (Rect.unit (s := S960x768) (k0_off78 v4 k0_t2) S32x128.size (k0_off78_inb i v4 k0_hw1 k0_t2)).PackedRows (EltTy.packing .fp8e5m2) := fun i v4 k0_hw1 k0_t2 => k0_hw1.2.2.2.2.1.2.2.2.2.2.2.2.2.2.2.2.2.2.2.2.2.2.2.2.2.2.2.2.2.2.2.2.1 k0_t2 (k0_off78_inb i v4 k0_hw1 k0_t2)
theorem k0_off79_inb : ∀ (i : grid0.Coords) (v4 : BitVec 32) (k0_hw1 : k0_chk1 i v4) (k0_t2 : Fin (k0_t2_loop v4).trips), ∀ a, (k0_off79 v4 k0_t2) a + S32x128.size a ≤ S960x768.size a := fun i v4 k0_hw1 k0_t2 => k0_hw1.2.2.2.2.1.2.2.2.2.2.2.2.2.2.2.2.2.2.2.2.2.2.2.2.2.2.2.2.2.2.2.2.2.1 k0_t2
theorem k0_off79_packedfp8e5m2 : ∀ (i : grid0.Coords) (v4 : BitVec 32) (k0_hw1 : k0_chk1 i v4) (k0_t2 : Fin (k0_t2_loop v4).trips), (Rect.unit (s := S960x768) (k0_off79 v4 k0_t2) S32x128.size (k0_off79_inb i v4 k0_hw1 k0_t2)).PackedRows (EltTy.packing .fp8e5m2) := fun i v4 k0_hw1 k0_t2 => k0_hw1.2.2.2.2.1.2.2.2.2.2.2.2.2.2.2.2.2.2.2.2.2.2.2.2.2.2.2.2.2.2.2.2.2.2.1 k0_t2 (k0_off79_inb i v4 k0_hw1 k0_t2)
theorem k0_off80_inb : ∀ (i : grid0.Coords) (v4 : BitVec 32) (k0_hw1 : k0_chk1 i v4) (k0_t2 : Fin (k0_t2_loop v4).trips), ∀ a, (k0_off80 v4 k0_t2) a + S32x128.size a ≤ S960x768.size a := fun i v4 k0_hw1 k0_t2 => k0_hw1.2.2.2.2.1.2.2.2.2.2.2.2.2.2.2.2.2.2.2.2.2.2.2.2.2.2.2.2.2.2.2.2.2.2.2.1 k0_t2
theorem k0_off80_packedfp8e5m2 : ∀ (i : grid0.Coords) (v4 : BitVec 32) (k0_hw1 : k0_chk1 i v4) (k0_t2 : Fin (k0_t2_loop v4).trips), (Rect.unit (s := S960x768) (k0_off80 v4 k0_t2) S32x128.size (k0_off80_inb i v4 k0_hw1 k0_t2)).PackedRows (EltTy.packing .fp8e5m2) := fun i v4 k0_hw1 k0_t2 => k0_hw1.2.2.2.2.1.2.2.2.2.2.2.2.2.2.2.2.2.2.2.2.2.2.2.2.2.2.2.2.2.2.2.2.2.2.2.2 k0_t2 (k0_off80_inb i v4 k0_hw1 k0_t2)
theorem k0_off81_inb : ∀ (i : grid0.Coords) (v4 : BitVec 32) (k0_hw1 : k0_chk1 i v4) (k0_t2 : Fin (k0_t2_loop v4).trips), ∀ a, (k0_off81 v4 k0_t2) a + S32x128.size a ≤ S960x768.size a := fun i v4 k0_hw1 k0_t2 => k0_hw1.2.2.2.2.2.1 k0_t2
theorem k0_off81_packedfp8e5m2 : ∀ (i : grid0.Coords) (v4 : BitVec 32) (k0_hw1 : k0_chk1 i v4) (k0_t2 : Fin (k0_t2_loop v4).trips), (Rect.unit (s := S960x768) (k0_off81 v4 k0_t2) S32x128.size (k0_off81_inb i v4 k0_hw1 k0_t2)).PackedRows (EltTy.packing .fp8e5m2) := fun i v4 k0_hw1 k0_t2 => k0_hw1.2.2.2.2.2.2.1 k0_t2 (k0_off81_inb i v4 k0_hw1 k0_t2)
theorem k0_off82_inb : ∀ (i : grid0.Coords) (v4 : BitVec 32) (k0_hw1 : k0_chk1 i v4) (k0_t2 : Fin (k0_t2_loop v4).trips), ∀ a, (k0_off82 v4 k0_t2) a + S32x128.size a ≤ S960x768.size a := fun i v4 k0_hw1 k0_t2 => k0_hw1.2.2.2.2.2.2.2.1 k0_t2
theorem k0_off82_packedfp8e5m2 : ∀ (i : grid0.Coords) (v4 : BitVec 32) (k0_hw1 : k0_chk1 i v4) (k0_t2 : Fin (k0_t2_loop v4).trips), (Rect.unit (s := S960x768) (k0_off82 v4 k0_t2) S32x128.size (k0_off82_inb i v4 k0_hw1 k0_t2)).PackedRows (EltTy.packing .fp8e5m2) := fun i v4 k0_hw1 k0_t2 => k0_hw1.2.2.2.2.2.2.2.2.1 k0_t2 (k0_off82_inb i v4 k0_hw1 k0_t2)
theorem k0_off83_inb : ∀ (i : grid0.Coords) (v4 : BitVec 32) (k0_hw1 : k0_chk1 i v4) (k0_t2 : Fin (k0_t2_loop v4).trips), ∀ a, (k0_off83 v4 k0_t2) a + S32x128.size a ≤ S960x768.size a := fun i v4 k0_hw1 k0_t2 => k0_hw1.2.2.2.2.2.2.2.2.2.1 k0_t2
theorem k0_off83_packedfp8e5m2 : ∀ (i : grid0.Coords) (v4 : BitVec 32) (k0_hw1 : k0_chk1 i v4) (k0_t2 : Fin (k0_t2_loop v4).trips), (Rect.unit (s := S960x768) (k0_off83 v4 k0_t2) S32x128.size (k0_off83_inb i v4 k0_hw1 k0_t2)).PackedRows (EltTy.packing .fp8e5m2) := fun i v4 k0_hw1 k0_t2 => k0_hw1.2.2.2.2.2.2.2.2.2.2.1 k0_t2 (k0_off83_inb i v4 k0_hw1 k0_t2)
theorem k0_off84_inb : ∀ (i : grid0.Coords) (v4 : BitVec 32) (k0_hw1 : k0_chk1 i v4) (k0_t2 : Fin (k0_t2_loop v4).trips), ∀ a, (k0_off84 v4 k0_t2) a + S32x128.size a ≤ S960x768.size a := fun i v4 k0_hw1 k0_t2 => k0_hw1.2.2.2.2.2.2.2.2.2.2.2.1 k0_t2
theorem k0_off84_packedfp8e5m2 : ∀ (i : grid0.Coords) (v4 : BitVec 32) (k0_hw1 : k0_chk1 i v4) (k0_t2 : Fin (k0_t2_loop v4).trips), (Rect.unit (s := S960x768) (k0_off84 v4 k0_t2) S32x128.size (k0_off84_inb i v4 k0_hw1 k0_t2)).PackedRows (EltTy.packing .fp8e5m2) := fun i v4 k0_hw1 k0_t2 => k0_hw1.2.2.2.2.2.2.2.2.2.2.2.2.1 k0_t2 (k0_off84_inb i v4 k0_hw1 k0_t2)
theorem k0_off85_inb : ∀ (i : grid0.Coords) (v4 : BitVec 32) (k0_hw1 : k0_chk1 i v4) (k0_t2 : Fin (k0_t2_loop v4).trips), ∀ a, (k0_off85 v4 k0_t2) a + S32x128.size a ≤ S960x768.size a := fun i v4 k0_hw1 k0_t2 => k0_hw1.2.2.2.2.2.2.2.2.2.2.2.2.2.1 k0_t2
theorem k0_off85_packedfp8e5m2 : ∀ (i : grid0.Coords) (v4 : BitVec 32) (k0_hw1 : k0_chk1 i v4) (k0_t2 : Fin (k0_t2_loop v4).trips), (Rect.unit (s := S960x768) (k0_off85 v4 k0_t2) S32x128.size (k0_off85_inb i v4 k0_hw1 k0_t2)).PackedRows (EltTy.packing .fp8e5m2) := fun i v4 k0_hw1 k0_t2 => k0_hw1.2.2.2.2.2.2.2.2.2.2.2.2.2.2.1 k0_t2 (k0_off85_inb i v4 k0_hw1 k0_t2)
theorem k0_off86_inb : ∀ (i : grid0.Coords) (v4 : BitVec 32) (k0_hw1 : k0_chk1 i v4) (k0_t2 : Fin (k0_t2_loop v4).trips), ∀ a, (k0_off86 v4 k0_t2) a + S32x128.size a ≤ S960x768.size a := fun i v4 k0_hw1 k0_t2 => k0_hw1.2.2.2.2.2.2.2.2.2.2.2.2.2.2.2.1 k0_t2
theorem k0_off86_packedfp8e5m2 : ∀ (i : grid0.Coords) (v4 : BitVec 32) (k0_hw1 : k0_chk1 i v4) (k0_t2 : Fin (k0_t2_loop v4).trips), (Rect.unit (s := S960x768) (k0_off86 v4 k0_t2) S32x128.size (k0_off86_inb i v4 k0_hw1 k0_t2)).PackedRows (EltTy.packing .fp8e5m2) := fun i v4 k0_hw1 k0_t2 => k0_hw1.2.2.2.2.2.2.2.2.2.2.2.2.2.2.2.2.1 k0_t2 (k0_off86_inb i v4 k0_hw1 k0_t2)
theorem k0_off87_inb : ∀ (i : grid0.Coords) (v4 : BitVec 32) (k0_hw1 : k0_chk1 i v4) (k0_t2 : Fin (k0_t2_loop v4).trips), ∀ a, (k0_off87 v4 k0_t2) a + S32x128.size a ≤ S960x768.size a := fun i v4 k0_hw1 k0_t2 => k0_hw1.2.2.2.2.2.2.2.2.2.2.2.2.2.2.2.2.2.1 k0_t2
theorem k0_off87_packedfp8e5m2 : ∀ (i : grid0.Coords) (v4 : BitVec 32) (k0_hw1 : k0_chk1 i v4) (k0_t2 : Fin (k0_t2_loop v4).trips), (Rect.unit (s := S960x768) (k0_off87 v4 k0_t2) S32x128.size (k0_off87_inb i v4 k0_hw1 k0_t2)).PackedRows (EltTy.packing .fp8e5m2) := fun i v4 k0_hw1 k0_t2 => k0_hw1.2.2.2.2.2.2.2.2.2.2.2.2.2.2.2.2.2.2 k0_t2 (k0_off87_inb i v4 k0_hw1 k0_t2)

def k0_cond2 (v4 : BitVec 32) : BitVec 1 :=
  let c255_i32 : BitVec 32 := 255#32
  let v5 : BitVec 32 := Scalar.addi v4 c255_i32
  let c8_i32 : BitVec 32 := 8#32
  let v6 : BitVec 32 := Scalar.shrui v5 c8_i32
  let c0_i32_5 : BitVec 32 := 0#32
  let v13 : BitVec 1 := Scalar.cmpi .eq v6 c0_i32_5
  let v14 : BitVec 32 := Scalar.extui v13
  let c0_i32_6 : BitVec 32 := 0#32
  let v15 : BitVec 1 := Scalar.cmpi .ne v14 c0_i32_6
  v15

def k0_cond3 (v4 : BitVec 32) : BitVec 1 :=
  let c255_i32 : BitVec 32 := 255#32
  let v5 : BitVec 32 := Scalar.addi v4 c255_i32
  let c8_i32 : BitVec 32 := 8#32
  let v6 : BitVec 32 := Scalar.shrui v5 c8_i32
  let c1_i32_7 : BitVec 32 := 1#32
  let v16 : BitVec 1 := Scalar.cmpi .eq v6 c1_i32_7
  let v17 : BitVec 32 := Scalar.extui v16
  let c0_i32_8 : BitVec 32 := 0#32
  let v18 : BitVec 1 := Scalar.cmpi .ne v17 c0_i32_8
  v18

def k0_cond4 (v4 : BitVec 32) : BitVec 1 :=
  let c255_i32 : BitVec 32 := 255#32
  let v5 : BitVec 32 := Scalar.addi v4 c255_i32
  let c8_i32 : BitVec 32 := 8#32
  let v6 : BitVec 32 := Scalar.shrui v5 c8_i32
  let c2_i32_9 : BitVec 32 := 2#32
  let v19 : BitVec 1 := Scalar.cmpi .eq v6 c2_i32_9
  let v20 : BitVec 32 := Scalar.extui v19
  let c0_i32_10 : BitVec 32 := 0#32
  let v21 : BitVec 1 := Scalar.cmpi .ne v20 c0_i32_10
  v21

def k0_cond5 (v4 : BitVec 32) : BitVec 1 :=
  let c255_i32 : BitVec 32 := 255#32
  let v5 : BitVec 32 := Scalar.addi v4 c255_i32
  let c8_i32 : BitVec 32 := 8#32
  let v6 : BitVec 32 := Scalar.shrui v5 c8_i32
  let c3_i32 : BitVec 32 := 3#32
  let v22 : BitVec 1 := Scalar.cmpi .eq v6 c3_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S768x384 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x960 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S27x768 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S27x768 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x384x960 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S768x384 : Shape := ⟨2, ![768, 384]⟩
abbrev S768 : Shape := ⟨1, ![768]⟩
abbrev S768x960 : Shape := ⟨2, ![768, 960]⟩
abbrev S27x768 : Shape := ⟨2, ![27, 768]⟩
abbrev S27 : Shape := ⟨1, ![27]⟩
abbrev S_ : Shape := ⟨0, ![]⟩
abbrev S27x768x1 : Shape := ⟨3, ![27, 768, 1]⟩
abbrev S27x768x384 : Shape := ⟨3, ![27, 768, 384]⟩
abbrev S27x768x960 : Shape := ⟨3, ![27, 768, 960]⟩
abbrev S1x768 : Shape := ⟨2, ![1, 768]⟩
abbrev S27x1 : Shape := ⟨2, ![27, 1]⟩
abbrev S27x384x960 : Shape := ⟨3, ![27, 384, 960]⟩

abbrev nBuf : Space → Nat
  | .hbm => 56
  | .vmem => 4
  | .smem => 0
  | _ => 0

abbrev bufTy : (tb : Table) → Fin (tcTables nBuf tb) → BufTy
  | .hbm, ⟨0, _⟩ => ⟨S768x384, .i8⟩
  | .hbm, ⟨1, _⟩ => ⟨S768, .f32⟩
  | .hbm, ⟨2, _⟩ => ⟨S768x960, .i8⟩
  | .hbm, ⟨3, _⟩ => ⟨S768, .f32⟩
  | .hbm, ⟨4, _⟩ => ⟨S27x768, .i32⟩
  | .hbm, ⟨5, _⟩ => ⟨S27x768, .i32⟩
  | .hbm, ⟨6, _⟩ => ⟨S27, .i32⟩
  | .hbm, ⟨7, _⟩ => ⟨S_, .i32⟩
  | .hbm, ⟨8, _⟩ => ⟨S27x768, .i32⟩
  | .hbm, ⟨9, _⟩ => ⟨S27x768, .i1⟩
  | .hbm, ⟨10, _⟩ => ⟨S_, .i32⟩
  | .hbm, ⟨11, _⟩ => ⟨S27x768, .i32⟩
  | .hbm, ⟨12, _⟩ => ⟨S27x768, .i32⟩
  | .hbm, ⟨13, _⟩ => ⟨S27x768, .i32⟩
  | .hbm, ⟨14, _⟩ => ⟨S27x768x1, .i32⟩
  | .hbm, ⟨15, _⟩ => ⟨S27x768x384, .i8⟩
  | .hbm, ⟨16, _⟩ => ⟨S_, .i32⟩
  | .hbm, ⟨17, _⟩ => ⟨S27x768, .i32⟩
  | .hbm, ⟨18, _⟩ => ⟨S27x768, .i1⟩
  | .hbm, ⟨19, _⟩ => ⟨S_, .i32⟩
  | .hbm, ⟨20, _⟩ => ⟨S27x768, .i32⟩
  | .hbm, ⟨21, _⟩ => ⟨S27x768, .i32⟩
  | .hbm, ⟨22, _⟩ => ⟨S27x768, .i32⟩
  | .hbm, ⟨23, _⟩ => ⟨S27x768x1, .i32⟩
  | .hbm, ⟨24, _⟩ => ⟨S27x768x960, .i8⟩
  | .hbm, ⟨25, _⟩ => ⟨S768, .i32⟩
  | .hbm, ⟨26, _⟩ => ⟨S1x768, .i32⟩
  | .hbm, ⟨27, _⟩ => ⟨S27x1, .i32⟩
  | .hbm, ⟨28, _⟩ => ⟨S27x768, .i32⟩
  | .hbm, ⟨29, _⟩ => ⟨S27x768, .i32⟩
  | .hbm, ⟨30, _⟩ => ⟨S27x768, .i1⟩
  | .hbm, ⟨31, _⟩ => ⟨S_, .i32⟩
  | .hbm, ⟨32, _⟩ => ⟨S27x768, .i32⟩
  | .hbm, ⟨33, _⟩ => ⟨S27x768, .i1⟩
  | .hbm, ⟨34, _⟩ => ⟨S_, .i32⟩
  | .hbm, ⟨35, _⟩ => ⟨S27x768, .i32⟩
  | .hbm, ⟨36, _⟩ => ⟨S27x768, .i32⟩
  | .hbm, ⟨37, _⟩ => ⟨S27x768, .i32⟩
  | .hbm, ⟨38, _⟩ => ⟨S27x768x1, .i32⟩
  | .hbm, ⟨39, _⟩ => ⟨S27x768, .f32⟩
  | .hbm, ⟨40, _⟩ => ⟨S_, .i32⟩
  | .hbm, ⟨41, _⟩ => ⟨S27x768, .i32⟩
  | .hbm, ⟨42, _⟩ => ⟨S27x768, .i1⟩
  | .hbm, ⟨43, _⟩ => ⟨S_, .i32⟩
  | .hbm, ⟨44, _⟩ => ⟨S27x768, .i32⟩
  | .hbm, ⟨45, _⟩ => ⟨S27x768, .i32⟩
  | .hbm, ⟨46, _⟩ => ⟨S27x768, .i32⟩
  | .hbm, ⟨47, _⟩ => ⟨S27x768x1, .i32⟩
  | .hbm, ⟨48, _⟩ => ⟨S27x768, .f32⟩
  | .hbm, ⟨49, _⟩ => ⟨S27x768, .f32⟩
  | .hbm, ⟨50, _⟩ => ⟨S_, .f32⟩
  | .hbm, ⟨51, _⟩ => ⟨S_, .f32⟩
  | .hbm, ⟨52, _⟩ => ⟨S27x768, .f32⟩
  | .hbm, ⟨53, _⟩ => ⟨S27x768, .f32⟩
  | .hbm, ⟨54, _⟩ => ⟨S27x768, .bf16⟩
  | .hbm, ⟨55, _⟩ => ⟨S27x384x960, .f32⟩
  | .local _ .vmem, ⟨0, _⟩ => ⟨S27x768x384, .i8⟩
  | .local _ .vmem, ⟨1, _⟩ => ⟨S27x768, .bf16⟩
  | .local _ .vmem, ⟨2, _⟩ => ⟨S27x768x960, .i8⟩
  | .local _ .vmem, ⟨3, _⟩ => ⟨S27x384x960, .f32⟩
  | _, _ => ⟨S768x384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_call0_v0 : Ref sig .tc := ⟨.hbm, 51, rfl⟩
abbrev main_call0_v1 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S27x768x384 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S27x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S27x768x960 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S27x384x960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Words.lean ====
/- Words the kernel computes from a pair count: how many blocks of 256 columns it stands for, the bounds of
   the kernel's gather loop, the column a trip starts at, and the rectangle facts that the kernel assumes of its stores. Nothing
   here names a program. -/
module

public import Idealize.ShloMosaic.Lib.Exec
public import Idealize.ShloMosaic.Lib.WordArith

@[expose] public section

namespace Cert.Words

open Idealize.ShloMosaic

/-- The blocks of 256 columns that a count of pairs needs. -/
def tiles (v : BitVec 32) : Nat := (v.toNat + 255) / 256

theorem tiles_le {v : BitVec 32} (h : v.toNat ≤ 768) : tiles v ≤ 3 := by unfold tiles; omega

/-- The kernel's number of blocks, computed by an addition and a shift. -/
def tileWord (v : BitVec 32) : BitVec 32 := Scalar.shrui (Scalar.addi v 255#32) 8#32

theorem tileWord_eq {v : BitVec 32} (h : v.toNat ≤ 768) : tileWord v = BitVec.ofNat 32 (tiles v) := by
  have e : tileWord v = (v + 255#32) >>> 8 := rfl
  apply BitVec.eq_of_toNat_eq
  rw [e, BitVec.toNat_ushiftRight, BitVec.toNat_add, Nat.shiftRight_eq_div_pow, BitVec.toNat_ofNat, BitVec.toNat_ofNat]
  unfold tiles
  have e1 : 255 % 2 ^ 32 = 255 := by decide
  have e2 : (2 : Nat) ^ 32 = 4294967296 := by decide
  have e3 : (2 : Nat) ^ 8 = 256 := by decide
  rw [e1, e2, e3]
  omega

/-- The upper bound of the gather loop: two trips a block. -/
def ubWord (w : BitVec 32) : BitVec 32 :=
  Scalar.addi 0#32 (Scalar.muli (Scalar.divsi (Scalar.subi (Scalar.muli w 2#32) 0#32) 1#32) 1#32)

theorem ubWord_eq {n : Nat} (h : n ≤ 3) : ubWord (BitVec.ofNat 32 n) = BitVec.ofNat 32 (2 * n) := by
  have : n = 0 ∨ n = 1 ∨ n = 2 ∨ n = 3 := by omega
  rcases this with rfl | rfl | rfl | rfl <;> decide

/-- The upper bound of the loop over the trips that the gather loop leaves: there are none. -/
theorem ubWord_rest {n : Nat} (h : n ≤ 3) :
    Scalar.addi 0#32 (Scalar.subi (Scalar.muli (BitVec.ofNat 32 n) 2#32) 0#32) = BitVec.ofNat 32 (2 * n) := by
  have : n = 0 ∨ n = 1 ∨ n = 2 ∨ n = 3 := by omega
  rcases this with rfl | rfl | rfl | rfl <;> decide

theorem trips_eq {n : Nat} (h : n ≤ 3) : Scf.trips 0#32 (BitVec.ofNat 32 (2 * n)) 1#32 = 2 * n := by
  have : n = 0 ∨ n = 1 ∨ n = 2 ∨ n = 3 := by omega
  rcases this with rfl | rfl | rfl | rfl <;> decide

theorem ok_eq {n : Nat} (h : n ≤ 3) : Scf.OK 0#32 (BitVec.ofNat 32 (2 * n)) 1#32 := by
  have : n = 0 ∨ n = 1 ∨ n = 2 ∨ n = 3 := by omega
  rcases this with rfl | rfl | rfl | rfl <;> decide

theorem trips_rest {n : Nat} (h : n ≤ 3) : Scf.trips (BitVec.ofNat 32 (2 * n)) (BitVec.ofNat 32 (2 * n)) 1#32 = 0 := by
  have : n = 0 ∨ n = 1 ∨ n = 2 ∨ n = 3 := by omega
  rcases this with rfl | rfl | rfl | rfl <;> decide

theorem ok_rest {n : Nat} (h : n ≤ 3) : Scf.OK (BitVec.ofNat 32 (2 * n)) (BitVec.ofNat 32 (2 * n)) 1#32 := by
  have : n = 0 ∨ n = 1 ∨ n = 2 ∨ n = 3 := by omega
  rcases this with rfl | rfl | rfl | rfl <;> decide

/-- The word of trip `k`'s first column. -/
def colWord (k : Nat) : BitVec 32 := Scalar.muli (Scf.iv 0#32 1#32 k) 128#32

theorem colWord_toNat {k : Nat} (h : k < 6) : (colWord k).toNat = 128 * k := by
  have : k = 0 ∨ k = 1 ∨ k = 2 ∨ k = 3 ∨ k = 4 ∨ k = 5 := by omega
  rcases this with rfl | rfl | rfl | rfl | rfl | rfl <;> decide

theorem ivWord_toNat {k : Nat} (h : k < 6) : (Scf.iv 0#32 1#32 k : BitVec 32).toNat = k := by
  have : k = 0 ∨ k = 1 ∨ k = 2 ∨ k = 3 ∨ k = 4 ∨ k = 5 := by omega
  rcases this with rfl | rfl | rfl | rfl | rfl | rfl <;> decide

/-- A block of 32 rows and 128 columns at a trip's columns lies in an array of `R` rows and 768 columns. -/
theorem block_inb {R : Nat} {k : Nat} (hk : k < 6) (o : Nat) (ho : o + 32 ≤ R) :
    ∀ a, (![o, (colWord k).toNat] : Fin 2 → Nat) a + (![32, 128] : Fin 2 → Nat) a ≤ (![R, 768] : Fin 2 → Nat) a := by
  rw [colWord_toNat hk]
  intro a
  match a with
  | 0 => exact ho
  | 1 => show 128 * k + 128 ≤ 768; omega

/-- Its first row is a multiple of the rows that share a word, so that it is stored by whole words. -/
theorem block_packed {R : Nat} (p o c : Nat) (ho : p ∣ o) (h32 : p ∣ 32)
    (hinb : ∀ a : Fin 2, (![o, c] : Fin 2 → Nat) a + (![32, 128] : Fin 2 → Nat) a ≤ (⟨2, ![R, 768]⟩ : Shape).size a) :
    (Rect.unit (s := ⟨2, ![R, 768]⟩) ![o, c] ![32, 128] hinb).PackedRows p :=
  Or.inr ⟨Nat.le_refl 2, rfl, Or.inl ⟨ho, h32⟩⟩

end Cert.Words
-- ==== Proof.KernelChk.lean ====
/- The conditions that the kernel assumes of a pair count it has read hold of every count of at most 768: its gather loop runs two
   trips a block of 256 columns, six at the most, the loop after it none, and every store of a trip lies in its scratch buffer and
   covers whole words. -/
module

public import proofs.«01_k».proof.Proof.Words
public import proofs.«01_k».proof.Proof.Gen.Kernel

@[expose] public section

namespace Cert.Kernel.Hand

open Idealize.ShloMosaic Cert.Kernel Cert.Words

variable {v : BitVec 32} (h : v.toNat ≤ 768)
include h

theorem t1_loop_eq : k0_t1_loop v = ⟨0#32, BitVec.ofNat 32 (2 * tiles v), 1#32⟩ := by
  have e : k0_t1_loop v = ⟨0#32, ubWord (tileWord v), 1#32⟩ := rfl
  rw [e, tileWord_eq h, ubWord_eq (tiles_le h)]

theorem t2_loop_eq : k0_t2_loop v = ⟨BitVec.ofNat 32 (2 * tiles v), BitVec.ofNat 32 (2 * tiles v), 1#32⟩ := by
  have e : k0_t2_loop v = ⟨ubWord (tileWord v), Scalar.addi 0#32 (Scalar.subi (Scalar.muli (tileWord v) 2#32) 0#32), 1#32⟩ := rfl
  rw [e, tileWord_eq h, ubWord_eq (tiles_le h), ubWord_rest (tiles_le h)]

/-- The gather loop's trips, -/
theorem t1_trips : (k0_t1_loop v).trips = 2 * tiles v := by rw [t1_loop_eq h]; exact trips_eq (tiles_le h)
/-- and that the loop after it has none. -/
theorem t2_trips : (k0_t2_loop v).trips = 0 := by rw [t2_loop_eq h]; exact trips_rest (tiles_le h)

theorem t1_lt (k : Fin (k0_t1_loop v).trips) : k.val < 6 := by
  have h1 := k.isLt; have h2 := t1_trips h; have h3 := tiles_le h; omega

theorem t2_none (k : Fin (k0_t2_loop v).trips) : False := by
  have h1 := k.isLt; have h2 := t2_trips h; omega

theorem idx_inb (i : grid0.Coords) (k : Fin (k0_t1_loop v).trips) : ∀ a, (k0_off2 i v k) a + S1x1x128.size a ≤ S6x27x128.size a := by
  have hk := t1_lt h k
  have hi : (i 0).val < 27 := (i 0).isLt
  have e : k0_off2 i v k = ![k.val, (i 0).val, 0] := by
    have h1 : (Scf.iv 0#32 1#32 k.val : BitVec 32).toNat = k.val := ivWord_toNat hk
    have h2 : (BitVec.ofNat 32 (i 0).val).toNat = (i 0).val := by rw [BitVec.toNat_ofNat]; omega
    show ![(Scf.iv 0#32 1#32 k.val : BitVec 32).toNat, (BitVec.ofNat 32 (i 0).val).toNat, 0] = _
    rw [h1, h2]
  rw [e]
  intro a
  match a with
  | 0 => show k.val + 1 ≤ 6; omega
  | 1 => show (i 0).val + 1 ≤ 27; omega
  | 2 => exact Nat.le_refl 128

set_option maxHeartbeats 1000000 in
/-- The kernel's assumption: what it says of the gather loop (the first 87 facts), then what it says of the loop after it. -/
theorem chk (i : grid0.Coords) : k0_chk1 i v := by
  refine ⟨⟨?_, ?_, idx_inb h i, ?_⟩, ?_, ?_, ?_, ?_, ?_⟩
  · rw [t1_loop_eq h]; exact ok_eq (tiles_le h)
  · intro k
    show 128 ∣ (colWord k.val).toNat
    rw [colWord_toNat (t1_lt h k)]
    exact ⟨_, rfl⟩
  case refine_5 =>
    unfold k0_chk1_2
    iterate 23
      refine ⟨?_, ?_⟩
      · first
          | exact fun k => block_inb (t1_lt h k) _ (by decide)
          | exact fun k _ => block_packed _ _ _ (by decide) (by decide) _
    refine ⟨?_, ?_⟩
    · rw [t2_loop_eq h]; exact ok_rest (tiles_le h)
    repeat' apply And.intro
    all_goals exact fun k => (t2_none h k).elim
  case refine_6 => repeat' apply And.intro
                   all_goals exact fun k => (t2_none h k).elim
  case refine_7 => repeat' apply And.intro
                   all_goals exact fun k => (t2_none h k).elim
  case refine_8 => repeat' apply And.intro
                   all_goals exact fun k => (t2_none h k).elim
  all_goals repeat' apply And.intro
  all_goals first
    | exact fun k => block_inb (t1_lt h k) _ (by decide)
    | exact fun k _ => block_packed _ _ _ (by decide) (by decide) _

end Cert.Kernel.Hand
-- ==== Proof.Gather.lean ====
/- What one trip of the kernel's gather loop computes, stated once: the gather of a block of eight rows along 768 columns held
   as six blocks of 128, the scale of each pair, and the two blocks of 32 rows a group of words gives. Nothing here names a
   program. -/
module

public import proofs.«01_k».proof.Proof.Words
public import Idealize.ShloMosaic.Lib.BitcastFour
public import Idealize.ShloMosaic.Lib.Writes
public import Idealize.ShloMosaic.Lib.Pipeline.Value
public import Idealize.ShloMosaic.Lib.Pointwise.Index

@[expose] public section

noncomputable section

namespace Cert.Gather

open Idealize.ShloMosaic Cert.Words

abbrev S8 : Shape := ⟨2, ![8, 128]⟩
abbrev S8u : Shape := ⟨3, ![8, 128, 1]⟩
abbrev S32 : Shape := ⟨2, ![32, 128]⟩
abbrev Srow : Shape := ⟨2, ![1, 128]⟩
abbrev Srow1 : Shape := ⟨3, ![1, 1, 128]⟩

variable {F : FTy → Type} [FloatOps F]

/-- A row of 128 indices, repeated over eight rows. -/
def idxRows (w : IVec Srow1 32) : IVec S8 32 :=
  broadcastTo S8 (shapeCast Srow (shapeCast Srow w (by decide)) (by decide)) (by decide)

/-- An index's place within its block of 128 columns, -/
def low (r : IVec S8 32) : IVec S8 32 := andi r (broadcast S8 127#32)

/-- as the gather takes it, a negative one counted from the block's end (none is), -/
def lane (r : IVec S8 32) : IVec S8 32 :=
  shapeCast S8 (shapeCast S8u (select (cmpi .slt (low r) (broadcast S8 0#32)) (addi (low r) (broadcast S8 128#32)) (low r)) (by decide))
    (by decide)

/-- and whether the index lies in block `j`. -/
def inBlock (r : IVec S8 32) (j : BitVec 32) : IVec S8 1 := cmpi .eq (shrui r (broadcast S8 7#32)) (broadcast S8 j)

/-- The gather along 768 columns: out of each of the six blocks, and the block the index lies in chosen. -/
def gather {α : Type} (b : Fin 6 → S8.Idx → α) (r : IVec S8 32) : S8.Idx → α :=
  select (inBlock r 5#32) (dynamicGather 1 (b 5) (lane r))
   (select (inBlock r 4#32) (dynamicGather 1 (b 4) (lane r))
    (select (inBlock r 3#32) (dynamicGather 1 (b 3) (lane r))
     (select (inBlock r 2#32) (dynamicGather 1 (b 2) (lane r))
      (select (inBlock r 1#32) (dynamicGather 1 (b 1) (lane r)) (dynamicGather 1 (b 0) (lane r))))))

/-- The scale of the pairs of trip `k`: the product of the two gathered scales, zero from the pair count `v` on. -/
def scale (v : BitVec 32) (k : Nat) (xs ys : Fin 6 → FVec F S8 .f32) (r q : IVec S8 32) : FVec F S8 .f32 :=
  select (cmpi .slt (addi (broadcast S8 (colWord k)) (iota .tc S8 32 [1] (by decide))) (broadcast S8 v))
    (mulf (gather xs r) (gather ys q)) (broadcast S8 (Scalar.ofBits .f32 0x00000000#32))

theorem four_rows : Shape.Concatenates [S8, S8, S8, S8] S32 0 := by decide

/-- The same over 32 rows, rounded to bf16. -/
def scales (s : FVec F S8 .f32) : FVec F S32 .bf16 :=
  truncf .bf16 (concatenate S32 0 [⟨S8, s⟩, ⟨S8, s⟩, ⟨S8, s⟩, ⟨S8, s⟩] four_rows) (by decide)

/-- The 32 rows of scaled input codes out of eight rows of words, -/
def gBlock (b : Fin 6 → IVec S8 32) (r : IVec S8 32) (s : FVec F S32 .bf16) : FVec F S32 .bf16 :=
  shapeCast S32 (mulf (extf .bf16 (bitcastToFloat (F := F) .fp8e4m3 (bitcast S32 8 (gather b r) (by decide))) (by decide)) s) (by decide)

/-- and the 32 rows of gradient codes. -/
def dBlock (b : Fin 6 → IVec S8 32) (q : IVec S8 32) : FVec F S32 .fp8e5m2 :=
  shapeCast S32 (bitcastToFloat (F := F) .fp8e5m2 (bitcast S32 8 (gather b q) (by decide))) (by decide)

/-! ## The blocks a trip reads -/

/-- A block of eight rows and 128 columns lies in a table of 8 n rows and 768 columns. -/
theorem block8_inb {n : Nat} (g : Fin n) (j : Fin 6) :
    ∀ a, (![g.val * 8, j.val * 128] : Fin 2 → Nat) a + (![8, 128] : Fin 2 → Nat) a ≤ (⟨2, ![8 * n, 768]⟩ : Shape).size a
  | 0 => by have := g.isLt; show g.val * 8 + 8 ≤ 8 * n; omega
  | 1 => by have := j.isLt; show j.val * 128 + 128 ≤ 768; omega

/-- A block of 32 rows and 128 columns, at the column trip `k` starts at, lies in a table of 32 n rows and 768 columns. -/
theorem block32_inb {n k : Nat} (hk : k < 6) (g : Fin n) :
    ∀ a, (![g.val * 32, (colWord k).toNat] : Fin 2 → Nat) a + (![32, 128] : Fin 2 → Nat) a ≤ (⟨2, ![32 * n, 768]⟩ : Shape).size a
  | 0 => by have := g.isLt; show g.val * 32 + 32 ≤ 32 * n; omega
  | 1 => by rw [colWord_toNat hk]; show 128 * k + 128 ≤ 768; omega

/-- The row of 128 indices that trip `k` reads for offset `i` lies in the table of indices. -/
theorem row_inb {i k : Nat} (hi : i < 27) (hk : k < 6) :
    ∀ a, (![(Scf.iv 0#32 1#32 k : BitVec 32).toNat, (BitVec.ofNat 32 i).toNat, 0] : Fin 3 → Nat) a + (![1, 1, 128] : Fin 3 → Nat) a
      ≤ (⟨3, ![6, 27, 128]⟩ : Shape).size a
  | 0 => by rw [ivWord_toNat hk]; show k + 1 ≤ 6; omega
  | 1 => by show (BitVec.ofNat 32 i).toNat + 1 ≤ 27; rw [BitVec.toNat_ofNat]; omega
  | 2 => Nat.le_refl 128

abbrev block8 {n : Nat} (g : Fin n) (j : Fin 6) : Rect ⟨2, ![8 * n, 768]⟩ := Rect.unit ![g.val * 8, j.val * 128] ![8, 128] (block8_inb g j)
abbrev block32 {n k : Nat} (hk : k < 6) (g : Fin n) : Rect ⟨2, ![32 * n, 768]⟩ := Rect.unit ![g.val * 32, (colWord k).toNat] ![32, 128] (block32_inb hk g)
abbrev rowAt {i k : Nat} (hi : i < 27) (hk : k < 6) : Rect ⟨3, ![6, 27, 128]⟩ :=
  Rect.unit ![(Scf.iv 0#32 1#32 k : BitVec 32).toNat, (BitVec.ofNat 32 i).toNat, 0] ![1, 1, 128] (row_inb hi hk)

/-- What the trips read: the words of the input codes and of the gradient codes, the two scales, and each trip's two rows of indices. -/
structure Tables (F : FTy → Type) where
  xw : Fin 12 → Fin 6 → IVec S8 32
  yw : Fin 30 → Fin 6 → IVec S8 32
  xs : Fin 6 → FVec F S8 .f32
  ys : Fin 6 → FVec F S8 .f32
  pin : (k : Nat) → k < 6 → IVec Srow1 32
  pout : (k : Nat) → k < 6 → IVec Srow1 32

/-- Them out of whole tables, for offset `i`. -/
def Tables.of (x9 : Vec F ⟨2, ![96, 768]⟩ .i32) (x10 : Vec F ⟨2, ![240, 768]⟩ .i32) (x11 x12 : Vec F ⟨2, ![8, 768]⟩ .f32)
    (x15 x16 : Vec F ⟨3, ![6, 27, 128]⟩ .i32) {i : Nat} (hi : i < 27) : Tables F where
  xw g j := fun y => x9 ((block8 g j).toLoadRect.idx y)
  yw g j := fun y => x10 ((block8 g j).toLoadRect.idx y)
  xs j := fun y => x11 ((block8 (0 : Fin 1) j).toLoadRect.idx y)
  ys j := fun y => x12 ((block8 (0 : Fin 1) j).toLoadRect.idx y)
  pin _ hk := fun y => x15 ((rowAt hi hk).toLoadRect.idx y)
  pout _ hk := fun y => x16 ((rowAt hi hk).toLoadRect.idx y)

/-! ## The pieces a trip writes, and the two arrays they are pieces of -/

/-- The block of scaled input codes that trip `k` writes for group `g`, -/
def gVal (T : Tables F) (v : BitVec 32) (k : Nat) (hk : k < 6) (g : Fin 12) : FVec F S32 .bf16 :=
  gBlock (T.xw g) (idxRows (T.pin k hk)) (scales (scale v k T.xs T.ys (idxRows (T.pin k hk)) (idxRows (T.pout k hk))))

/-- and the block of gradient codes. -/
def dVal (T : Tables F) (k : Nat) (hk : k < 6) (g : Fin 30) : FVec F S32 .fp8e5m2 := dBlock (T.yw g) (idxRows (T.pout k hk))

def gPiece (T : Tables F) (v : BitVec 32) (k : Nat) (hk : k < 6) (g : Fin 12) : View.Piece (Elt F) ⟨2, ![384, 768]⟩ .bf16 :=
  ⟨block32 hk g, gVal T v k hk g⟩

def dPiece (T : Tables F) (k : Nat) (hk : k < 6) (g : Fin 30) : View.Piece (Elt F) ⟨2, ![960, 768]⟩ .fp8e5m2 :=
  ⟨block32 hk g, dVal T k hk g⟩

/-- An array of 32 n rows and 768 columns out of its blocks of 32 rows and 128 columns. -/
def tile {α : Type} {n : Nat} (b : (k : Nat) → k < 6 → Fin n → S32.Idx → α) (y : (⟨2, ![32 * n, 768]⟩ : Shape).Idx) : α :=
  b ((y 1).val / 128) (by have : (y 1).val < 768 := (y 1).isLt; omega)
    ⟨(y 0).val / 32, by have : (y 0).val < 32 * n := (y 0).isLt; omega⟩
    (ix2 (n0 := 32) (n1 := 128) ⟨(y 0).val % 32, by omega⟩ ⟨(y 1).val % 128, by omega⟩)

theorem tile_block {α : Type} {n : Nat} (b : (k : Nat) → k < 6 → Fin n → S32.Idx → α) {k : Nat} (hk : k < 6) (g : Fin n) (x : S32.Idx)
    (y : (⟨2, ![32 * n, 768]⟩ : Shape).Idx) (h0 : (y 0).val = g.val * 32 + (x 0).val) (h1 : (y 1).val = 128 * k + (x 1).val) :
    tile b y = b k hk g x := by
  have b0 : (x 0).val < 32 := (x 0).isLt
  have b1 : (x 1).val < 128 := (x 1).isLt
  obtain ⟨g, hg⟩ := g
  have e0 : g = (y 0).val / 32 := by simp only at h0; omega
  have e1 : k = (y 1).val / 128 := by omega
  subst e0 e1
  unfold tile
  congr 1
  funext a
  match a with
  | 0 => exact Fin.ext (by show (y 0).val % 32 = (x 0).val; simp only at h0; omega)
  | 1 => exact Fin.ext (by show (y 1).val % 128 = (x 1).val; omega)

/-- A list of pieces of `G` that covers its first `c` columns. -/
structure Fills {Val : EltTy → Type} {R : Nat} {e : EltTy} (L : List (View.Piece Val ⟨2, ![R, 768]⟩ e)) (G : (⟨2, ![R, 768]⟩ : Shape).Idx → Val e)
    (c : Nat) : Prop where
  agree : ∀ p ∈ L, ∀ x : p.1.shape.Idx, p.2 x = G (p.1.emb x)
  cover : ∀ y : (⟨2, ![R, 768]⟩ : Shape).Idx, (y 1).val < c → ∃ p ∈ L, y ∈ p.1.set

theorem Fills.nil {Val : EltTy → Type} {R : Nat} {e : EltTy} (G : (⟨2, ![R, 768]⟩ : Shape).Idx → Val e) : Fills [] G 0 where
  agree _ h := absurd h List.not_mem_nil
  cover _ h := absurd h (Nat.not_lt_zero _)

/-- One trip more: the blocks of every group at the trip's columns, over a list that covers the columns before them. -/
theorem Fills.trip {Val : EltTy → Type} {n : Nat} {e : EltTy} {b : (k : Nat) → k < 6 → Fin n → S32.Idx → Val e} {k : Nat} (hk : k < 6)
    {gs : List (Fin n)} (hgs : ∀ g, g ∈ gs) {L : List (View.Piece Val ⟨2, ![32 * n, 768]⟩ e)} (hL : Fills L (tile b) (128 * k)) :
    Fills (gs.map (fun g => (⟨block32 hk g, b k hk g⟩ : View.Piece Val ⟨2, ![32 * n, 768]⟩ e)) ++ L) (tile b) (128 * (k + 1)) where
  agree p hp := by
    rcases List.mem_append.1 hp with hp | hp
    · obtain ⟨g, -, rfl⟩ := List.mem_map.1 hp
      intro x
      refine (tile_block b hk g x _ ?_ ?_).symm
      · show g.val * 32 + 1 * (x 0).val = _; omega
      · show (colWord k).toNat + 1 * (x 1).val = _; rw [colWord_toNat hk]; omega
    · exact hL.agree p hp
  cover y hy := by
    by_cases h : (y 1).val < 128 * k
    · obtain ⟨p, hp, hm⟩ := hL.cover y h
      exact ⟨p, List.mem_append_right _ hp, hm⟩
    · have h0 : (y 0).val < 32 * n := (y 0).isLt
      refine ⟨_, List.mem_append_left _ (List.mem_map.2 ⟨⟨(y 0).val / 32, by omega⟩, hgs _, rfl⟩), ?_⟩
      refine (Rect.mem_set_unit (inb := block32_inb hk _)).2 fun a => ?_
      match a with
      | 0 => show (y 0).val / 32 * 32 ≤ (y 0).val ∧ (y 0).val < (y 0).val / 32 * 32 + 32; omega
      | 1 => show (colWord k).toNat ≤ (y 1).val ∧ (y 1).val < (colWord k).toNat + 128; rw [colWord_toNat hk]; omega

/-- A read of the first columns after such a list of writes reads the array. -/
theorem Fills.read {Val : EltTy → Type} {sig : RefSig} {κ : Kind} {sp : Space} {R : Nat} {e : EltTy}
    {L : List (View.Piece Val ⟨2, ![R, 768]⟩ e)} {G : (⟨2, ![R, 768]⟩ : Shape).Idx → Val e} {c : Nat} (h : Fills L G c)
    (w : View sig κ sp ⟨2, ![R, 768]⟩ e) (f : w.ty.Contents Val) (B : LoadRect ⟨2, ![R, 768]⟩) (hB : ∀ y : B.shape.Idx, (B.idx y 1).val < c) :
    w.readAt Val B (w.writes Val f L) = fun y => G (B.idx y) := by
  funext y
  rw [View.readAt_apply]
  exact View.read_writes_apply_of_pieces w f G L h.agree _ (h.cover _ (hB y))

/-! ## The table of indices, its 768 columns as six blocks of 128 -/

abbrev Sidx : Shape := ⟨3, ![6, 27, 128]⟩
abbrev Sblk : Shape := ⟨2, ![27, 128]⟩

/-- An array of 27 rows and 768 columns as six of 128 columns. -/
def split {α : Type} (x : (⟨2, ![27, 768]⟩ : Shape).Idx → α) (y : Sidx.Idx) : α :=
  x (ix2 (n0 := 27) (n1 := 768) (y 1) ⟨(y 0).val * 128 + (y 2).val, by
    have h0 : (y 0).val < 6 := (y 0).isLt
    have h2 : (y 2).val < 128 := (y 2).isLt
    omega⟩)

theorem blk_casts : Sblk.ShapeCasts ⟨3, ![1, 27, 128]⟩ := by decide

theorem rows_inb {j : Nat} (hj : j < 6) : ∀ a, (![j, 0, 0] : Fin 3 → Nat) a + (![1, 27, 128] : Fin 3 → Nat) a ≤ Sidx.size a
  | 0 => by show j + 1 ≤ 6; omega
  | 1 => Nat.le_refl 27
  | 2 => Nat.le_refl 128

theorem cols_inb {o : Nat} (ho : o + 128 ≤ 768) : ∀ a, (![0, o] : Fin 2 → Nat) a + (![27, 128] : Fin 2 → Nat) a ≤ (⟨2, ![27, 768]⟩ : Shape).size a
  | 0 => Nat.le_refl 27
  | 1 => ho

section
variable {Val : EltTy → Type} {e : EltTy} {sig : RefSig} {κ κ' : Kind} {sp sp' : Space}

/-- The store of block `j`: the columns from `o` of the array that `u` shows as `x`. -/
def splitPiece [∀ e, Inhabited (Val e)] (u : View sig κ sp ⟨2, ![27, 768]⟩ e) (x : (⟨2, ![27, 768]⟩ : Shape).Idx → Val e) (j o : Nat) (hj : j < 6) (ho : o + 128 ≤ 768) :
    View.Piece Val Sidx e :=
  ⟨Rect.unit ![j, 0, 0] ![1, 27, 128] (rows_inb hj),
    shapeCast (s := Sblk) ⟨3, ![1, 27, 128]⟩ (u.readAt Val (Rect.unit (s := ⟨2, ![27, 768]⟩) ![0, o] ![27, 128] (cols_inb ho)).toLoadRect (u.rep x)) blk_casts⟩

theorem splitPiece_agree [∀ e, Inhabited (Val e)] (u : View sig κ sp ⟨2, ![27, 768]⟩ e) (x : (⟨2, ![27, 768]⟩ : Shape).Idx → Val e) {j o : Nat} (hj : j < 6)
    (ho : o + 128 ≤ 768) (h : o = j * 128) (z : (splitPiece u x j o hj ho).1.shape.Idx) :
    (splitPiece u x j o hj ho).2 z = split x ((splitPiece u x j o hj ho).1.emb z) := by
  subst h
  have hz : (z 0).val = 0 := by have : (z 0).val < 1 := (z 0).isLt; omega
  revert hz z
  unfold splitPiece
  intro z hz
  dsimp only
  rw [View.readAt_rep]
  refine (shapeCast_addUnit_apply ![27, 128] _ _ z).trans ?_
  unfold split
  refine congrArg x (funext fun a => Fin.ext ?_)
  match a with
  | 0 => show 0 + 1 * (z 1).val = 0 + 1 * (z 1).val; rfl
  | 1 => show j * 128 + 1 * (z 2).val = (j + 1 * (z 0).val) * 128 + (0 + 1 * (z 2).val); omega

theorem splitPiece_mem [∀ e, Inhabited (Val e)] (u : View sig κ sp ⟨2, ![27, 768]⟩ e) (x : (⟨2, ![27, 768]⟩ : Shape).Idx → Val e) {j o : Nat} (hj : j < 6)
    (ho : o + 128 ≤ 768) {y : Sidx.Idx} (h : (y 0).val = j) : y ∈ (splitPiece u x j o hj ho).1.set := by
  subst h
  refine (Rect.mem_set_unit (inb := rows_inb hj)).2 fun a => ?_
  match a with
  | 0 => show (y 0).val ≤ (y 0).val ∧ (y 0).val < (y 0).val + 1; omega
  | 1 => have h : (y 1).val < 27 := (y 1).isLt
         show 0 ≤ (y 1).val ∧ (y 1).val < 0 + 27; omega
  | 2 => have h : (y 2).val < 128 := (y 2).isLt
         show 0 ≤ (y 2).val ∧ (y 2).val < 0 + 128; omega

/-- The six stores, the last first. -/
abbrev splitPieces [∀ e, Inhabited (Val e)] (u : View sig κ sp ⟨2, ![27, 768]⟩ e) (x : (⟨2, ![27, 768]⟩ : Shape).Idx → Val e) : List (View.Piece Val Sidx e) :=
  [splitPiece u x 5 640 (by decide) (by decide), splitPiece u x 4 512 (by decide) (by decide), splitPiece u x 3 384 (by decide) (by decide),
    splitPiece u x 2 256 (by decide) (by decide), splitPiece u x 1 128 (by decide) (by decide), splitPiece u x 0 0 (by decide) (by decide)]

/-- The six stores leave the array so split. -/
theorem read_split [∀ e, Inhabited (Val e)] (w : View sig κ' sp' Sidx e) (f : w.ty.Contents Val) (u : View sig κ sp ⟨2, ![27, 768]⟩ e)
    (x : (⟨2, ![27, 768]⟩ : Shape).Idx → Val e) :
    w.read Val (w.writes Val f (splitPieces u x)) = split x := by
  funext y
  refine View.read_writes_apply_of_pieces w f (split x) _ (fun p hp z => ?_) y ?_
  · simp only [splitPieces, List.mem_cons, List.not_mem_nil, or_false] at hp
    rcases hp with rfl | rfl | rfl | rfl | rfl | rfl <;> exact splitPiece_agree u x _ _ rfl z
  · have h0 : (y 0).val < 6 := (y 0).isLt
    simp only [splitPieces, List.exists_mem_cons_iff]
    rcases (show (y 0).val = 5 ∨ (y 0).val = 4 ∨ (y 0).val = 3 ∨ (y 0).val = 2 ∨ (y 0).val = 1 ∨ (y 0).val = 0 by omega) with h | h | h | h | h | h
    · exact .inl (splitPiece_mem u x _ _ h)
    · exact .inr (.inl (splitPiece_mem u x _ _ h))
    · exact .inr (.inr (.inl (splitPiece_mem u x _ _ h)))
    · exact .inr (.inr (.inr (.inl (splitPiece_mem u x _ _ h))))
    · exact .inr (.inr (.inr (.inr (.inl (splitPiece_mem u x _ _ h)))))
    · exact .inr (.inr (.inr (.inr (.inr (.inl (splitPiece_mem u x _ _ h))))))
end

end Cert.Gather
-- ==== Proof.KernelPieces.lean ====
/- The pieces the gather loop leaves in the two scratch buffers it writes: at every count of pairs the loop fills the columns that the
   product after it reads, each with what the tables give, whatever the buffers held before. -/
module

public import proofs.«01_k».proof.Proof.KernelChk
public import proofs.«01_k».proof.Proof.Gather
public import proofs.«01_k».proof.Proof.Gen.Kernel.Loops
public import proofs.«01_k».proof.Proof.Gen.Kernel.Launch
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Words Cert.Gather

variable {F : FTy → Type} [FloatOps F]

local notation "𝕄" => MT nD τ sig Unit (Elt F) ℕ (UR sig nD τ) ℕ

variable (i : grid0.Coords)
  (arg1 : Memref sig .tc .smem S27 .i32) (harg1 : arg1.IsWhole)
  (arg2 : Memref sig .tc .vmem S768x384 .i8) (harg2 : arg2.IsWhole)
  (arg3 : Memref sig .tc .vmem S1x768 .f32) (harg3 : arg3.IsWhole)
  (arg4 : Memref sig .tc .vmem S768x960 .i8) (harg4 : arg4.IsWhole)
  (arg5 : Memref sig .tc .vmem S1x768 .f32) (harg5 : arg5.IsWhole)
  (arg6 : Memref sig .tc .vmem S27x768 .i32) (harg6 : arg6.IsWhole)
  (arg7 : Memref sig .tc .vmem S27x768 .i32) (harg7 : arg7.IsWhole)
  (arg8 : Memref sig .tc .vmem S1x384x960 .f32) (harg8 : arg8.IsWhole)
  (arg9 : Memref sig .tc .vmem S96x768 .i32) (harg9 : arg9.IsWhole)
  (arg10 : Memref sig .tc .vmem S240x768 .i32) (harg10 : arg10.IsWhole)
  (arg11 : Memref sig .tc .vmem S8x768 .f32) (harg11 : arg11.IsWhole)
  (arg12 : Memref sig .tc .vmem S8x768 .f32) (harg12 : arg12.IsWhole)
  (arg13 : Memref sig .tc .vmem S384x768 .bf16) (harg13 : arg13.IsWhole)
  (arg14 : Memref sig .tc .vmem S960x768 .fp8e5m2) (harg14 : arg14.IsWhole)
  (arg15 : Memref sig .tc .vmem S6x27x128 .i32) (harg15 : arg15.IsWhole)
  (arg16 : Memref sig .tc .vmem S6x27x128 .i32) (harg16 : arg16.IsWhole)

/-- The grid has 27 points. -/
theorem pt_lt (i : grid0.Coords) : (i 0).val < 27 := (i 0).isLt

/-- The tables as the scratch buffers hold them. -/
def tabs (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg15 : BufTy.Contents (Elt F) arg15.view.ty) (X_arg16 : BufTy.Contents (Elt F) arg16.view.ty) : Tables F where
  xw g j := arg9.view.readAt (Elt F) (block8 g j).toLoadRect X_arg9
  yw g j := arg10.view.readAt (Elt F) (block8 g j).toLoadRect X_arg10
  xs j := arg11.view.readAt (Elt F) (block8 (0 : Fin 1) j).toLoadRect X_arg11
  ys j := arg12.view.readAt (Elt F) (block8 (0 : Fin 1) j).toLoadRect X_arg12
  pin _ hk := arg15.view.readAt (Elt F) (rowAt (pt_lt i) hk).toLoadRect X_arg15
  pout _ hk := arg16.view.readAt (Elt F) (rowAt (pt_lt i) hk).toLoadRect X_arg16

theorem tabs_rep (x9 : Vec F S96x768 .i32) (x10 : Vec F S240x768 .i32) (x11 x12 : Vec F S8x768 .f32) (x15 x16 : Vec F S6x27x128 .i32) :
    tabs i arg9 arg10 arg11 arg12 arg15 arg16 (arg9.view.rep x9) (arg10.view.rep x10) (arg11.view.rep x11) (arg12.view.rep x12) (arg15.view.rep x15) (arg16.view.rep x16) = Tables.of x9 x10 x11 x12 x15 x16 (pt_lt i) := by
  unfold tabs Tables.of
  simp only [View.readAt_rep]
  rfl

/-- The groups in the order of the list of stores, the last first. -/
abbrev gGroups : List (Fin 12) := [11, 10, 9, 8, 7, 6, 5, 4, 3, 2, 1, 0]
theorem gGroups_all : ∀ g, g ∈ gGroups := by decide
abbrev dGroups : List (Fin 30) :=
  [29, 28, 27, 26, 25, 24, 23, 22, 21, 20, 19, 18, 17, 16, 15, 14, 13, 12, 11, 10, 9, 8, 7, 6, 5, 4, 3, 2, 1, 0]
theorem dGroups_all : ∀ g, g ∈ dGroups := by decide

set_option maxHeartbeats 4000000 in
/-- What one trip writes: a block for every group. -/
theorem trip_g (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg15 : BufTy.Contents (Elt F) arg15.view.ty) (X_arg16 : BufTy.Contents (Elt F) arg16.view.ty) {v4 : BitVec 32} (h : v4.toNat ≤ 768) (k : Fin (k0_t1_loop v4).trips) (c : Dev nD) (hc : k0_chk1 i v4) :
    (tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v4 hc X_arg9 X_arg10 X_arg11 X_arg12 X_arg15 X_arg16 k).1
      = gGroups.map (gPiece (tabs i arg9 arg10 arg11 arg12 arg15 arg16 X_arg9 X_arg10 X_arg11 X_arg12 X_arg15 X_arg16) v4 k (t1_lt h k)) := by
  unfold tripL_k0_t1 trip_k0_t1
  rfl

set_option maxHeartbeats 4000000 in
theorem trip_d (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg15 : BufTy.Contents (Elt F) arg15.view.ty) (X_arg16 : BufTy.Contents (Elt F) arg16.view.ty) {v4 : BitVec 32} (h : v4.toNat ≤ 768) (k : Fin (k0_t1_loop v4).trips) (c : Dev nD) (hc : k0_chk1 i v4) :
    (tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v4 hc X_arg9 X_arg10 X_arg11 X_arg12 X_arg15 X_arg16 k).2
      = dGroups.map (dPiece (tabs i arg9 arg10 arg11 arg12 arg15 arg16 X_arg9 X_arg10 X_arg11 X_arg12 X_arg15 X_arg16) k (t1_lt h k)) := by
  unfold tripL_k0_t1 trip_k0_t1
  rfl

/-- After `k` trips the first 128 k columns of the two buffers are filled. -/
theorem fills (x9 : Vec F S96x768 .i32) (x10 : Vec F S240x768 .i32) (x11 x12 : Vec F S8x768 .f32) (x15 x16 : Vec F S6x27x128 .i32)
    {v4 : BitVec 32} (h : v4.toNat ≤ 768) (c : Dev nD) (hc : k0_chk1 i v4) : ∀ k ≤ (k0_t1_loop v4).trips,
    Fills (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v4 hc (arg9.view.rep x9) (arg10.view.rep x10) (arg11.view.rep x11) (arg12.view.rep x12) (arg15.view.rep x15) (arg16.view.rep x16) k).1
        (tile (n := 12) (gVal (Tables.of x9 x10 x11 x12 x15 x16 (pt_lt i)) v4)) (128 * k)
      ∧ Fills (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v4 hc (arg9.view.rep x9) (arg10.view.rep x10) (arg11.view.rep x11) (arg12.view.rep x12) (arg15.view.rep x15) (arg16.view.rep x16) k).2
        (tile (n := 30) (dVal (Tables.of x9 x10 x11 x12 x15 x16 (pt_lt i)))) (128 * k)
  | 0, _ => ⟨Fills.nil _, Fills.nil _⟩
  | k + 1, hk => by
    have ih := fills x9 x10 x11 x12 x15 x16 h c hc k (Nat.le_of_succ_le hk)
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v4 hc (arg9.view.rep x9) (arg10.view.rep x10) (arg11.view.rep x11) (arg12.view.rep x12) (arg15.view.rep x15) (arg16.view.rep x16) ⟨k, hk⟩
    have eg := trip_g i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg9.view.rep x9) (arg10.view.rep x10) (arg11.view.rep x11) (arg12.view.rep x12) (arg15.view.rep x15) (arg16.view.rep x16) h ⟨k, hk⟩ c hc
    have ed := trip_d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg9.view.rep x9) (arg10.view.rep x10) (arg11.view.rep x11) (arg12.view.rep x12) (arg15.view.rep x15) (arg16.view.rep x16) h ⟨k, hk⟩ c hc
    rw [tabs_rep] at eg ed
    rw [(congrArg Prod.fst e).trans (congrArg (· ++ _) eg), (congrArg Prod.snd e).trans (congrArg (· ++ _) ed)]
    exact ⟨Fills.trip (t1_lt h ⟨k, hk⟩) gGroups_all ih.1, Fills.trip (t1_lt h ⟨k, hk⟩) dGroups_all ih.2⟩

end Cert.Kernel.Hand
-- ==== Proof.KernelBody.lean ====
/- One grid point of the kernel, as a triple: the first point builds the tables out of the input blocks, every point after it finds them
   in the scratch buffers; the point's block of the output is a function of the tables and of its pair count. -/
module

public import proofs.«01_k».proof.Proof.KernelPieces
public import proofs.«01_k».proof.Proof.Gen.Kernel.Loops
public import proofs.«01_k».proof.Proof.Gen.Kernel.Launch
public import Idealize.ShloMosaic.Lib.Pipeline.FrameBody
public import Idealize.ShloMosaic.Lib.Pipeline.TableIdle
public import Idealize.ShloMosaic.Lib.VecWindow
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Words Cert.Gather

variable {F : FTy → Type} [FloatOps F]

local notation "𝕄" => MT nD τ sig Unit (Elt F) ℕ (UR sig nD τ) ℕ

variable (i : grid0.Coords)
  (arg1 : Memref sig .tc .smem S27 .i32) (harg1 : arg1.IsWhole)
  (arg2 : Memref sig .tc .vmem S768x384 .i8) (harg2 : arg2.IsWhole)
  (arg3 : Memref sig .tc .vmem S1x768 .f32) (harg3 : arg3.IsWhole)
  (arg4 : Memref sig .tc .vmem S768x960 .i8) (harg4 : arg4.IsWhole)
  (arg5 : Memref sig .tc .vmem S1x768 .f32) (harg5 : arg5.IsWhole)
  (arg6 : Memref sig .tc .vmem S27x768 .i32) (harg6 : arg6.IsWhole)
  (arg7 : Memref sig .tc .vmem S27x768 .i32) (harg7 : arg7.IsWhole)
  (arg8 : Memref sig .tc .vmem S1x384x960 .f32) (harg8 : arg8.IsWhole)
  (arg9 : Memref sig .tc .vmem S96x768 .i32) (harg9 : arg9.IsWhole)
  (arg10 : Memref sig .tc .vmem S240x768 .i32) (harg10 : arg10.IsWhole)
  (arg11 : Memref sig .tc .vmem S8x768 .f32) (harg11 : arg11.IsWhole)
  (arg12 : Memref sig .tc .vmem S8x768 .f32) (harg12 : arg12.IsWhole)
  (arg13 : Memref sig .tc .vmem S384x768 .bf16) (harg13 : arg13.IsWhole)
  (arg14 : Memref sig .tc .vmem S960x768 .fp8e5m2) (harg14 : arg14.IsWhole)
  (arg15 : Memref sig .tc .vmem S6x27x128 .i32) (harg15 : arg15.IsWhole)
  (arg16 : Memref sig .tc .vmem S6x27x128 .i32) (harg16 : arg16.IsWhole)

/-- The word `(w == n) ? 1 : 0`, compared with zero again, says whether `w` is `n`. -/
theorem cond_iff (a b : BitVec 32) : Scalar.cmpi .ne (Scalar.extui (Scalar.cmpi .eq a b) : BitVec 32) 0#32 = 1#1 ↔ a = b := by
  by_cases h : a = b
  · subst h; simp [Scalar.cmpi, Scalar.extui, IntOp.cmpi]
  · have hb : (a == b) = false := beq_eq_false_iff_ne.2 h
    simp only [Scalar.cmpi, Scalar.extui, IntOp.cmpi, hb, h, iff_false]
    decide

theorem tileWord_is {v : BitVec 32} (h : v.toNat ≤ 768) {n : Nat} (hn : n ≤ 3) : tileWord v = BitVec.ofNat 32 n ↔ tiles v = n := by
  rw [tileWord_eq h]
  have := tiles_le h
  constructor
  · intro e; have e := congrArg BitVec.toNat e; simp only [BitVec.toNat_ofNat] at e; omega
  · intro e; rw [e]

theorem cond2_iff {v : BitVec 32} (h : v.toNat ≤ 768) : k0_cond2 v = 1#1 ↔ tiles v = 0 := (cond_iff _ _).trans (tileWord_is h (by omega))
theorem cond3_iff {v : BitVec 32} (h : v.toNat ≤ 768) : k0_cond3 v = 1#1 ↔ tiles v = 1 := (cond_iff _ _).trans (tileWord_is h (by omega))
theorem cond4_iff {v : BitVec 32} (h : v.toNat ≤ 768) : k0_cond4 v = 1#1 ↔ tiles v = 2 := (cond_iff _ _).trans (tileWord_is h (by omega))
theorem cond5_iff {v : BitVec 32} (h : v.toNat ≤ 768) : k0_cond5 v = 1#1 ↔ tiles v = 3 := (cond_iff _ _).trans (tileWord_is h (by omega))

/-- The pair count of offset `i`, out of the table of counts. -/
def cnt (i : grid0.Coords) (t : Vec F S27 .i32) : BitVec 32 := t (fun a => match a with | 0 => (i 0 : Fin 27))

theorem off1_eq (i : grid0.Coords) : k0_off1 i = ![(i 0).val] := by
  have hi := pt_lt i
  have h2 : (BitVec.ofNat 32 (i 0).val).toNat = (i 0).val := by rw [BitVec.toNat_ofNat]; omega
  show ![(BitVec.ofNat 32 (i 0).val).toNat] = _
  rw [h2]

/-- The point's pair count, as it is read from the table. -/
theorem read_cnt (t : Vec F S27 .i32) :
    arg1.view.readAt (Elt F) (Rect.unit (s := S27) (k0_off1 i) S1.size (k0_off1_inb i)).toLoadRect (arg1.view.rep t) (Shape.Idx.first (numel1_S1 ▸ Nat.one_pos))
      = cnt i t := by
  rw [View.readAt_rep]
  unfold cnt
  refine congrArg t (funext fun a => ?_)
  match a with
  | 0 => exact Fin.ext (by
      show k0_off1 i 0 + 1 * 0 = (i 0).val
      rw [off1_eq]; rfl)

/-- The first `256 n` columns of an array of 768. -/
def cols {α : Type} {R n : Nat} (h : n ≤ 768) (G : (⟨2, ![R, 768]⟩ : Shape).Idx → α) : (⟨2, ![R, n]⟩ : Shape).Idx → α :=
  fun y => G (ix2 (y 0) (Fin.castLE h (y 1)))

/-- The block of the output at a point whose pair count is `v`. -/
def outBlk (T : Tables F) (v : BitVec 32) : Vec F S1x384x960 .f32 :=
  if tiles v = 0 then k0_pay4
  else if tiles v = 1 then k0_pay5 (cols (n := 256) (by decide) (tile (n := 12) (gVal T v))) (cols (n := 256) (by decide) (tile (n := 30) (dVal T)))
  else if tiles v = 2 then k0_pay6 (cols (n := 512) (by decide) (tile (n := 12) (gVal T v))) (cols (n := 512) (by decide) (tile (n := 30) (dVal T)))
  else k0_pay7 (cols (n := 768) (by decide) (tile (n := 12) (gVal T v))) (cols (n := 768) (by decide) (tile (n := 30) (dVal T)))

section
variable (T : Tables F) {v : BitVec 32}
theorem outBlk_0 (h : tiles v = 0) : outBlk T v = k0_pay4 := by unfold outBlk; rw [h]; rfl
theorem outBlk_1 (h : tiles v = 1) : outBlk T v
    = k0_pay5 (cols (n := 256) (by decide) (tile (n := 12) (gVal T v))) (cols (n := 256) (by decide) (tile (n := 30) (dVal T))) := by
  unfold outBlk; rw [h]; rfl
theorem outBlk_2 (h : tiles v = 2) : outBlk T v
    = k0_pay6 (cols (n := 512) (by decide) (tile (n := 12) (gVal T v))) (cols (n := 512) (by decide) (tile (n := 30) (dVal T))) := by
  unfold outBlk; rw [h]; rfl
theorem outBlk_3 (h : tiles v = 3) : outBlk T v
    = k0_pay7 (cols (n := 768) (by decide) (tile (n := 12) (gVal T v))) (cols (n := 768) (by decide) (tile (n := 30) (dVal T))) := by
  unfold outBlk; rw [h]; rfl
end

theorem cols_unit {α : Type} {R n : Nat} (h : n ≤ 768) (G : (⟨2, ![R, 768]⟩ : Shape).Idx → α)
    (inb : ∀ a, (![0, 0] : Fin 2 → Nat) a + (![R, n] : Fin 2 → Nat) a ≤ (⟨2, ![R, 768]⟩ : Shape).size a) :
    (fun y => G ((Rect.unit (s := ⟨2, ![R, 768]⟩) ![0, 0] ![R, n] inb).toLoadRect.idx y)) = cols h G := by
  funext y
  unfold cols
  congr 1
  funext a
  match a with
  | 0 => exact Fin.ext (by show 0 + 1 * (y 0).val = (y 0).val; omega)
  | 1 => exact Fin.ext (by show 0 + 1 * (y 1).val = (y 1).val; omega)

/-- A read of the first columns, all of them filled. -/
theorem first_cols {R n c : Nat} {e : EltTy} (h : n ≤ 768) {L : List (View.Piece (Elt F) ⟨2, ![R, 768]⟩ e)}
    {G : (⟨2, ![R, 768]⟩ : Shape).Idx → Elt F e} (hL : Fills L G c) (hc : n ≤ c)
    (inb : ∀ a, (![0, 0] : Fin 2 → Nat) a + (![R, n] : Fin 2 → Nat) a ≤ (⟨2, ![R, 768]⟩ : Shape).size a)
    {κ : Kind} {sp : Space} (w : View sig κ sp ⟨2, ![R, 768]⟩ e) (f : w.ty.Contents (Elt F)) :
    w.readAt (Elt F) (Rect.unit (s := ⟨2, ![R, 768]⟩) ![0, 0] ![R, n] inb).toLoadRect (w.writes (Elt F) f L) = cols h G := by
  refine (hL.read w f _ fun y => ?_).trans (cols_unit h G inb)
  have : (y 1).val < n := (y 1).isLt
  show 0 + 1 * (y 1).val < c
  omega

section
variable (x9 : Vec F S96x768 .i32) (x10 : Vec F S240x768 .i32) (x11 x12 : Vec F S8x768 .f32) (x15 x16 : Vec F S6x27x128 .i32)

/-- The stores of the two loops: the gather loop's, and after them none. -/
abbrev stores (c : Dev nD) {v : BitVec 32} (hc : k0_chk1 i v) (w : BitVec 32) :=
  ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v hc w (arg9.view.rep x9) (arg10.view.rep x10) (arg11.view.rep x11) (arg12.view.rep x12) (arg15.view.rep x15) (arg16.view.rep x16)
      (Scf.trips (k0_t2_loop v).lb (k0_t2_loop v).ub (k0_t2_loop v).st)),
   (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v hc (arg9.view.rep x9) (arg10.view.rep x10) (arg11.view.rep x11) (arg12.view.rep x12) (arg15.view.rep x15) (arg16.view.rep x16)
      (Scf.trips (k0_t1_loop v).lb (k0_t1_loop v).ub (k0_t1_loop v).st)))

/-- They fill the columns that a point of `n` blocks of columns reads. -/
theorem stores_fill (c : Dev nD) {v : BitVec 32} (h : v.toNat ≤ 768) (hc : k0_chk1 i v) (w : BitVec 32) :
    Fills ((stores i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c hc w).1.1 ++ (stores i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c hc w).2.1)
        (tile (n := 12) (gVal (Tables.of x9 x10 x11 x12 x15 x16 (pt_lt i)) v)) (256 * tiles v)
      ∧ Fills ((stores i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c hc w).1.2 ++ (stores i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c hc w).2.2)
        (tile (n := 30) (dVal (Tables.of x9 x10 x11 x12 x15 x16 (pt_lt i)))) (256 * tiles v) := by
  have e2 : Scf.trips (k0_t2_loop v).lb (k0_t2_loop v).ub (k0_t2_loop v).st = 0 := t2_trips h
  have e1 : 128 * Scf.trips (k0_t1_loop v).lb (k0_t1_loop v).ub (k0_t1_loop v).st = 256 * tiles v := by
    rw [show Scf.trips (k0_t1_loop v).lb (k0_t1_loop v).ub (k0_t1_loop v).st = 2 * tiles v from t1_trips h]; omega
  have hf := fills i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 h c hc _ (Nat.le_refl _)
  unfold stores
  rw [e2, ← e1]
  exact hf

end

/-- The test of the first point. -/
abbrev first : Prop := (Scalar.cmpi .ne (Scalar.extui (Scalar.cmpi .eq (BitVec.ofNat 32 (i 0).val) 0#32)) (0#32 : BitVec 32) = 1#1)

/-- The elements of an array are held at the contents that stand for what it reads as. -/
theorem rep_of (c : Dev nD) {sp : Space} {s : Shape} {e : EltTy} (m : Memref sig .tc sp s e) {q : PosShare TreeShare} (f : BufTy.Contents (Elt F) m.view.ty) :
    (m.view.loc (c : Thread nD τ) ↦[m.view.set]{q} f : sProp 𝕄)
      ⊢ iprop(∃ X : s.Idx → Elt F e, ⌜X = m.view.read (Elt F) f⌝ ∗ (m.view.loc (c : Thread nD τ) ↦[m.view.set]{q} m.view.rep X)) := by
  simp only [← owns_eq_rep]
  unfold owns
  iintro H
  iexists _; isplitr
  · ipureintro; rfl
  iexists f; isplitr
  · ipureintro; rfl
  · iexact H

include harg1 in
set_option maxHeartbeats 4000000 in
/-- **The kernel at one point.** The first point builds the tables from the inputs; every later point finds them. Then
    both gather and leave the block of the output. -/
theorem sound (c : Dev nD) (E : Set ℕ) (t : Vec F S27 .i32) (ht : (cnt i t).toNat ≤ 768)
    (x2 : Vec F S768x384 .i8) (x3 : Vec F S1x768 .f32) (x4 : Vec F S768x960 .i8) (x5 : Vec F S1x768 .f32) (x6 x7 : Vec F S27x768 .i32)
    (x9 : Vec F S96x768 .i32) (x10 : Vec F S240x768 .i32) (x11 x12 : Vec F S8x768 .f32) (x15 x16 : Vec F S6x27x128 .i32)
    (f9 : BufTy.Contents (Elt F) arg9.view.ty) (f10 : BufTy.Contents (Elt F) arg10.view.ty) (f11 : BufTy.Contents (Elt F) arg11.view.ty) (f12 : BufTy.Contents (Elt F) arg12.view.ty) (f15 : BufTy.Contents (Elt F) arg15.view.ty) (f16 : BufTy.Contents (Elt F) arg16.view.ty) (f13 : BufTy.Contents (Elt F) arg13.view.ty) (f14 : BufTy.Contents (Elt F) arg14.view.ty) (f8 : BufTy.Contents (Elt F) arg8.view.ty)
    (e9 : x9 = k0_pay8 x2) (h9 : ¬ first i → f9 = arg9.view.rep x9)
    (e10 : x10 = k0_pay9 x4) (h10 : ¬ first i → f10 = arg10.view.rep x10)
    (e11 : x11 = k0_pay10 x3) (h11 : ¬ first i → f11 = arg11.view.rep x11)
    (e12 : x12 = k0_pay11 x5) (h12 : ¬ first i → f12 = arg12.view.rep x12)
    (e15 : x15 = split x6) (h15 : ¬ first i → f15 = arg15.view.rep x15)
    (e16 : x16 = split x7) (h16 : ¬ first i → f16 = arg16.view.rep x16)
    (K : PUnit → sProp 𝕄) :
    iprop((arg1.view.loc (c : Thread nD τ) ↦[arg1.view.set]{fullShare.right} arg1.view.rep t) ∗ (arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep x7) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg15.view.loc (c : Thread nD τ) ↦[arg15.view.set]{fullShare} f15) ∗ (arg16.view.loc (c : Thread nD τ) ↦[arg16.view.set]{fullShare} f16) ∗ (arg13.view.loc (c : Thread nD τ) ↦[arg13.view.set]{fullShare} f13) ∗ (arg14.view.loc (c : Thread nD τ) ↦[arg14.view.set]{fullShare} f14) ∗ (arg8.view.loc (c : Thread nD τ) ↦[arg8.view.set]{fullShare} f8)
        ∗ (iprop((arg1.view.loc (c : Thread nD τ) ↦[arg1.view.set]{fullShare.right} arg1.view.rep t) ∗ (arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep x7) ∗ (arg9.view.loc (c : Thread nD τ) ↦[arg9.view.set]{fullShare} arg9.view.rep x9) ∗ (arg10.view.loc (c : Thread nD τ) ↦[arg10.view.set]{fullShare} arg10.view.rep x10) ∗ (arg11.view.loc (c : Thread nD τ) ↦[arg11.view.set]{fullShare} arg11.view.rep x11) ∗ (arg12.view.loc (c : Thread nD τ) ↦[arg12.view.set]{fullShare} arg12.view.rep x12) ∗ (arg15.view.loc (c : Thread nD τ) ↦[arg15.view.set]{fullShare} arg15.view.rep x15) ∗ (arg16.view.loc (c : Thread nD τ) ↦[arg16.view.set]{fullShare} arg16.view.rep x16) ∗ (∃ f, (arg13.view.loc (c : Thread nD τ) ↦[arg13.view.set]{fullShare} f)) ∗ (∃ f, (arg14.view.loc (c : Thread nD τ) ↦[arg14.view.set]{fullShare} f)) ∗ owns (c : Thread nD τ) arg8 fullShare (outBlk (Tables.of x9 x10 x11 x12 x15 x16 (pt_lt i)) (cnt i t))) -∗ K ⟨⟩))
      ⊢ wp frame (wpE (defs₀ (F := F)) Variants.none c none) E (cc0_wgrad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_wgrad_eq_skeleton]; unfold cc0_wgrad_skel
  iintro ⟨H1, H2, H3, H4, H5, H6, H7, H9, H10, H11, H12, H15, H16, H13, H14, H8, Hk⟩
  by_cases hi : first i
  focus
    sl_exec
    ihave H9 := rep_of c arg9 _ $$ H9
    icases H9 with ⟨%y9, %k9, H9⟩
    have k9 : x9 = y9 := by rw [k9, e9]; refine Eq.symm ((View.read_writes_full _ _ _ _ _).trans ?_); exact congrArg k0_pay8 (View.readAt_rep_full arg2.view x2 _)
    subst k9
    ihave H10 := rep_of c arg10 _ $$ H10
    icases H10 with ⟨%y10, %k10, H10⟩
    have k10 : x10 = y10 := by rw [k10, e10]; refine Eq.symm ((View.read_writes_full _ _ _ _ _).trans ?_); exact congrArg k0_pay9 (View.readAt_rep_full arg4.view x4 _)
    subst k10
    ihave H11 := rep_of c arg11 _ $$ H11
    icases H11 with ⟨%y11, %k11, H11⟩
    have k11 : x11 = y11 := by rw [k11, e11]; refine Eq.symm ((View.read_writes_full _ _ _ _ _).trans ?_); exact congrArg k0_pay10 (View.readAt_rep_full arg3.view x3 _)
    subst k11
    ihave H12 := rep_of c arg12 _ $$ H12
    icases H12 with ⟨%y12, %k12, H12⟩
    have k12 : x12 = y12 := by rw [k12, e12]; refine Eq.symm ((View.read_writes_full _ _ _ _ _).trans ?_); exact congrArg k0_pay11 (View.readAt_rep_full arg5.view x5 _)
    subst k12
    ihave H15 := rep_of c arg15 _ $$ H15
    icases H15 with ⟨%y15, %k15, H15⟩
    have k15 : x15 = y15 := by rw [k15, e15]; exact Eq.symm (read_split arg15.view f15 arg6.view x6)
    subst k15
    ihave H16 := rep_of c arg16 _ $$ H16
    icases H16 with ⟨%y16, %k16, H16⟩
    have k16 : x16 = y16 := by rw [k16, e16]; exact Eq.symm (read_split arg16.view f16 arg7.view x7)
    subst k16
    ihave H13 := rep_of c arg13 _ $$ H13
    icases H13 with ⟨%y13, -, H13⟩
    ihave H14 := rep_of c arg14 _ $$ H14
    icases H14 with ⟨%y14, -, H14⟩
    have hv : sound.sl.r i arg1 t = cnt i t := read_cnt i arg1 t
    generalize sound.sl.r i arg1 t = v at hv ⊢
    subst hv
  rotate_left
  focus
    obtain rfl := h9 hi; obtain rfl := h10 hi; obtain rfl := h11 hi; obtain rfl := h12 hi; obtain rfl := h15 hi; obtain rfl := h16 hi
    sl_exec
    have hv : sound.sl.r_1 i arg1 t = cnt i t := read_cnt i arg1 t
    generalize sound.sl.r_1 i arg1 t = v at hv ⊢
    subst hv
  rotate_left
  all_goals have hc := chk ht i
  all_goals
    rcases (show tiles (cnt i t) = 0 ∨ tiles (cnt i t) = 1 ∨ tiles (cnt i t) = 2 ∨ tiles (cnt i t) = 3 by have := tiles_le ht; omega) with hn | hn | hn | hn
  all_goals
    sl_exec (disch := (simp only [cond2_iff ht, cond3_iff ht, cond4_iff ht, cond5_iff ht, hn] <;> omega))
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H15]; · iexact H15
    isplitl [H16]; · iexact H16
    isplitl [H13]; · iexists _; iexact H13
    isplitl [H14]; · iexists _; iexact H14
    unfold owns
    iexists _; isplitr
    swap; · iexact H8
    ipureintro
    refine (View.read_writes_full _ _ _ _ _).trans ?_
  · exact (outBlk_0 _ hn).symm
  · refine (congrArg₂ k0_pay5 (first_cols (R := 384) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).1 (by omega) _ _ _)
      (first_cols (R := 960) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).2 (by omega) _ _ _)).trans (outBlk_1 _ hn).symm
  · refine (congrArg₂ k0_pay6 (first_cols (R := 384) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).1 (by omega) _ _ _)
      (first_cols (R := 960) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).2 (by omega) _ _ _)).trans (outBlk_2 _ hn).symm
  · refine (congrArg₂ k0_pay7 (first_cols (R := 384) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).1 (by omega) _ _ _)
      (first_cols (R := 960) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).2 (by omega) _ _ _)).trans (outBlk_3 _ hn).symm
  · exact (outBlk_0 _ hn).symm
  · refine (congrArg₂ k0_pay5 (first_cols (R := 384) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).1 (by omega) _ _ _)
      (first_cols (R := 960) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).2 (by omega) _ _ _)).trans (outBlk_1 _ hn).symm
  · refine (congrArg₂ k0_pay6 (first_cols (R := 384) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).1 (by omega) _ _ _)
      (first_cols (R := 960) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).2 (by omega) _ _ _)).trans (outBlk_2 _ hn).symm
  · refine (congrArg₂ k0_pay7 (first_cols (R := 384) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).1 (by omega) _ _ _)
      (first_cols (R := 960) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).2 (by omega) _ _ _)).trans (outBlk_3 _ hn).symm
include harg1 in
/-- The same of whole arrays at contents. -/
theorem sound_owns (c : Dev nD) (E : Set ℕ) (t : Vec F S27 .i32) (ht : (cnt i t).toNat ≤ 768)
    (x2 : Vec F S768x384 .i8) (x3 : Vec F S1x768 .f32) (x4 : Vec F S768x960 .i8) (x5 : Vec F S1x768 .f32) (x6 x7 : Vec F S27x768 .i32)
    (x9 : Vec F S96x768 .i32) (x10 : Vec F S240x768 .i32) (x11 x12 : Vec F S8x768 .f32) (x15 x16 : Vec F S6x27x128 .i32)
    (f9 : Vec F S96x768 .i32) (e9 : x9 = k0_pay8 x2) (h9 : ¬ first i → f9 = x9)
    (f10 : Vec F S240x768 .i32) (e10 : x10 = k0_pay9 x4) (h10 : ¬ first i → f10 = x10)
    (f11 : Vec F S8x768 .f32) (e11 : x11 = k0_pay10 x3) (h11 : ¬ first i → f11 = x11)
    (f12 : Vec F S8x768 .f32) (e12 : x12 = k0_pay11 x5) (h12 : ¬ first i → f12 = x12)
    (f15 : Vec F S6x27x128 .i32) (e15 : x15 = split x6) (h15 : ¬ first i → f15 = x15)
    (f16 : Vec F S6x27x128 .i32) (e16 : x16 = split x7) (h16 : ¬ first i → f16 = x16)
    (K : PUnit → sProp 𝕄) :
    iprop(owns (c : Thread nD τ) arg1 fullShare.right t ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare f9 ∗ owns (c : Thread nD τ) arg10 fullShare f10 ∗ owns (c : Thread nD τ) arg11 fullShare f11 ∗ owns (c : Thread nD τ) arg12 fullShare f12 ∗ owns (c : Thread nD τ) arg15 fullShare f15 ∗ owns (c : Thread nD τ) arg16 fullShare f16 ∗ (∃ f, owns (c : Thread nD τ) arg13 fullShare f) ∗ (∃ f, owns (c : Thread nD τ) arg14 fullShare f) ∗ (∃ f, owns (c : Thread nD τ) arg8 fullShare f)
        ∗ (iprop(owns (c : Thread nD τ) arg1 fullShare.right t ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg15 fullShare x15 ∗ owns (c : Thread nD τ) arg16 fullShare x16 ∗ (∃ f, owns (c : Thread nD τ) arg13 fullShare f) ∗ (∃ f, owns (c : Thread nD τ) arg14 fullShare f) ∗ owns (c : Thread nD τ) arg8 fullShare (outBlk (Tables.of x9 x10 x11 x12 x15 x16 (pt_lt i)) (cnt i t))) -∗ K ⟨⟩))
      ⊢ wp frame (wpE (defs₀ (F := F)) Variants.none c none) E (cc0_wgrad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have s := fun f13 f14 f8 => sound i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c E t ht x2 x3 x4 x5 x6 x7 x9 x10 x11 x12 x15 x16
    (arg9.view.rep f9) (arg10.view.rep f10) (arg11.view.rep f11) (arg12.view.rep f12) (arg15.view.rep f15) (arg16.view.rep f16) f13 f14 f8 e9 (fun h => congrArg _ (h9 h)) e10 (fun h => congrArg _ (h10 h)) e11 (fun h => congrArg _ (h11 h)) e12 (fun h => congrArg _ (h12 h)) e15 (fun h => congrArg _ (h15 h)) e16 (fun h => congrArg _ (h16 h)) K
  simp only [owns_eq_rep] at s ⊢
  iintro ⟨H1, H2, H3, H4, H5, H6, H7, H9, H10, H11, H12, H15, H16, ⟨%f13, H13⟩, ⟨%f14, H14⟩, ⟨%f8, H8⟩, Hk⟩
  iapply (s (arg13.view.rep f13) (arg14.view.rep f14) (arg8.view.rep f8))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H15]; · iexact H15
  isplitl [H16]; · iexact H16
  isplitl [H13]; · iexact H13
  isplitl [H14]; · iexact H14
  isplitl [H8]; · iexact H8
  iintro ⟨H1, H2, H3, H4, H5, H6, H7, H9, H10, H11, H12, H15, H16, ⟨%g13, H13⟩, ⟨%g14, H14⟩, H8⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H15]; · iexact H15
  isplitl [H16]; · iexact H16
  isplitl [H13]
  · ihave H13 := rep_of c arg13 _ $$ H13
    icases H13 with ⟨%y, -, H13⟩
    iexists y; iexact H13
  isplitl [H14]
  · ihave H14 := rep_of c arg14 _ $$ H14
    icases H14 with ⟨%y, -, H14⟩
    iexists y; iexact H14
  iexact H8

end Cert.Kernel.Hand
-- ==== Proof.KernelFrame.lean ====
module

public import proofs.«01_k».proof.Proof.KernelBody

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Words Cert.Gather

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel -/

/-- What the buffers hold when the kernel starts: after the two reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix pcfgs 0 defs₀ 𝒱₀ m main hostOps0 hostOps0_sub hostOps0_fresh main_chain

/-- A buffer that neither reshape writes is found as it was. -/
theorem V_keep (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The prefetched counts -/

/-- The counts, as the kernel finds them. There is one device. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

abbrev adm : (pcfg0 (F := F)).Adm := ⟨tbl m, trivial⟩
abbrev cfgM : Pipeline.Cfg sig Λ₀ := cfg0 (adm m)

/-- The counts as an array of 27 words. -/
abbrev counts : Vec F S27 .i32 := tbl m 0

theorem PhiT_eq (c : Dev nD) :
    (Pipeline.ΦT pre0 (tbl m) c : sProp 𝕄) = owns (c : Thread nD τ) (Memref.whole main_arg6) fullShare.right (counts m) := by
  unfold Pipeline.ΦT Pipeline.prefHeld
  rw [show (Finset.univ : Finset (Fin 1)) = {(0 : Fin 1)} from by decide, bigSep_singleton, owns_whole]
  rfl

/-! ## The windows' blocks -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The first point. -/
abbrev p0 : Fin (cfgM m).N := ⟨0, by show 0 < grid0.N; rw [N_0]; decide⟩

/-- An input whose body leaves its block in place is found holding the block. -/
theorem before_of {c : Dev nD} (dat : Dat τ (Elt F) Unit ℕ (UR sig nD τ) ℕ (cfgM m) c) (w : Fin (cfgM m).W) (hw : ((cfgM m).win w).isOut = false)
    (hlive : ∀ i, (cfgM m).idle w i = false)
    (hclip : ∀ t t' : Fin (cfgM m).N, ((cfgM m).win w).index t = ((cfgM m).win w).index t' →
      ((cfgM m).win w).clip ((cfgM m).grid.coords t) = ((cfgM m).win w).clip ((cfgM m).grid.coords t'))
    (t : Fin (cfgM m).N) (d) (hkeep : ∀ t, ((cfgM m).win w).cut ((cfgM m).grid.coords t) (dat.after w t) = dat.blockOf w t) :
    dat.before w t d = dat.fetched w t d :=
  dat.before_in_eq_fetched w hw hlive hclip hkeep t d

/-- Input 0, whole. -/
abbrev in0 (c : Dev nD) : Vec F S768x384 .i8 := iblk m c 0 (p0 m)
theorem iblk_0 (c : Dev nD) (t : Fin (cfgM m).N) : iblk m c 0 t = in0 m c := rfl
/-- Input 1, whole. -/
abbrev in1 (c : Dev nD) : Vec F S1x768 .f32 := iblk m c 1 (p0 m)
theorem iblk_1 (c : Dev nD) (t : Fin (cfgM m).N) : iblk m c 1 t = in1 m c := rfl
/-- Input 2, whole. -/
abbrev in2 (c : Dev nD) : Vec F S768x960 .i8 := iblk m c 2 (p0 m)
theorem iblk_2 (c : Dev nD) (t : Fin (cfgM m).N) : iblk m c 2 t = in2 m c := rfl
/-- Input 3, whole. -/
abbrev in3 (c : Dev nD) : Vec F S1x768 .f32 := iblk m c 3 (p0 m)
theorem iblk_3 (c : Dev nD) (t : Fin (cfgM m).N) : iblk m c 3 t = in3 m c := rfl
/-- Input 4, whole. -/
abbrev in4 (c : Dev nD) : Vec F S27x768 .i32 := iblk m c 4 (p0 m)
theorem iblk_4 (c : Dev nD) (t : Fin (cfgM m).N) : iblk m c 4 t = in4 m c := rfl
/-- Input 5, whole. -/
abbrev in5 (c : Dev nD) : Vec F S27x768 .i32 := iblk m c 5 (p0 m)
theorem iblk_5 (c : Dev nD) (t : Fin (cfgM m).N) : iblk m c 5 t = in5 m c := rfl

/-! ## The tables -/

/-- A scratch buffer: at anything before the first point, afterwards at `X`. -/
def held (c : Dev nD) (b : Ref sig .tc) (X : b.ty.Contents (Elt F)) (t : ℕ) : sProp 𝕄 :=
  iprop(∃ f : b.ty.Contents (Elt F), ⌜t ≠ 0 → f = X⌝ ∗ owns (c : Thread nD τ) (Memref.whole b) fullShare f)

/-- What is held before point `t`: the tables once the first point has built them, the two gathered arrays at anything,
    the random-number register, and the counts. -/
def Phi (c : Dev nD) (t : ℕ) : sProp 𝕄 :=
  iprop(held c cc0_scratch0 (k0_pay8 (in0 m c)) t ∗ held c cc0_scratch1 (k0_pay9 (in2 m c)) t ∗ held c cc0_scratch2 (k0_pay10 (in1 m c)) t ∗ held c cc0_scratch3 (k0_pay11 (in3 m c)) t ∗ (∃ f, owns (c : Thread nD τ) (Memref.whole cc0_scratch4) fullShare f) ∗ (∃ f, owns (c : Thread nD τ) (Memref.whole cc0_scratch5) fullShare f) ∗ held c cc0_scratch6 (split (in4 m c)) t ∗ held c cc0_scratch7 (split (in5 m c)) t
    ∗ (∃ r, prngReg c r) ∗ owns (c : Thread nD τ) (Memref.whole main_arg6) fullShare.right (counts m))

/-- The tables the gather of point `t` reads. -/
abbrev tables (c : Dev nD) (t : Fin (cfgM m).N) : Tables F :=
  Tables.of (k0_pay8 (in0 m c)) (k0_pay9 (in2 m c)) (k0_pay10 (in1 m c)) (k0_pay11 (in3 m c)) (split (in4 m c)) (split (in5 m c)) (pt_lt (grid0.coords t))

/-- The block the kernel leaves at point `t`. -/
def outv (c : Dev nD) (t : Fin (cfgM m).N) : Vec F S1x384x960 .f32 := outBlk (tables m c t) (cnt (grid0.coords t) (counts m))

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outv m c t
  Φ t := Phi m c t.val
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := rfl
theorem after_1 (c : Dev nD) (t : Fin (cfgM m).N) : (dats m 0 c).after 1 t = iblk m c 1 t := rfl
theorem after_2 (c : Dev nD) (t : Fin (cfgM m).N) : (dats m 0 c).after 2 t = iblk m c 2 t := rfl
theorem after_3 (c : Dev nD) (t : Fin (cfgM m).N) : (dats m 0 c).after 3 t = iblk m c 3 t := rfl
theorem after_4 (c : Dev nD) (t : Fin (cfgM m).N) : (dats m 0 c).after 4 t = iblk m c 4 t := rfl
theorem after_5 (c : Dev nD) (t : Fin (cfgM m).N) : (dats m 0 c).after 5 t = iblk m c 5 t := rfl
theorem after_6 (c : Dev nD) (t : Fin (cfgM m).N) : (dats m 0 c).after 6 t = outv m c t := rfl

theorem before_0 (c : Dev nD) (t : Fin (cfgM m).N) (d) : (dats m 0 c).before 0 t d = in0 m c :=
  (before_of m (dats m 0 c) 0 rfl (fun _ => rfl) (fun _ _ _ => rfl) t d (fun t => by rw [after_0]; unfold Dat.blockOf iblk; rw [A_eq]; try rfl)).trans
    (by unfold Dat.fetched Dat.blockOf in0 iblk; rw [A_eq]; try rfl)
theorem before_1 (c : Dev nD) (t : Fin (cfgM m).N) (d) : (dats m 0 c).before 1 t d = in1 m c :=
  (before_of m (dats m 0 c) 1 rfl (fun _ => rfl) (fun _ _ _ => rfl) t d (fun t => by rw [after_1]; unfold Dat.blockOf iblk; rw [A_eq]; try rfl)).trans
    (by unfold Dat.fetched Dat.blockOf in1 iblk; rw [A_eq]; try rfl)
theorem before_2 (c : Dev nD) (t : Fin (cfgM m).N) (d) : (dats m 0 c).before 2 t d = in2 m c :=
  (before_of m (dats m 0 c) 2 rfl (fun _ => rfl) (fun _ _ _ => rfl) t d (fun t => by rw [after_2]; unfold Dat.blockOf iblk; rw [A_eq]; try rfl)).trans
    (by unfold Dat.fetched Dat.blockOf in2 iblk; rw [A_eq]; try rfl)
theorem before_3 (c : Dev nD) (t : Fin (cfgM m).N) (d) : (dats m 0 c).before 3 t d = in3 m c :=
  (before_of m (dats m 0 c) 3 rfl (fun _ => rfl) (fun _ _ _ => rfl) t d (fun t => by rw [after_3]; unfold Dat.blockOf iblk; rw [A_eq]; try rfl)).trans
    (by unfold Dat.fetched Dat.blockOf in3 iblk; rw [A_eq]; try rfl)
theorem before_4 (c : Dev nD) (t : Fin (cfgM m).N) (d) : (dats m 0 c).before 4 t d = in4 m c :=
  (before_of m (dats m 0 c) 4 rfl (fun _ => rfl) (fun _ _ _ => rfl) t d (fun t => by rw [after_4]; unfold Dat.blockOf iblk; rw [A_eq]; try rfl)).trans
    (by unfold Dat.fetched Dat.blockOf in4 iblk; rw [A_eq]; try rfl)
theorem before_5 (c : Dev nD) (t : Fin (cfgM m).N) (d) : (dats m 0 c).before 5 t d = in5 m c :=
  (before_of m (dats m 0 c) 5 rfl (fun _ => rfl) (fun _ _ _ => rfl) t d (fun t => by rw [after_5]; unfold Dat.blockOf iblk; rw [A_eq]; try rfl)).trans
    (by unfold Dat.fetched Dat.blockOf in5 iblk; rw [A_eq]; try rfl)
abbrev st0 (t : Fin (cfgM m).N) := ((cfgM m).win 0).stage ((cfgM m).slots t 0)
abbrev st1 (t : Fin (cfgM m).N) := ((cfgM m).win 1).stage ((cfgM m).slots t 1)
abbrev st2 (t : Fin (cfgM m).N) := ((cfgM m).win 2).stage ((cfgM m).slots t 2)
abbrev st3 (t : Fin (cfgM m).N) := ((cfgM m).win 3).stage ((cfgM m).slots t 3)
abbrev st4 (t : Fin (cfgM m).N) := ((cfgM m).win 4).stage ((cfgM m).slots t 4)
abbrev st5 (t : Fin (cfgM m).N) := ((cfgM m).win 5).stage ((cfgM m).slots t 5)
abbrev st6 (t : Fin (cfgM m).N) := ((cfgM m).win 6).stage ((cfgM m).slots t 6)

/-- The kernel at point `t` on what the pipeline hands it. -/
abbrev bodyAt (t : Fin (cfgM m).N) : Prog (TpuEff nD τ sig (Elt F) Λ₀ .tc) PUnit :=
  cc0_wgrad (grid0.coords t) (Memref.whole main_arg6) (Memref.isWhole_whole _) (st0 m t) (hstage0_0 (((cfgM m).slots t 0).cast nbuf0_0)) (st1 m t) (hstage0_1 (((cfgM m).slots t 1).cast nbuf0_1)) (st2 m t) (hstage0_2 (((cfgM m).slots t 2).cast nbuf0_2)) (st3 m t) (hstage0_3 (((cfgM m).slots t 3).cast nbuf0_3)) (st4 m t) (hstage0_4 (((cfgM m).slots t 4).cast nbuf0_4)) (st5 m t) (hstage0_5 (((cfgM m).slots t 5).cast nbuf0_5)) (st6 m t) (hstage0_6 (((cfgM m).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

theorem defs₀_row (t : Fin (cfgM m).N) : defs₀ (F := F) .tc (cfgM m).body ((cfgM m).bodyArgs t ((cfgM m).slots t)) = bodyAt m t := by
  unfold defs₀; rw [Defs.onTc_tc]; rfl

def bodyPre (c : Dev nD) (t : Fin (cfgM m).N) : sProp 𝕄 :=
  iprop((dats m 0 c).Φ t.castSucc ∗ (dats m 0 c).owesAt () t.castSucc
    ∗ (∃ d, owns (c : Thread nD τ) (st0 m t) fullShare ((dats m 0 c).before 0 t d)) ∗ (∃ d, owns (c : Thread nD τ) (st1 m t) fullShare ((dats m 0 c).before 1 t d)) ∗ (∃ d, owns (c : Thread nD τ) (st2 m t) fullShare ((dats m 0 c).before 2 t d)) ∗ (∃ d, owns (c : Thread nD τ) (st3 m t) fullShare ((dats m 0 c).before 3 t d)) ∗ (∃ d, owns (c : Thread nD τ) (st4 m t) fullShare ((dats m 0 c).before 4 t d)) ∗ (∃ d, owns (c : Thread nD τ) (st5 m t) fullShare ((dats m 0 c).before 5 t d)) ∗ (∃ d, owns (c : Thread nD τ) (st6 m t) fullShare ((dats m 0 c).before 6 t d)))

def bodyPost (c : Dev nD) (t : Fin (cfgM m).N) : sProp 𝕄 :=
  iprop((dats m 0 c).Φ t.succ ∗ (dats m 0 c).owesAt () t.succ
    ∗ owns (c : Thread nD τ) (st0 m t) fullShare ((dats m 0 c).after 0 t) ∗ owns (c : Thread nD τ) (st1 m t) fullShare ((dats m 0 c).after 1 t) ∗ owns (c : Thread nD τ) (st2 m t) fullShare ((dats m 0 c).after 2 t) ∗ owns (c : Thread nD τ) (st3 m t) fullShare ((dats m 0 c).after 3 t) ∗ owns (c : Thread nD τ) (st4 m t) fullShare ((dats m 0 c).after 4 t) ∗ owns (c : Thread nD τ) (st5 m t) fullShare ((dats m 0 c).after 5 t) ∗ owns (c : Thread nD τ) (st6 m t) fullShare ((dats m 0 c).after 6 t))

/-- The first point is the one whose number is zero. -/
theorem first_of (t : Fin (cfgM m).N) (h : t.val = 0) : first (grid0.coords t) := by
  obtain rfl : t = p0 m := Fin.ext h
  exact (by decide +kernel : first (grid0.coords ⟨0, by rw [N_0]; decide⟩))

/-- Every point writes its block back. -/
theorem flush_6 : ∀ t : Fin (cfgM m).N, ((cfgM m).win 6).flush t = true :=
  (by decide +kernel : ∀ t : Fin grid0.N, Pipeline.Window.flushOf grid0 true cc0_transform_6 t = true)

section
variable (hc : ∀ t : Fin (cfgM m).N, (cnt (grid0.coords t) (counts m)).toNat ≤ 768)
include hc

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3, before_4, before_5]
  rw [show (dats m 0 c).Φ t.castSucc = Phi m c t.val from rfl, show (dats m 0 c).Φ t.succ = Phi m c (t.val + 1) from rfl,
    show (dats m 0 c).owesAt () t.succ = (dats m 0 c).owesAt () t.castSucc from rfl,
    after_0, after_1, after_2, after_3, after_4, after_5, after_6]
  unfold Phi held
  iintro ⟨⟨⟨%f9, %h9, H9⟩, ⟨%f10, %h10, H10⟩, ⟨%f11, %h11, H11⟩, ⟨%f12, %h12, H12⟩, H13, H14, ⟨%f15, %h15, H15⟩, ⟨%f16, %h16, H16⟩, Hr, H1⟩, Ho, ⟨%d2, H2⟩, ⟨%d3, H3⟩, ⟨%d4, H4⟩, ⟨%d5, H5⟩, ⟨%d6, H6⟩, ⟨%d7, H7⟩, ⟨%d8, H8⟩⟩
  have hn : ¬ first (grid0.coords t) → t.val ≠ 0 := fun h h0 => h (first_of m t h0)
  iapply (sound_owns (grid0.coords t) (Memref.whole main_arg6) (Memref.isWhole_whole _) (st0 m t) (hstage0_0 (((cfgM m).slots t 0).cast nbuf0_0)) (st1 m t) (hstage0_1 (((cfgM m).slots t 1).cast nbuf0_1)) (st2 m t) (hstage0_2 (((cfgM m).slots t 2).cast nbuf0_2)) (st3 m t) (hstage0_3 (((cfgM m).slots t 3).cast nbuf0_3)) (st4 m t) (hstage0_4 (((cfgM m).slots t 4).cast nbuf0_4)) (st5 m t) (hstage0_5 (((cfgM m).slots t 5).cast nbuf0_5)) (st6 m t) (hstage0_6 (((cfgM m).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) c Set.univ (counts m) (hc t) (in0 m c) (in1 m c) (in2 m c) (in3 m c) (in4 m c) (in5 m c)
    _ _ _ _ _ _ f9 rfl (fun h => h9 (hn h)) f10 rfl (fun h => h10 (hn h)) f11 rfl (fun h => h11 (hn h)) f12 rfl (fun h => h12 (hn h)) f15 rfl (fun h => h15 (hn h)) f16 rfl (fun h => h16 (hn h)) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H15]; · iexact H15
  isplitl [H16]; · iexact H16
  isplitl [H13]; · iexact H13
  isplitl [H14]; · iexact H14
  isplitl [H8]; · iexists _; iexact H8
  iintro ⟨H1, H2, H3, H4, H5, H6, H7, H9, H10, H11, H12, H15, H16, H13, H14, H8⟩
  isplitl [Hr H1 H9 H10 H11 H12 H13 H14 H15 H16]
  · isplitl [H9]
    · iexists _; isplitr; swap; · iexact H9
      ipureintro; exact fun _ => rfl
    isplitl [H10]
    · iexists _; isplitr; swap; · iexact H10
      ipureintro; exact fun _ => rfl
    isplitl [H11]
    · iexists _; isplitr; swap; · iexact H11
      ipureintro; exact fun _ => rfl
    isplitl [H12]
    · iexists _; isplitr; swap; · iexact H12
      ipureintro; exact fun _ => rfl
    isplitl [H13]; · iexact H13
    isplitl [H14]; · iexact H14
    isplitl [H15]
    · iexists _; isplitr; swap; · iexact H15
      ipureintro; exact fun _ => rfl
    isplitl [H16]
    · iexists _; isplitr; swap; · iexact H16
      ipureintro; exact fun _ => rfl
    isplitl [Hr]; · iexact Hr
    iexact H1
  isplitl [Ho]; · iexact Ho
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0, defs₀_row]
  refine triple_restated (sound_body m hc c t) rfl .rfl fun _ => ?_
  unfold bodyPost
  refine sep_mono .rfl (sep_mono .rfl (sep_mono .rfl (sep_mono .rfl (sep_mono .rfl (sep_mono .rfl (sep_mono .rfl (sep_mono .rfl ?_)))))))
  dsimp only
  have hf : (pcfg0.win (adm m) 6).flush t = true := flush_6 m t
  split
  · split
    · rename_i h
      exact absurd (h.symm.trans hf) (by decide)
    · exact .rfl
  · exact .rfl

end

theorem hin (c : Dev nD) : iprop(Pipeline.ΦA spec0 c ∗ Pipeline.ΦT pre0 (tbl m) c) ⊢ (dats m 0 c).Φ 0 := by
  rw [PhiT_eq, show (dats m 0 c).Φ 0 = Phi m c 0 from rfl]
  unfold Pipeline.ΦA Phi held
  rw [scopedRest0_eq]
  simp only [owns_whole]
  iintro ⟨⟨⟨⟨%f0, S0⟩, ⟨%f1, S1⟩, ⟨%f2, S2⟩, ⟨%f3, S3⟩, S4, S5, ⟨%f6, S6⟩, ⟨%f7, S7⟩⟩, Hr⟩, H1⟩
  isplitl [S0]
  · iexists f0; isplitr
    · ipureintro; exact fun h => absurd rfl h
    · iexact S0
  isplitl [S1]
  · iexists f1; isplitr
    · ipureintro; exact fun h => absurd rfl h
    · iexact S1
  isplitl [S2]
  · iexists f2; isplitr
    · ipureintro; exact fun h => absurd rfl h
    · iexact S2
  isplitl [S3]
  · iexists f3; isplitr
    · ipureintro; exact fun h => absurd rfl h
    · iexact S3
  isplitl [S4]; · iexact S4
  isplitl [S5]; · iexact S5
  isplitl [S6]
  · iexists f6; isplitr
    · ipureintro; exact fun h => absurd rfl h
    · iexact S6
  isplitl [S7]
  · iexists f7; isplitr
    · ipureintro; exact fun h => absurd rfl h
    · iexact S7
  isplitl [Hr]; · iexact Hr
  iexact H1

theorem hout (c : Dev nD) : (dats m 0 c).Φ (Fin.last (cfgM m).N) ⊢ Pipeline.ΦA spec0 c := by
  rw [show (dats m 0 c).Φ (Fin.last (cfgM m).N) = Phi m c (cfgM m).N from rfl]
  unfold Pipeline.ΦA Phi held
  rw [scopedRest0_eq]
  simp only [owns_whole]
  iintro ⟨⟨%f0, -, S0⟩, ⟨%f1, -, S1⟩, ⟨%f2, -, S2⟩, ⟨%f3, -, S3⟩, S4, S5, ⟨%f6, -, S6⟩, ⟨%f7, -, S7⟩, Hr, -⟩
  isplitr [Hr]
  swap; · iexact Hr
  isplitl [S0]; · iexists f0; iexact S0
  isplitl [S1]; · iexists f1; iexact S1
  isplitl [S2]; · iexists f2; iexact S2
  isplitl [S3]; · iexists f3; iexact S3
  isplitl [S4]; · iexact S4
  isplitl [S5]; · iexact S5
  isplitl [S6]; · iexists f6; iexact S6
  iexists f7; iexact S7

/-! ## The run -/

section
variable (hc : ∀ t : Fin (cfgM m).N, (cnt (grid0.coords t) (counts m)).toNat ≤ 768)
include hc

set_option backward.isDefEq.respectTransparency.types false in
set_option maxHeartbeats 800000 in
/-- The whole program runs, ends with every array as the proof data says, and with every counter at zero. -/
theorem run_main : θ_run defs (onTc (τ := τ) (main (F := F))) (s₀ m ρ)
    (fun r => (Pipeline.FramePost (Pipeline.pin (pcfgs (F := F)) fun _ => adm m) (dats m) 0 (V m)) r ∧ r.2.sem = fun _ => 0) :=
  Pipeline.θ_run_frameP_track (Q' := _) pcfgs (fun _ => adm m) (dats m) (0 : Fin 1) launch0 defs₀ Variants.none m ρ main
    (hbody := fun c => (body_obligation m hc c).loose) (hshare := fun c => (dats m 0 c).share_full fun _ => rfl)
    (howed := fun _ _ => rfl) (V := V m) (hmain := hmain m Variants.none) (hA := A_eq m) (hpf := V_pre m) (hin := hin m) (hout := hout m)

/-- The arguments end as they were and every counter at zero. -/
theorem frame_of_counts : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r ⟨h, hs⟩ => ⟨fun c => ⟨((h c).1 0).trans (((dats m 0 c).arrAt_in 0 rfl _).trans ((A_eq m c 0).trans (V_keep m c main_arg0 (by decide) (by decide)))),
      ((h c).2 main_arg1 (Pipeline.mem_restRefs_of main_arg1 (by decide) (by decide : ∀ w : Fin 7, (spec0 w).arr.view.ref ≠ main_arg1))).trans (V_keep m c main_arg1 (by decide) (by decide)),
      ((h c).1 2).trans (((dats m 0 c).arrAt_in 2 rfl _).trans ((A_eq m c 2).trans (V_keep m c main_arg2 (by decide) (by decide)))),
      ((h c).2 main_arg3 (Pipeline.mem_restRefs_of main_arg3 (by decide) (by decide : ∀ w : Fin 7, (spec0 w).arr.view.ref ≠ main_arg3))).trans (V_keep m c main_arg3 (by decide) (by decide)),
      ((h c).1 4).trans (((dats m 0 c).arrAt_in 4 rfl _).trans ((A_eq m c 4).trans (V_keep m c main_arg4 (by decide) (by decide)))),
      ((h c).1 5).trans (((dats m 0 c).arrAt_in 5 rfl _).trans ((A_eq m c 5).trans (V_keep m c main_arg5 (by decide) (by decide)))),
      ((h c).2 main_arg6 (Pipeline.mem_restRefs_of main_arg6 (by decide) (by decide : ∀ w : Fin 7, (spec0 w).arr.view.ref ≠ main_arg6))).trans (V_keep m c main_arg6 (by decide) (by decide))⟩, hs⟩) (run_main m ρ hc)

end

end Cert.Kernel.Hand
-- ==== Proof.Ranges.lean ====
module

public import Idealize.ShloMosaic.Lib.StableHlo
public import Idealize.ShloMosaic.Lib.StableHlo.Predicate
public import Idealize.ShloMosaic.Lib.ReduceAll
public import proofs.«01_k».proof.Pre_counts
public import proofs.«01_k».proof.Pre_pairs

@[expose] public section

/-!
  What the two preconditions say of the integer tables, read off their printed functions. `counts`: no pair count
  exceeds 768. `pairs`: besides that, every input position and every output position is a row number of the 768 rows.
-/

namespace Cert.Ranges

open Idealize.ShloMosaic

/-- A signed word between 0 and a small bound is that small as a natural number. -/
theorem le_of_between {a b : BitVec 32} (hb : b.toNat < 2 ^ 31) (h : IntOp.andi (IntOp.cmpi .sge a 0#32) (IntOp.cmpi .sle a b) = 1#1) :
    a.toNat ≤ b.toNat := by
  obtain ⟨h0, h1⟩ := IntOp.andi_eq_one.1 h
  unfold IntOp.cmpi at h0 h1
  rw [StableHlo.Predicate.ofBool_eq_one_iff] at h0 h1
  simp only [BitVec.sle, decide_eq_true_eq] at h0 h1
  rw [StableHlo.Predicate.toInt_eq_toNat_of_lt hb] at h1
  have e := BitVec.toInt_eq_toNat_cond a
  have l := a.isLt
  simp at h0
  split at e <;> omega

section
open Cert.Pre_counts

/-- The range that `counts` states. -/
theorem counts_range [Facts] {F : FTy → Type} [FloatOps F] {a0 : IVec S768x384 8} {a1 : FVec F S768 .f32} {a2 : IVec S768x960 8} {a3 : FVec F S768 .f32}
    {a4 a5 : IVec S27x768 32} {a6 : IVec S27 32} (h : fn a0 a1 a2 a3 a4 a5 a6 = fun _ => 1#1) : ∀ y, (a6 y).toNat ≤ 768 := by
  have e := congrFun h (fun k => k.elim0)
  simp only [fn] at e
  haveI : Subsingleton S_.Idx := ⟨fun a b => funext fun k => k.elim0⟩
  exact fun y => le_of_between (b := 768#32) (by decide) (Host.reduce_andi_all _ _ _ _ _ e y)

end

section
open Cert.Pre_pairs

/-- The three ranges that `pairs` states. -/
theorem ranges [Facts] {F : FTy → Type} [FloatOps F] {a0 : IVec S768x384 8} {a1 : FVec F S768 .f32} {a2 : IVec S768x960 8} {a3 : FVec F S768 .f32}
    {a4 a5 : IVec S27x768 32} {a6 : IVec S27 32} (h : fn a0 a1 a2 a3 a4 a5 a6 = fun _ => 1#1) :
    (∀ y, (a4 y).toNat ≤ 767) ∧ (∀ y, (a5 y).toNat ≤ 767) ∧ ∀ y, (a6 y).toNat ≤ 768 := by
  have e := congrFun h (fun k => k.elim0)
  simp only [fn, fn_part1, Idealize.ShloMosaic.andi] at e
  obtain ⟨e, e6⟩ := IntOp.andi_eq_one.1 e
  obtain ⟨e4, e5⟩ := IntOp.andi_eq_one.1 e
  haveI : Subsingleton S_.Idx := ⟨fun a b => funext fun k => k.elim0⟩
  exact ⟨fun y => le_of_between (b := 767#32) (by decide) (Host.reduce_andi_all _ _ _ _ _ e4 y),
    fun y => le_of_between (b := 767#32) (by decide) (Host.reduce_andi_all _ _ _ _ _ e5 y),
    fun y => le_of_between (b := 768#32) (by decide) (Host.reduce_andi_all _ _ _ _ _ e6 y)⟩

end

end Cert.Ranges
-- ==== Proof.KernelCounts.lean ====
module

public import proofs.«01_k».proof.Proof.KernelFrame
public import proofs.«01_k».proof.Proof.Ranges
public import proofs.«01_k».proof.Defs
public import proofs.«01_k».proof.Proof.Gen.Pre_counts

@[expose] public section

/-!
  What the precondition says of the kernel's own counts: none exceeds 768.
-/

namespace Cert.Kernel.Hand

open Idealize.ShloMosaic Idealize.SL.Sem Cert.Kernel Cert.Kernel.Gen
open Idealize.ShloMosaic.Pipeline

variable (m : (ℓ : Loc nD τ sig) → Buf (Elt Bits) ℓ)

/-- A bound on the table of pair counts is one on the count that a grid point reads. -/
theorem cnt_le_of (h : ∀ y, (m (((0 : Dev nD).tc : Thread nD τ).loc main_arg6) y).toNat ≤ 768) (t : Fin (cfgM m).N) :
    (cnt (grid0.coords t) (counts m)).toNat ≤ 768 := by
  unfold cnt
  rw [show counts m = m (((0 : Dev nD).tc : Thread nD τ).loc main_arg6) from V_keep m 0 main_arg6 (by decide) (by decide)]
  exact h _

/-- No grid point reads a count over 768. -/
theorem counts_le (h : Cert.Pre_Kernel (hPre_counts := Cert.Pre_counts.Gen.facts) m) (t : Fin (cfgM m).N) :
    (cnt (grid0.coords t) (counts m)).toNat ≤ 768 := cnt_le_of m (Cert.Ranges.counts_range (h 0)) t

end Cert.Kernel.Hand

end
-- ==== Proof.Chk.lean ====
/- The conditions that the kernel assumes of a pair count it has read hold of every count of at most 768: its gather loop runs two
   trips a block of 256 columns, six at the most, the loop after it none, and every store of a trip lies in its scratch buffer and
   covers whole words. -/
module

public import proofs.«01_k».proof.Proof.Words
public import proofs.«01_k».proof.Proof.Gen.KernelIdeal

@[expose] public section

namespace Cert.KernelIdeal.Hand

open Idealize.ShloMosaic Cert.KernelIdeal Cert.Words

variable {v : BitVec 32} (h : v.toNat ≤ 768)
include h

theorem t1_loop_eq : k0_t1_loop v = ⟨0#32, BitVec.ofNat 32 (2 * tiles v), 1#32⟩ := by
  have e : k0_t1_loop v = ⟨0#32, ubWord (tileWord v), 1#32⟩ := rfl
  rw [e, tileWord_eq h, ubWord_eq (tiles_le h)]

theorem t2_loop_eq : k0_t2_loop v = ⟨BitVec.ofNat 32 (2 * tiles v), BitVec.ofNat 32 (2 * tiles v), 1#32⟩ := by
  have e : k0_t2_loop v = ⟨ubWord (tileWord v), Scalar.addi 0#32 (Scalar.subi (Scalar.muli (tileWord v) 2#32) 0#32), 1#32⟩ := rfl
  rw [e, tileWord_eq h, ubWord_eq (tiles_le h), ubWord_rest (tiles_le h)]

/-- The gather loop's trips, -/
theorem t1_trips : (k0_t1_loop v).trips = 2 * tiles v := by rw [t1_loop_eq h]; exact trips_eq (tiles_le h)
/-- and that the loop after it has none. -/
theorem t2_trips : (k0_t2_loop v).trips = 0 := by rw [t2_loop_eq h]; exact trips_rest (tiles_le h)

theorem t1_lt (k : Fin (k0_t1_loop v).trips) : k.val < 6 := by
  have h1 := k.isLt; have h2 := t1_trips h; have h3 := tiles_le h; omega

theorem t2_none (k : Fin (k0_t2_loop v).trips) : False := by
  have h1 := k.isLt; have h2 := t2_trips h; omega

theorem idx_inb (i : grid0.Coords) (k : Fin (k0_t1_loop v).trips) : ∀ a, (k0_off2 i v k) a + S1x1x128.size a ≤ S6x27x128.size a := by
  have hk := t1_lt h k
  have hi : (i 0).val < 27 := (i 0).isLt
  have e : k0_off2 i v k = ![k.val, (i 0).val, 0] := by
    have h1 : (Scf.iv 0#32 1#32 k.val : BitVec 32).toNat = k.val := ivWord_toNat hk
    have h2 : (BitVec.ofNat 32 (i 0).val).toNat = (i 0).val := by rw [BitVec.toNat_ofNat]; omega
    show ![(Scf.iv 0#32 1#32 k.val : BitVec 32).toNat, (BitVec.ofNat 32 (i 0).val).toNat, 0] = _
    rw [h1, h2]
  rw [e]
  intro a
  match a with
  | 0 => show k.val + 1 ≤ 6; omega
  | 1 => show (i 0).val + 1 ≤ 27; omega
  | 2 => exact Nat.le_refl 128

set_option maxHeartbeats 1000000 in
/-- The kernel's assumption: what it says of the gather loop (the first 87 facts), then what it says of the loop after it. -/
theorem chk (i : grid0.Coords) : k0_chk1 i v := by
  refine ⟨⟨?_, ?_, idx_inb h i, ?_⟩, ?_, ?_, ?_, ?_, ?_⟩
  · rw [t1_loop_eq h]; exact ok_eq (tiles_le h)
  · intro k
    show 128 ∣ (colWord k.val).toNat
    rw [colWord_toNat (t1_lt h k)]
    exact ⟨_, rfl⟩
  case refine_5 =>
    unfold k0_chk1_2
    iterate 23
      refine ⟨?_, ?_⟩
      · first
          | exact fun k => block_inb (t1_lt h k) _ (by decide)
          | exact fun k _ => block_packed _ _ _ (by decide) (by decide) _
    refine ⟨?_, ?_⟩
    · rw [t2_loop_eq h]; exact ok_rest (tiles_le h)
    repeat' apply And.intro
    all_goals exact fun k => (t2_none h k).elim
  case refine_6 => repeat' apply And.intro
                   all_goals exact fun k => (t2_none h k).elim
  case refine_7 => repeat' apply And.intro
                   all_goals exact fun k => (t2_none h k).elim
  case refine_8 => repeat' apply And.intro
                   all_goals exact fun k => (t2_none h k).elim
  all_goals repeat' apply And.intro
  all_goals first
    | exact fun k => block_inb (t1_lt h k) _ (by decide)
    | exact fun k _ => block_packed _ _ _ (by decide) (by decide) _

end Cert.KernelIdeal.Hand
-- ==== Proof.Pieces.lean ====
/- The pieces the gather loop leaves in the two scratch buffers it writes: at every count of pairs the loop fills the columns that the
   product after it reads, each with what the tables give, whatever the buffers held before. -/
module

public import proofs.«01_k».proof.Proof.Chk
public import proofs.«01_k».proof.Proof.Gather
public import proofs.«01_k».proof.Proof.Gen.KernelIdeal.Loops
public import proofs.«01_k».proof.Proof.Gen.KernelIdeal.Launch
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Words Cert.Gather

variable {F : FTy → Type} [FloatOps F]

local notation "𝕄" => MT nD τ sig Unit (Elt F) ℕ (UR sig nD τ) ℕ

variable (i : grid0.Coords)
  (arg1 : Memref sig .tc .smem S27 .i32) (harg1 : arg1.IsWhole)
  (arg2 : Memref sig .tc .vmem S768x384 .i8) (harg2 : arg2.IsWhole)
  (arg3 : Memref sig .tc .vmem S1x768 .f32) (harg3 : arg3.IsWhole)
  (arg4 : Memref sig .tc .vmem S768x960 .i8) (harg4 : arg4.IsWhole)
  (arg5 : Memref sig .tc .vmem S1x768 .f32) (harg5 : arg5.IsWhole)
  (arg6 : Memref sig .tc .vmem S27x768 .i32) (harg6 : arg6.IsWhole)
  (arg7 : Memref sig .tc .vmem S27x768 .i32) (harg7 : arg7.IsWhole)
  (arg8 : Memref sig .tc .vmem S1x384x960 .f32) (harg8 : arg8.IsWhole)
  (arg9 : Memref sig .tc .vmem S96x768 .i32) (harg9 : arg9.IsWhole)
  (arg10 : Memref sig .tc .vmem S240x768 .i32) (harg10 : arg10.IsWhole)
  (arg11 : Memref sig .tc .vmem S8x768 .f32) (harg11 : arg11.IsWhole)
  (arg12 : Memref sig .tc .vmem S8x768 .f32) (harg12 : arg12.IsWhole)
  (arg13 : Memref sig .tc .vmem S384x768 .bf16) (harg13 : arg13.IsWhole)
  (arg14 : Memref sig .tc .vmem S960x768 .fp8e5m2) (harg14 : arg14.IsWhole)
  (arg15 : Memref sig .tc .vmem S6x27x128 .i32) (harg15 : arg15.IsWhole)
  (arg16 : Memref sig .tc .vmem S6x27x128 .i32) (harg16 : arg16.IsWhole)

/-- The grid has 27 points. -/
theorem pt_lt (i : grid0.Coords) : (i 0).val < 27 := (i 0).isLt

/-- The tables as the scratch buffers hold them. -/
def tabs (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg15 : BufTy.Contents (Elt F) arg15.view.ty) (X_arg16 : BufTy.Contents (Elt F) arg16.view.ty) : Tables F where
  xw g j := arg9.view.readAt (Elt F) (block8 g j).toLoadRect X_arg9
  yw g j := arg10.view.readAt (Elt F) (block8 g j).toLoadRect X_arg10
  xs j := arg11.view.readAt (Elt F) (block8 (0 : Fin 1) j).toLoadRect X_arg11
  ys j := arg12.view.readAt (Elt F) (block8 (0 : Fin 1) j).toLoadRect X_arg12
  pin _ hk := arg15.view.readAt (Elt F) (rowAt (pt_lt i) hk).toLoadRect X_arg15
  pout _ hk := arg16.view.readAt (Elt F) (rowAt (pt_lt i) hk).toLoadRect X_arg16

theorem tabs_rep (x9 : Vec F S96x768 .i32) (x10 : Vec F S240x768 .i32) (x11 x12 : Vec F S8x768 .f32) (x15 x16 : Vec F S6x27x128 .i32) :
    tabs i arg9 arg10 arg11 arg12 arg15 arg16 (arg9.view.rep x9) (arg10.view.rep x10) (arg11.view.rep x11) (arg12.view.rep x12) (arg15.view.rep x15) (arg16.view.rep x16) = Tables.of x9 x10 x11 x12 x15 x16 (pt_lt i) := by
  unfold tabs Tables.of
  simp only [View.readAt_rep]
  rfl

/-- The groups in the order of the list of stores, the last first. -/
abbrev gGroups : List (Fin 12) := [11, 10, 9, 8, 7, 6, 5, 4, 3, 2, 1, 0]
theorem gGroups_all : ∀ g, g ∈ gGroups := by decide
abbrev dGroups : List (Fin 30) :=
  [29, 28, 27, 26, 25, 24, 23, 22, 21, 20, 19, 18, 17, 16, 15, 14, 13, 12, 11, 10, 9, 8, 7, 6, 5, 4, 3, 2, 1, 0]
theorem dGroups_all : ∀ g, g ∈ dGroups := by decide

set_option maxHeartbeats 4000000 in
/-- What one trip writes: a block for every group. -/
theorem trip_g (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg15 : BufTy.Contents (Elt F) arg15.view.ty) (X_arg16 : BufTy.Contents (Elt F) arg16.view.ty) {v4 : BitVec 32} (h : v4.toNat ≤ 768) (k : Fin (k0_t1_loop v4).trips) (c : Dev nD) (hc : k0_chk1 i v4) :
    (tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v4 hc X_arg9 X_arg10 X_arg11 X_arg12 X_arg15 X_arg16 k).1
      = gGroups.map (gPiece (tabs i arg9 arg10 arg11 arg12 arg15 arg16 X_arg9 X_arg10 X_arg11 X_arg12 X_arg15 X_arg16) v4 k (t1_lt h k)) := by
  unfold tripL_k0_t1 trip_k0_t1
  rfl

set_option maxHeartbeats 4000000 in
theorem trip_d (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg15 : BufTy.Contents (Elt F) arg15.view.ty) (X_arg16 : BufTy.Contents (Elt F) arg16.view.ty) {v4 : BitVec 32} (h : v4.toNat ≤ 768) (k : Fin (k0_t1_loop v4).trips) (c : Dev nD) (hc : k0_chk1 i v4) :
    (tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v4 hc X_arg9 X_arg10 X_arg11 X_arg12 X_arg15 X_arg16 k).2
      = dGroups.map (dPiece (tabs i arg9 arg10 arg11 arg12 arg15 arg16 X_arg9 X_arg10 X_arg11 X_arg12 X_arg15 X_arg16) k (t1_lt h k)) := by
  unfold tripL_k0_t1 trip_k0_t1
  rfl

/-- After `k` trips the first 128 k columns of the two buffers are filled. -/
theorem fills (x9 : Vec F S96x768 .i32) (x10 : Vec F S240x768 .i32) (x11 x12 : Vec F S8x768 .f32) (x15 x16 : Vec F S6x27x128 .i32)
    {v4 : BitVec 32} (h : v4.toNat ≤ 768) (c : Dev nD) (hc : k0_chk1 i v4) : ∀ k ≤ (k0_t1_loop v4).trips,
    Fills (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v4 hc (arg9.view.rep x9) (arg10.view.rep x10) (arg11.view.rep x11) (arg12.view.rep x12) (arg15.view.rep x15) (arg16.view.rep x16) k).1
        (tile (n := 12) (gVal (Tables.of x9 x10 x11 x12 x15 x16 (pt_lt i)) v4)) (128 * k)
      ∧ Fills (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v4 hc (arg9.view.rep x9) (arg10.view.rep x10) (arg11.view.rep x11) (arg12.view.rep x12) (arg15.view.rep x15) (arg16.view.rep x16) k).2
        (tile (n := 30) (dVal (Tables.of x9 x10 x11 x12 x15 x16 (pt_lt i)))) (128 * k)
  | 0, _ => ⟨Fills.nil _, Fills.nil _⟩
  | k + 1, hk => by
    have ih := fills x9 x10 x11 x12 x15 x16 h c hc k (Nat.le_of_succ_le hk)
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v4 hc (arg9.view.rep x9) (arg10.view.rep x10) (arg11.view.rep x11) (arg12.view.rep x12) (arg15.view.rep x15) (arg16.view.rep x16) ⟨k, hk⟩
    have eg := trip_g i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg9.view.rep x9) (arg10.view.rep x10) (arg11.view.rep x11) (arg12.view.rep x12) (arg15.view.rep x15) (arg16.view.rep x16) h ⟨k, hk⟩ c hc
    have ed := trip_d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg9.view.rep x9) (arg10.view.rep x10) (arg11.view.rep x11) (arg12.view.rep x12) (arg15.view.rep x15) (arg16.view.rep x16) h ⟨k, hk⟩ c hc
    rw [tabs_rep] at eg ed
    rw [(congrArg Prod.fst e).trans (congrArg (· ++ _) eg), (congrArg Prod.snd e).trans (congrArg (· ++ _) ed)]
    exact ⟨Fills.trip (t1_lt h ⟨k, hk⟩) gGroups_all ih.1, Fills.trip (t1_lt h ⟨k, hk⟩) dGroups_all ih.2⟩

end Cert.KernelIdeal.Hand
-- ==== Proof.Body.lean ====
/- One grid point of the kernel, as a triple: the first point builds the tables out of the input blocks, every point after it finds them
   in the scratch buffers; the point's block of the output is a function of the tables and of its pair count. -/
module

public import proofs.«01_k».proof.Proof.Pieces
public import proofs.«01_k».proof.Proof.Gen.KernelIdeal.Loops
public import proofs.«01_k».proof.Proof.Gen.KernelIdeal.Launch
public import Idealize.ShloMosaic.Lib.Pipeline.FrameBody
public import Idealize.ShloMosaic.Lib.Pipeline.TableIdle
public import Idealize.ShloMosaic.Lib.VecWindow
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Words Cert.Gather

variable {F : FTy → Type} [FloatOps F]

local notation "𝕄" => MT nD τ sig Unit (Elt F) ℕ (UR sig nD τ) ℕ

variable (i : grid0.Coords)
  (arg1 : Memref sig .tc .smem S27 .i32) (harg1 : arg1.IsWhole)
  (arg2 : Memref sig .tc .vmem S768x384 .i8) (harg2 : arg2.IsWhole)
  (arg3 : Memref sig .tc .vmem S1x768 .f32) (harg3 : arg3.IsWhole)
  (arg4 : Memref sig .tc .vmem S768x960 .i8) (harg4 : arg4.IsWhole)
  (arg5 : Memref sig .tc .vmem S1x768 .f32) (harg5 : arg5.IsWhole)
  (arg6 : Memref sig .tc .vmem S27x768 .i32) (harg6 : arg6.IsWhole)
  (arg7 : Memref sig .tc .vmem S27x768 .i32) (harg7 : arg7.IsWhole)
  (arg8 : Memref sig .tc .vmem S1x384x960 .f32) (harg8 : arg8.IsWhole)
  (arg9 : Memref sig .tc .vmem S96x768 .i32) (harg9 : arg9.IsWhole)
  (arg10 : Memref sig .tc .vmem S240x768 .i32) (harg10 : arg10.IsWhole)
  (arg11 : Memref sig .tc .vmem S8x768 .f32) (harg11 : arg11.IsWhole)
  (arg12 : Memref sig .tc .vmem S8x768 .f32) (harg12 : arg12.IsWhole)
  (arg13 : Memref sig .tc .vmem S384x768 .bf16) (harg13 : arg13.IsWhole)
  (arg14 : Memref sig .tc .vmem S960x768 .fp8e5m2) (harg14 : arg14.IsWhole)
  (arg15 : Memref sig .tc .vmem S6x27x128 .i32) (harg15 : arg15.IsWhole)
  (arg16 : Memref sig .tc .vmem S6x27x128 .i32) (harg16 : arg16.IsWhole)

/-- The word `(w == n) ? 1 : 0`, compared with zero again, says whether `w` is `n`. -/
theorem cond_iff (a b : BitVec 32) : Scalar.cmpi .ne (Scalar.extui (Scalar.cmpi .eq a b) : BitVec 32) 0#32 = 1#1 ↔ a = b := by
  by_cases h : a = b
  · subst h; simp [Scalar.cmpi, Scalar.extui, IntOp.cmpi]
  · have hb : (a == b) = false := beq_eq_false_iff_ne.2 h
    simp only [Scalar.cmpi, Scalar.extui, IntOp.cmpi, hb, h, iff_false]
    decide

theorem tileWord_is {v : BitVec 32} (h : v.toNat ≤ 768) {n : Nat} (hn : n ≤ 3) : tileWord v = BitVec.ofNat 32 n ↔ tiles v = n := by
  rw [tileWord_eq h]
  have := tiles_le h
  constructor
  · intro e; have e := congrArg BitVec.toNat e; simp only [BitVec.toNat_ofNat] at e; omega
  · intro e; rw [e]

theorem cond2_iff {v : BitVec 32} (h : v.toNat ≤ 768) : k0_cond2 v = 1#1 ↔ tiles v = 0 := (cond_iff _ _).trans (tileWord_is h (by omega))
theorem cond3_iff {v : BitVec 32} (h : v.toNat ≤ 768) : k0_cond3 v = 1#1 ↔ tiles v = 1 := (cond_iff _ _).trans (tileWord_is h (by omega))
theorem cond4_iff {v : BitVec 32} (h : v.toNat ≤ 768) : k0_cond4 v = 1#1 ↔ tiles v = 2 := (cond_iff _ _).trans (tileWord_is h (by omega))
theorem cond5_iff {v : BitVec 32} (h : v.toNat ≤ 768) : k0_cond5 v = 1#1 ↔ tiles v = 3 := (cond_iff _ _).trans (tileWord_is h (by omega))

/-- The pair count of offset `i`, out of the table of counts. -/
def cnt (i : grid0.Coords) (t : Vec F S27 .i32) : BitVec 32 := t (fun a => match a with | 0 => (i 0 : Fin 27))

theorem off1_eq (i : grid0.Coords) : k0_off1 i = ![(i 0).val] := by
  have hi := pt_lt i
  have h2 : (BitVec.ofNat 32 (i 0).val).toNat = (i 0).val := by rw [BitVec.toNat_ofNat]; omega
  show ![(BitVec.ofNat 32 (i 0).val).toNat] = _
  rw [h2]

/-- The point's pair count, as it is read from the table. -/
theorem read_cnt (t : Vec F S27 .i32) :
    arg1.view.readAt (Elt F) (Rect.unit (s := S27) (k0_off1 i) S1.size (k0_off1_inb i)).toLoadRect (arg1.view.rep t) (Shape.Idx.first (numel1_S1 ▸ Nat.one_pos))
      = cnt i t := by
  rw [View.readAt_rep]
  unfold cnt
  refine congrArg t (funext fun a => ?_)
  match a with
  | 0 => exact Fin.ext (by
      show k0_off1 i 0 + 1 * 0 = (i 0).val
      rw [off1_eq]; rfl)

/-- The first `256 n` columns of an array of 768. -/
def cols {α : Type} {R n : Nat} (h : n ≤ 768) (G : (⟨2, ![R, 768]⟩ : Shape).Idx → α) : (⟨2, ![R, n]⟩ : Shape).Idx → α :=
  fun y => G (ix2 (y 0) (Fin.castLE h (y 1)))

/-- The block of the output at a point whose pair count is `v`. -/
def outBlk (T : Tables F) (v : BitVec 32) : Vec F S1x384x960 .f32 :=
  if tiles v = 0 then k0_pay4
  else if tiles v = 1 then k0_pay5 (cols (n := 256) (by decide) (tile (n := 12) (gVal T v))) (cols (n := 256) (by decide) (tile (n := 30) (dVal T)))
  else if tiles v = 2 then k0_pay6 (cols (n := 512) (by decide) (tile (n := 12) (gVal T v))) (cols (n := 512) (by decide) (tile (n := 30) (dVal T)))
  else k0_pay7 (cols (n := 768) (by decide) (tile (n := 12) (gVal T v))) (cols (n := 768) (by decide) (tile (n := 30) (dVal T)))

section
variable (T : Tables F) {v : BitVec 32}
theorem outBlk_0 (h : tiles v = 0) : outBlk T v = k0_pay4 := by unfold outBlk; rw [h]; rfl
theorem outBlk_1 (h : tiles v = 1) : outBlk T v
    = k0_pay5 (cols (n := 256) (by decide) (tile (n := 12) (gVal T v))) (cols (n := 256) (by decide) (tile (n := 30) (dVal T))) := by
  unfold outBlk; rw [h]; rfl
theorem outBlk_2 (h : tiles v = 2) : outBlk T v
    = k0_pay6 (cols (n := 512) (by decide) (tile (n := 12) (gVal T v))) (cols (n := 512) (by decide) (tile (n := 30) (dVal T))) := by
  unfold outBlk; rw [h]; rfl
theorem outBlk_3 (h : tiles v = 3) : outBlk T v
    = k0_pay7 (cols (n := 768) (by decide) (tile (n := 12) (gVal T v))) (cols (n := 768) (by decide) (tile (n := 30) (dVal T))) := by
  unfold outBlk; rw [h]; rfl
end

theorem cols_unit {α : Type} {R n : Nat} (h : n ≤ 768) (G : (⟨2, ![R, 768]⟩ : Shape).Idx → α)
    (inb : ∀ a, (![0, 0] : Fin 2 → Nat) a + (![R, n] : Fin 2 → Nat) a ≤ (⟨2, ![R, 768]⟩ : Shape).size a) :
    (fun y => G ((Rect.unit (s := ⟨2, ![R, 768]⟩) ![0, 0] ![R, n] inb).toLoadRect.idx y)) = cols h G := by
  funext y
  unfold cols
  congr 1
  funext a
  match a with
  | 0 => exact Fin.ext (by show 0 + 1 * (y 0).val = (y 0).val; omega)
  | 1 => exact Fin.ext (by show 0 + 1 * (y 1).val = (y 1).val; omega)

/-- A read of the first columns, all of them filled. -/
theorem first_cols {R n c : Nat} {e : EltTy} (h : n ≤ 768) {L : List (View.Piece (Elt F) ⟨2, ![R, 768]⟩ e)}
    {G : (⟨2, ![R, 768]⟩ : Shape).Idx → Elt F e} (hL : Fills L G c) (hc : n ≤ c)
    (inb : ∀ a, (![0, 0] : Fin 2 → Nat) a + (![R, n] : Fin 2 → Nat) a ≤ (⟨2, ![R, 768]⟩ : Shape).size a)
    {κ : Kind} {sp : Space} (w : View sig κ sp ⟨2, ![R, 768]⟩ e) (f : w.ty.Contents (Elt F)) :
    w.readAt (Elt F) (Rect.unit (s := ⟨2, ![R, 768]⟩) ![0, 0] ![R, n] inb).toLoadRect (w.writes (Elt F) f L) = cols h G := by
  refine (hL.read w f _ fun y => ?_).trans (cols_unit h G inb)
  have : (y 1).val < n := (y 1).isLt
  show 0 + 1 * (y 1).val < c
  omega

section
variable (x9 : Vec F S96x768 .i32) (x10 : Vec F S240x768 .i32) (x11 x12 : Vec F S8x768 .f32) (x15 x16 : Vec F S6x27x128 .i32)

/-- The stores of the two loops: the gather loop's, and after them none. -/
abbrev stores (c : Dev nD) {v : BitVec 32} (hc : k0_chk1 i v) (w : BitVec 32) :=
  ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v hc w (arg9.view.rep x9) (arg10.view.rep x10) (arg11.view.rep x11) (arg12.view.rep x12) (arg15.view.rep x15) (arg16.view.rep x16)
      (Scf.trips (k0_t2_loop v).lb (k0_t2_loop v).ub (k0_t2_loop v).st)),
   (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) v hc (arg9.view.rep x9) (arg10.view.rep x10) (arg11.view.rep x11) (arg12.view.rep x12) (arg15.view.rep x15) (arg16.view.rep x16)
      (Scf.trips (k0_t1_loop v).lb (k0_t1_loop v).ub (k0_t1_loop v).st)))

/-- They fill the columns that a point of `n` blocks of columns reads. -/
theorem stores_fill (c : Dev nD) {v : BitVec 32} (h : v.toNat ≤ 768) (hc : k0_chk1 i v) (w : BitVec 32) :
    Fills ((stores i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c hc w).1.1 ++ (stores i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c hc w).2.1)
        (tile (n := 12) (gVal (Tables.of x9 x10 x11 x12 x15 x16 (pt_lt i)) v)) (256 * tiles v)
      ∧ Fills ((stores i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c hc w).1.2 ++ (stores i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c hc w).2.2)
        (tile (n := 30) (dVal (Tables.of x9 x10 x11 x12 x15 x16 (pt_lt i)))) (256 * tiles v) := by
  have e2 : Scf.trips (k0_t2_loop v).lb (k0_t2_loop v).ub (k0_t2_loop v).st = 0 := t2_trips h
  have e1 : 128 * Scf.trips (k0_t1_loop v).lb (k0_t1_loop v).ub (k0_t1_loop v).st = 256 * tiles v := by
    rw [show Scf.trips (k0_t1_loop v).lb (k0_t1_loop v).ub (k0_t1_loop v).st = 2 * tiles v from t1_trips h]; omega
  have hf := fills i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 h c hc _ (Nat.le_refl _)
  unfold stores
  rw [e2, ← e1]
  exact hf

end

/-- The test of the first point. -/
abbrev first : Prop := (Scalar.cmpi .ne (Scalar.extui (Scalar.cmpi .eq (BitVec.ofNat 32 (i 0).val) 0#32)) (0#32 : BitVec 32) = 1#1)

/-- The elements of an array are held at the contents that stand for what it reads as. -/
theorem rep_of (c : Dev nD) {sp : Space} {s : Shape} {e : EltTy} (m : Memref sig .tc sp s e) {q : PosShare TreeShare} (f : BufTy.Contents (Elt F) m.view.ty) :
    (m.view.loc (c : Thread nD τ) ↦[m.view.set]{q} f : sProp 𝕄)
      ⊢ iprop(∃ X : s.Idx → Elt F e, ⌜X = m.view.read (Elt F) f⌝ ∗ (m.view.loc (c : Thread nD τ) ↦[m.view.set]{q} m.view.rep X)) := by
  simp only [← owns_eq_rep]
  unfold owns
  iintro H
  iexists _; isplitr
  · ipureintro; rfl
  iexists f; isplitr
  · ipureintro; rfl
  · iexact H

include harg1 in
set_option maxHeartbeats 4000000 in
/-- **The kernel at one point.** The first point builds the tables from the inputs; every later point finds them. Then
    both gather and leave the block of the output. -/
theorem sound (c : Dev nD) (E : Set ℕ) (t : Vec F S27 .i32) (ht : (cnt i t).toNat ≤ 768)
    (x2 : Vec F S768x384 .i8) (x3 : Vec F S1x768 .f32) (x4 : Vec F S768x960 .i8) (x5 : Vec F S1x768 .f32) (x6 x7 : Vec F S27x768 .i32)
    (x9 : Vec F S96x768 .i32) (x10 : Vec F S240x768 .i32) (x11 x12 : Vec F S8x768 .f32) (x15 x16 : Vec F S6x27x128 .i32)
    (f9 : BufTy.Contents (Elt F) arg9.view.ty) (f10 : BufTy.Contents (Elt F) arg10.view.ty) (f11 : BufTy.Contents (Elt F) arg11.view.ty) (f12 : BufTy.Contents (Elt F) arg12.view.ty) (f15 : BufTy.Contents (Elt F) arg15.view.ty) (f16 : BufTy.Contents (Elt F) arg16.view.ty) (f13 : BufTy.Contents (Elt F) arg13.view.ty) (f14 : BufTy.Contents (Elt F) arg14.view.ty) (f8 : BufTy.Contents (Elt F) arg8.view.ty)
    (e9 : x9 = k0_pay8 x2) (h9 : ¬ first i → f9 = arg9.view.rep x9)
    (e10 : x10 = k0_pay9 x4) (h10 : ¬ first i → f10 = arg10.view.rep x10)
    (e11 : x11 = k0_pay10 x3) (h11 : ¬ first i → f11 = arg11.view.rep x11)
    (e12 : x12 = k0_pay11 x5) (h12 : ¬ first i → f12 = arg12.view.rep x12)
    (e15 : x15 = split x6) (h15 : ¬ first i → f15 = arg15.view.rep x15)
    (e16 : x16 = split x7) (h16 : ¬ first i → f16 = arg16.view.rep x16)
    (K : PUnit → sProp 𝕄) :
    iprop((arg1.view.loc (c : Thread nD τ) ↦[arg1.view.set]{fullShare.right} arg1.view.rep t) ∗ (arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep x7) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg15.view.loc (c : Thread nD τ) ↦[arg15.view.set]{fullShare} f15) ∗ (arg16.view.loc (c : Thread nD τ) ↦[arg16.view.set]{fullShare} f16) ∗ (arg13.view.loc (c : Thread nD τ) ↦[arg13.view.set]{fullShare} f13) ∗ (arg14.view.loc (c : Thread nD τ) ↦[arg14.view.set]{fullShare} f14) ∗ (arg8.view.loc (c : Thread nD τ) ↦[arg8.view.set]{fullShare} f8)
        ∗ (iprop((arg1.view.loc (c : Thread nD τ) ↦[arg1.view.set]{fullShare.right} arg1.view.rep t) ∗ (arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep x7) ∗ (arg9.view.loc (c : Thread nD τ) ↦[arg9.view.set]{fullShare} arg9.view.rep x9) ∗ (arg10.view.loc (c : Thread nD τ) ↦[arg10.view.set]{fullShare} arg10.view.rep x10) ∗ (arg11.view.loc (c : Thread nD τ) ↦[arg11.view.set]{fullShare} arg11.view.rep x11) ∗ (arg12.view.loc (c : Thread nD τ) ↦[arg12.view.set]{fullShare} arg12.view.rep x12) ∗ (arg15.view.loc (c : Thread nD τ) ↦[arg15.view.set]{fullShare} arg15.view.rep x15) ∗ (arg16.view.loc (c : Thread nD τ) ↦[arg16.view.set]{fullShare} arg16.view.rep x16) ∗ (∃ f, (arg13.view.loc (c : Thread nD τ) ↦[arg13.view.set]{fullShare} f)) ∗ (∃ f, (arg14.view.loc (c : Thread nD τ) ↦[arg14.view.set]{fullShare} f)) ∗ owns (c : Thread nD τ) arg8 fullShare (outBlk (Tables.of x9 x10 x11 x12 x15 x16 (pt_lt i)) (cnt i t))) -∗ K ⟨⟩))
      ⊢ wp frame (wpE (defs₀ (F := F)) Variants.none c none) E (cc0_wgrad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_wgrad_eq_skeleton]; unfold cc0_wgrad_skel
  iintro ⟨H1, H2, H3, H4, H5, H6, H7, H9, H10, H11, H12, H15, H16, H13, H14, H8, Hk⟩
  by_cases hi : first i
  focus
    sl_exec
    ihave H9 := rep_of c arg9 _ $$ H9
    icases H9 with ⟨%y9, %k9, H9⟩
    have k9 : x9 = y9 := by rw [k9, e9]; refine Eq.symm ((View.read_writes_full _ _ _ _ _).trans ?_); exact congrArg k0_pay8 (View.readAt_rep_full arg2.view x2 _)
    subst k9
    ihave H10 := rep_of c arg10 _ $$ H10
    icases H10 with ⟨%y10, %k10, H10⟩
    have k10 : x10 = y10 := by rw [k10, e10]; refine Eq.symm ((View.read_writes_full _ _ _ _ _).trans ?_); exact congrArg k0_pay9 (View.readAt_rep_full arg4.view x4 _)
    subst k10
    ihave H11 := rep_of c arg11 _ $$ H11
    icases H11 with ⟨%y11, %k11, H11⟩
    have k11 : x11 = y11 := by rw [k11, e11]; refine Eq.symm ((View.read_writes_full _ _ _ _ _).trans ?_); exact congrArg k0_pay10 (View.readAt_rep_full arg3.view x3 _)
    subst k11
    ihave H12 := rep_of c arg12 _ $$ H12
    icases H12 with ⟨%y12, %k12, H12⟩
    have k12 : x12 = y12 := by rw [k12, e12]; refine Eq.symm ((View.read_writes_full _ _ _ _ _).trans ?_); exact congrArg k0_pay11 (View.readAt_rep_full arg5.view x5 _)
    subst k12
    ihave H15 := rep_of c arg15 _ $$ H15
    icases H15 with ⟨%y15, %k15, H15⟩
    have k15 : x15 = y15 := by rw [k15, e15]; exact Eq.symm (read_split arg15.view f15 arg6.view x6)
    subst k15
    ihave H16 := rep_of c arg16 _ $$ H16
    icases H16 with ⟨%y16, %k16, H16⟩
    have k16 : x16 = y16 := by rw [k16, e16]; exact Eq.symm (read_split arg16.view f16 arg7.view x7)
    subst k16
    ihave H13 := rep_of c arg13 _ $$ H13
    icases H13 with ⟨%y13, -, H13⟩
    ihave H14 := rep_of c arg14 _ $$ H14
    icases H14 with ⟨%y14, -, H14⟩
    have hv : sound.sl.r i arg1 t = cnt i t := read_cnt i arg1 t
    generalize sound.sl.r i arg1 t = v at hv ⊢
    subst hv
  rotate_left
  focus
    obtain rfl := h9 hi; obtain rfl := h10 hi; obtain rfl := h11 hi; obtain rfl := h12 hi; obtain rfl := h15 hi; obtain rfl := h16 hi
    sl_exec
    have hv : sound.sl.r_1 i arg1 t = cnt i t := read_cnt i arg1 t
    generalize sound.sl.r_1 i arg1 t = v at hv ⊢
    subst hv
  rotate_left
  all_goals have hc := chk ht i
  all_goals
    rcases (show tiles (cnt i t) = 0 ∨ tiles (cnt i t) = 1 ∨ tiles (cnt i t) = 2 ∨ tiles (cnt i t) = 3 by have := tiles_le ht; omega) with hn | hn | hn | hn
  all_goals
    sl_exec (disch := (simp only [cond2_iff ht, cond3_iff ht, cond4_iff ht, cond5_iff ht, hn] <;> omega))
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H15]; · iexact H15
    isplitl [H16]; · iexact H16
    isplitl [H13]; · iexists _; iexact H13
    isplitl [H14]; · iexists _; iexact H14
    unfold owns
    iexists _; isplitr
    swap; · iexact H8
    ipureintro
    refine (View.read_writes_full _ _ _ _ _).trans ?_
  · exact (outBlk_0 _ hn).symm
  · refine (congrArg₂ k0_pay5 (first_cols (R := 384) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).1 (by omega) _ _ _)
      (first_cols (R := 960) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).2 (by omega) _ _ _)).trans (outBlk_1 _ hn).symm
  · refine (congrArg₂ k0_pay6 (first_cols (R := 384) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).1 (by omega) _ _ _)
      (first_cols (R := 960) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).2 (by omega) _ _ _)).trans (outBlk_2 _ hn).symm
  · refine (congrArg₂ k0_pay7 (first_cols (R := 384) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).1 (by omega) _ _ _)
      (first_cols (R := 960) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).2 (by omega) _ _ _)).trans (outBlk_3 _ hn).symm
  · exact (outBlk_0 _ hn).symm
  · refine (congrArg₂ k0_pay5 (first_cols (R := 384) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).1 (by omega) _ _ _)
      (first_cols (R := 960) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).2 (by omega) _ _ _)).trans (outBlk_1 _ hn).symm
  · refine (congrArg₂ k0_pay6 (first_cols (R := 384) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).1 (by omega) _ _ _)
      (first_cols (R := 960) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).2 (by omega) _ _ _)).trans (outBlk_2 _ hn).symm
  · refine (congrArg₂ k0_pay7 (first_cols (R := 384) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).1 (by omega) _ _ _)
      (first_cols (R := 960) (by decide) (stores_fill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x9 x10 x11 x12 x15 x16 c ht hc _).2 (by omega) _ _ _)).trans (outBlk_3 _ hn).symm
include harg1 in
/-- The same of whole arrays at contents. -/
theorem sound_owns (c : Dev nD) (E : Set ℕ) (t : Vec F S27 .i32) (ht : (cnt i t).toNat ≤ 768)
    (x2 : Vec F S768x384 .i8) (x3 : Vec F S1x768 .f32) (x4 : Vec F S768x960 .i8) (x5 : Vec F S1x768 .f32) (x6 x7 : Vec F S27x768 .i32)
    (x9 : Vec F S96x768 .i32) (x10 : Vec F S240x768 .i32) (x11 x12 : Vec F S8x768 .f32) (x15 x16 : Vec F S6x27x128 .i32)
    (f9 : Vec F S96x768 .i32) (e9 : x9 = k0_pay8 x2) (h9 : ¬ first i → f9 = x9)
    (f10 : Vec F S240x768 .i32) (e10 : x10 = k0_pay9 x4) (h10 : ¬ first i → f10 = x10)
    (f11 : Vec F S8x768 .f32) (e11 : x11 = k0_pay10 x3) (h11 : ¬ first i → f11 = x11)
    (f12 : Vec F S8x768 .f32) (e12 : x12 = k0_pay11 x5) (h12 : ¬ first i → f12 = x12)
    (f15 : Vec F S6x27x128 .i32) (e15 : x15 = split x6) (h15 : ¬ first i → f15 = x15)
    (f16 : Vec F S6x27x128 .i32) (e16 : x16 = split x7) (h16 : ¬ first i → f16 = x16)
    (K : PUnit → sProp 𝕄) :
    iprop(owns (c : Thread nD τ) arg1 fullShare.right t ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare f9 ∗ owns (c : Thread nD τ) arg10 fullShare f10 ∗ owns (c : Thread nD τ) arg11 fullShare f11 ∗ owns (c : Thread nD τ) arg12 fullShare f12 ∗ owns (c : Thread nD τ) arg15 fullShare f15 ∗ owns (c : Thread nD τ) arg16 fullShare f16 ∗ (∃ f, owns (c : Thread nD τ) arg13 fullShare f) ∗ (∃ f, owns (c : Thread nD τ) arg14 fullShare f) ∗ (∃ f, owns (c : Thread nD τ) arg8 fullShare f)
        ∗ (iprop(owns (c : Thread nD τ) arg1 fullShare.right t ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg15 fullShare x15 ∗ owns (c : Thread nD τ) arg16 fullShare x16 ∗ (∃ f, owns (c : Thread nD τ) arg13 fullShare f) ∗ (∃ f, owns (c : Thread nD τ) arg14 fullShare f) ∗ owns (c : Thread nD τ) arg8 fullShare (outBlk (Tables.of x9 x10 x11 x12 x15 x16 (pt_lt i)) (cnt i t))) -∗ K ⟨⟩))
      ⊢ wp frame (wpE (defs₀ (F := F)) Variants.none c none) E (cc0_wgrad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have s := fun f13 f14 f8 => sound i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c E t ht x2 x3 x4 x5 x6 x7 x9 x10 x11 x12 x15 x16
    (arg9.view.rep f9) (arg10.view.rep f10) (arg11.view.rep f11) (arg12.view.rep f12) (arg15.view.rep f15) (arg16.view.rep f16) f13 f14 f8 e9 (fun h => congrArg _ (h9 h)) e10 (fun h => congrArg _ (h10 h)) e11 (fun h => congrArg _ (h11 h)) e12 (fun h => congrArg _ (h12 h)) e15 (fun h => congrArg _ (h15 h)) e16 (fun h => congrArg _ (h16 h)) K
  simp only [owns_eq_rep] at s ⊢
  iintro ⟨H1, H2, H3, H4, H5, H6, H7, H9, H10, H11, H12, H15, H16, ⟨%f13, H13⟩, ⟨%f14, H14⟩, ⟨%f8, H8⟩, Hk⟩
  iapply (s (arg13.view.rep f13) (arg14.view.rep f14) (arg8.view.rep f8))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H15]; · iexact H15
  isplitl [H16]; · iexact H16
  isplitl [H13]; · iexact H13
  isplitl [H14]; · iexact H14
  isplitl [H8]; · iexact H8
  iintro ⟨H1, H2, H3, H4, H5, H6, H7, H9, H10, H11, H12, H15, H16, ⟨%g13, H13⟩, ⟨%g14, H14⟩, H8⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H15]; · iexact H15
  isplitl [H16]; · iexact H16
  isplitl [H13]
  · ihave H13 := rep_of c arg13 _ $$ H13
    icases H13 with ⟨%y, -, H13⟩
    iexists y; iexact H13
  isplitl [H14]
  · ihave H14 := rep_of c arg14 _ $$ H14
    icases H14 with ⟨%y, -, H14⟩
    iexists y; iexact H14
  iexact H8

end Cert.KernelIdeal.Hand
-- ==== Proof.Frame.lean ====
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Words Cert.Gather

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel -/

/-- What the buffers hold when the kernel starts: after the two reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix pcfgs 0 defs₀ 𝒱₀ m main hostOps0 hostOps0_sub hostOps0_fresh main_chain

/-- A buffer that neither reshape writes is found as it was. -/
theorem V_keep (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The prefetched counts -/

/-- The counts, as the kernel finds them. There is one device. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

abbrev adm : (pcfg0 (F := F)).Adm := ⟨tbl m, trivial⟩
abbrev cfgM : Pipeline.Cfg sig Λ₀ := cfg0 (adm m)

/-- The counts as an array of 27 words. -/
abbrev counts : Vec F S27 .i32 := tbl m 0

theorem PhiT_eq (c : Dev nD) :
    (Pipeline.ΦT pre0 (tbl m) c : sProp 𝕄) = owns (c : Thread nD τ) (Memref.whole main_arg6) fullShare.right (counts m) := by
  unfold Pipeline.ΦT Pipeline.prefHeld
  rw [show (Finset.univ : Finset (Fin 1)) = {(0 : Fin 1)} from by decide, bigSep_singleton, owns_whole]
  rfl

/-! ## The windows' blocks -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The first point. -/
abbrev p0 : Fin (cfgM m).N := ⟨0, by show 0 < grid0.N; rw [N_0]; decide⟩

/-- An input whose body leaves its block in place is found holding the block. -/
theorem before_of {c : Dev nD} (dat : Dat τ (Elt F) Unit ℕ (UR sig nD τ) ℕ (cfgM m) c) (w : Fin (cfgM m).W) (hw : ((cfgM m).win w).isOut = false)
    (hlive : ∀ i, (cfgM m).idle w i = false)
    (hclip : ∀ t t' : Fin (cfgM m).N, ((cfgM m).win w).index t = ((cfgM m).win w).index t' →
      ((cfgM m).win w).clip ((cfgM m).grid.coords t) = ((cfgM m).win w).clip ((cfgM m).grid.coords t'))
    (t : Fin (cfgM m).N) (d) (hkeep : ∀ t, ((cfgM m).win w).cut ((cfgM m).grid.coords t) (dat.after w t) = dat.blockOf w t) :
    dat.before w t d = dat.fetched w t d :=
  dat.before_in_eq_fetched w hw hlive hclip hkeep t d

/-- Input 0, whole. -/
abbrev in0 (c : Dev nD) : Vec F S768x384 .i8 := iblk m c 0 (p0 m)
theorem iblk_0 (c : Dev nD) (t : Fin (cfgM m).N) : iblk m c 0 t = in0 m c := rfl
/-- Input 1, whole. -/
abbrev in1 (c : Dev nD) : Vec F S1x768 .f32 := iblk m c 1 (p0 m)
theorem iblk_1 (c : Dev nD) (t : Fin (cfgM m).N) : iblk m c 1 t = in1 m c := rfl
/-- Input 2, whole. -/
abbrev in2 (c : Dev nD) : Vec F S768x960 .i8 := iblk m c 2 (p0 m)
theorem iblk_2 (c : Dev nD) (t : Fin (cfgM m).N) : iblk m c 2 t = in2 m c := rfl
/-- Input 3, whole. -/
abbrev in3 (c : Dev nD) : Vec F S1x768 .f32 := iblk m c 3 (p0 m)
theorem iblk_3 (c : Dev nD) (t : Fin (cfgM m).N) : iblk m c 3 t = in3 m c := rfl
/-- Input 4, whole. -/
abbrev in4 (c : Dev nD) : Vec F S27x768 .i32 := iblk m c 4 (p0 m)
theorem iblk_4 (c : Dev nD) (t : Fin (cfgM m).N) : iblk m c 4 t = in4 m c := rfl
/-- Input 5, whole. -/
abbrev in5 (c : Dev nD) : Vec F S27x768 .i32 := iblk m c 5 (p0 m)
theorem iblk_5 (c : Dev nD) (t : Fin (cfgM m).N) : iblk m c 5 t = in5 m c := rfl

/-! ## The tables -/

/-- A scratch buffer: at anything before the first point, afterwards at `X`. -/
def held (c : Dev nD) (b : Ref sig .tc) (X : b.ty.Contents (Elt F)) (t : ℕ) : sProp 𝕄 :=
  iprop(∃ f : b.ty.Contents (Elt F), ⌜t ≠ 0 → f = X⌝ ∗ owns (c : Thread nD τ) (Memref.whole b) fullShare f)

/-- What is held before point `t`: the tables once the first point has built them, the two gathered arrays at anything,
    the random-number register, and the counts. -/
def Phi (c : Dev nD) (t : ℕ) : sProp 𝕄 :=
  iprop(held c cc0_scratch0 (k0_pay8 (in0 m c)) t ∗ held c cc0_scratch1 (k0_pay9 (in2 m c)) t ∗ held c cc0_scratch2 (k0_pay10 (in1 m c)) t ∗ held c cc0_scratch3 (k0_pay11 (in3 m c)) t ∗ (∃ f, owns (c : Thread nD τ) (Memref.whole cc0_scratch4) fullShare f) ∗ (∃ f, owns (c : Thread nD τ) (Memref.whole cc0_scratch5) fullShare f) ∗ held c cc0_scratch6 (split (in4 m c)) t ∗ held c cc0_scratch7 (split (in5 m c)) t
    ∗ (∃ r, prngReg c r) ∗ owns (c : Thread nD τ) (Memref.whole main_arg6) fullShare.right (counts m))

/-- The tables the gather of point `t` reads. -/
abbrev tables (c : Dev nD) (t : Fin (cfgM m).N) : Tables F :=
  Tables.of (k0_pay8 (in0 m c)) (k0_pay9 (in2 m c)) (k0_pay10 (in1 m c)) (k0_pay11 (in3 m c)) (split (in4 m c)) (split (in5 m c)) (pt_lt (grid0.coords t))

/-- The block the kernel leaves at point `t`. -/
def outv (c : Dev nD) (t : Fin (cfgM m).N) : Vec F S1x384x960 .f32 := outBlk (tables m c t) (cnt (grid0.coords t) (counts m))

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outv m c t
  Φ t := Phi m c t.val
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := rfl
theorem after_1 (c : Dev nD) (t : Fin (cfgM m).N) : (dats m 0 c).after 1 t = iblk m c 1 t := rfl
theorem after_2 (c : Dev nD) (t : Fin (cfgM m).N) : (dats m 0 c).after 2 t = iblk m c 2 t := rfl
theorem after_3 (c : Dev nD) (t : Fin (cfgM m).N) : (dats m 0 c).after 3 t = iblk m c 3 t := rfl
theorem after_4 (c : Dev nD) (t : Fin (cfgM m).N) : (dats m 0 c).after 4 t = iblk m c 4 t := rfl
theorem after_5 (c : Dev nD) (t : Fin (cfgM m).N) : (dats m 0 c).after 5 t = iblk m c 5 t := rfl
theorem after_6 (c : Dev nD) (t : Fin (cfgM m).N) : (dats m 0 c).after 6 t = outv m c t := rfl

theorem before_0 (c : Dev nD) (t : Fin (cfgM m).N) (d) : (dats m 0 c).before 0 t d = in0 m c :=
  (before_of m (dats m 0 c) 0 rfl (fun _ => rfl) (fun _ _ _ => rfl) t d (fun t => by rw [after_0]; unfold Dat.blockOf iblk; rw [A_eq]; try rfl)).trans
    (by unfold Dat.fetched Dat.blockOf in0 iblk; rw [A_eq]; try rfl)
theorem before_1 (c : Dev nD) (t : Fin (cfgM m).N) (d) : (dats m 0 c).before 1 t d = in1 m c :=
  (before_of m (dats m 0 c) 1 rfl (fun _ => rfl) (fun _ _ _ => rfl) t d (fun t => by rw [after_1]; unfold Dat.blockOf iblk; rw [A_eq]; try rfl)).trans
    (by unfold Dat.fetched Dat.blockOf in1 iblk; rw [A_eq]; try rfl)
theorem before_2 (c : Dev nD) (t : Fin (cfgM m).N) (d) : (dats m 0 c).before 2 t d = in2 m c :=
  (before_of m (dats m 0 c) 2 rfl (fun _ => rfl) (fun _ _ _ => rfl) t d (fun t => by rw [after_2]; unfold Dat.blockOf iblk; rw [A_eq]; try rfl)).trans
    (by unfold Dat.fetched Dat.blockOf in2 iblk; rw [A_eq]; try rfl)
theorem before_3 (c : Dev nD) (t : Fin (cfgM m).N) (d) : (dats m 0 c).before 3 t d = in3 m c :=
  (before_of m (dats m 0 c) 3 rfl (fun _ => rfl) (fun _ _ _ => rfl) t d (fun t => by rw [after_3]; unfold Dat.blockOf iblk; rw [A_eq]; try rfl)).trans
    (by unfold Dat.fetched Dat.blockOf in3 iblk; rw [A_eq]; try rfl)
theorem before_4 (c : Dev nD) (t : Fin (cfgM m).N) (d) : (dats m 0 c).before 4 t d = in4 m c :=
  (before_of m (dats m 0 c) 4 rfl (fun _ => rfl) (fun _ _ _ => rfl) t d (fun t => by rw [after_4]; unfold Dat.blockOf iblk; rw [A_eq]; try rfl)).trans
    (by unfold Dat.fetched Dat.blockOf in4 iblk; rw [A_eq]; try rfl)
theorem before_5 (c : Dev nD) (t : Fin (cfgM m).N) (d) : (dats m 0 c).before 5 t d = in5 m c :=
  (before_of m (dats m 0 c) 5 rfl (fun _ => rfl) (fun _ _ _ => rfl) t d (fun t => by rw [after_5]; unfold Dat.blockOf iblk; rw [A_eq]; try rfl)).trans
    (by unfold Dat.fetched Dat.blockOf in5 iblk; rw [A_eq]; try rfl)
abbrev st0 (t : Fin (cfgM m).N) := ((cfgM m).win 0).stage ((cfgM m).slots t 0)
abbrev st1 (t : Fin (cfgM m).N) := ((cfgM m).win 1).stage ((cfgM m).slots t 1)
abbrev st2 (t : Fin (cfgM m).N) := ((cfgM m).win 2).stage ((cfgM m).slots t 2)
abbrev st3 (t : Fin (cfgM m).N) := ((cfgM m).win 3).stage ((cfgM m).slots t 3)
abbrev st4 (t : Fin (cfgM m).N) := ((cfgM m).win 4).stage ((cfgM m).slots t 4)
abbrev st5 (t : Fin (cfgM m).N) := ((cfgM m).win 5).stage ((cfgM m).slots t 5)
abbrev st6 (t : Fin (cfgM m).N) := ((cfgM m).win 6).stage ((cfgM m).slots t 6)

/-- The kernel at point `t` on what the pipeline hands it. -/
abbrev bodyAt (t : Fin (cfgM m).N) : Prog (TpuEff nD τ sig (Elt F) Λ₀ .tc) PUnit :=
  cc0_wgrad (grid0.coords t) (Memref.whole main_arg6) (Memref.isWhole_whole _) (st0 m t) (hstage0_0 (((cfgM m).slots t 0).cast nbuf0_0)) (st1 m t) (hstage0_1 (((cfgM m).slots t 1).cast nbuf0_1)) (st2 m t) (hstage0_2 (((cfgM m).slots t 2).cast nbuf0_2)) (st3 m t) (hstage0_3 (((cfgM m).slots t 3).cast nbuf0_3)) (st4 m t) (hstage0_4 (((cfgM m).slots t 4).cast nbuf0_4)) (st5 m t) (hstage0_5 (((cfgM m).slots t 5).cast nbuf0_5)) (st6 m t) (hstage0_6 (((cfgM m).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

theorem defs₀_row (t : Fin (cfgM m).N) : defs₀ (F := F) .tc (cfgM m).body ((cfgM m).bodyArgs t ((cfgM m).slots t)) = bodyAt m t := by
  unfold defs₀; rw [Defs.onTc_tc]; rfl

def bodyPre (c : Dev nD) (t : Fin (cfgM m).N) : sProp 𝕄 :=
  iprop((dats m 0 c).Φ t.castSucc ∗ (dats m 0 c).owesAt () t.castSucc
    ∗ (∃ d, owns (c : Thread nD τ) (st0 m t) fullShare ((dats m 0 c).before 0 t d)) ∗ (∃ d, owns (c : Thread nD τ) (st1 m t) fullShare ((dats m 0 c).before 1 t d)) ∗ (∃ d, owns (c : Thread nD τ) (st2 m t) fullShare ((dats m 0 c).before 2 t d)) ∗ (∃ d, owns (c : Thread nD τ) (st3 m t) fullShare ((dats m 0 c).before 3 t d)) ∗ (∃ d, owns (c : Thread nD τ) (st4 m t) fullShare ((dats m 0 c).before 4 t d)) ∗ (∃ d, owns (c : Thread nD τ) (st5 m t) fullShare ((dats m 0 c).before 5 t d)) ∗ (∃ d, owns (c : Thread nD τ) (st6 m t) fullShare ((dats m 0 c).before 6 t d)))

def bodyPost (c : Dev nD) (t : Fin (cfgM m).N) : sProp 𝕄 :=
  iprop((dats m 0 c).Φ t.succ ∗ (dats m 0 c).owesAt () t.succ
    ∗ owns (c : Thread nD τ) (st0 m t) fullShare ((dats m 0 c).after 0 t) ∗ owns (c : Thread nD τ) (st1 m t) fullShare ((dats m 0 c).after 1 t) ∗ owns (c : Thread nD τ) (st2 m t) fullShare ((dats m 0 c).after 2 t) ∗ owns (c : Thread nD τ) (st3 m t) fullShare ((dats m 0 c).after 3 t) ∗ owns (c : Thread nD τ) (st4 m t) fullShare ((dats m 0 c).after 4 t) ∗ owns (c : Thread nD τ) (st5 m t) fullShare ((dats m 0 c).after 5 t) ∗ owns (c : Thread nD τ) (st6 m t) fullShare ((dats m 0 c).after 6 t))

/-- The first point is the one whose number is zero. -/
theorem first_of (t : Fin (cfgM m).N) (h : t.val = 0) : first (grid0.coords t) := by
  obtain rfl : t = p0 m := Fin.ext h
  exact (by decide +kernel : first (grid0.coords ⟨0, by rw [N_0]; decide⟩))

/-- Every point writes its block back. -/
theorem flush_6 : ∀ t : Fin (cfgM m).N, ((cfgM m).win 6).flush t = true :=
  (by decide +kernel : ∀ t : Fin grid0.N, Pipeline.Window.flushOf grid0 true cc0_transform_6 t = true)

section
variable (hc : ∀ t : Fin (cfgM m).N, (cnt (grid0.coords t) (counts m)).toNat ≤ 768)
include hc

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3, before_4, before_5]
  rw [show (dats m 0 c).Φ t.castSucc = Phi m c t.val from rfl, show (dats m 0 c).Φ t.succ = Phi m c (t.val + 1) from rfl,
    show (dats m 0 c).owesAt () t.succ = (dats m 0 c).owesAt () t.castSucc from rfl,
    after_0, after_1, after_2, after_3, after_4, after_5, after_6]
  unfold Phi held
  iintro ⟨⟨⟨%f9, %h9, H9⟩, ⟨%f10, %h10, H10⟩, ⟨%f11, %h11, H11⟩, ⟨%f12, %h12, H12⟩, H13, H14, ⟨%f15, %h15, H15⟩, ⟨%f16, %h16, H16⟩, Hr, H1⟩, Ho, ⟨%d2, H2⟩, ⟨%d3, H3⟩, ⟨%d4, H4⟩, ⟨%d5, H5⟩, ⟨%d6, H6⟩, ⟨%d7, H7⟩, ⟨%d8, H8⟩⟩
  have hn : ¬ first (grid0.coords t) → t.val ≠ 0 := fun h h0 => h (first_of m t h0)
  iapply (sound_owns (grid0.coords t) (Memref.whole main_arg6) (Memref.isWhole_whole _) (st0 m t) (hstage0_0 (((cfgM m).slots t 0).cast nbuf0_0)) (st1 m t) (hstage0_1 (((cfgM m).slots t 1).cast nbuf0_1)) (st2 m t) (hstage0_2 (((cfgM m).slots t 2).cast nbuf0_2)) (st3 m t) (hstage0_3 (((cfgM m).slots t 3).cast nbuf0_3)) (st4 m t) (hstage0_4 (((cfgM m).slots t 4).cast nbuf0_4)) (st5 m t) (hstage0_5 (((cfgM m).slots t 5).cast nbuf0_5)) (st6 m t) (hstage0_6 (((cfgM m).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) c Set.univ (counts m) (hc t) (in0 m c) (in1 m c) (in2 m c) (in3 m c) (in4 m c) (in5 m c)
    _ _ _ _ _ _ f9 rfl (fun h => h9 (hn h)) f10 rfl (fun h => h10 (hn h)) f11 rfl (fun h => h11 (hn h)) f12 rfl (fun h => h12 (hn h)) f15 rfl (fun h => h15 (hn h)) f16 rfl (fun h => h16 (hn h)) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H15]; · iexact H15
  isplitl [H16]; · iexact H16
  isplitl [H13]; · iexact H13
  isplitl [H14]; · iexact H14
  isplitl [H8]; · iexists _; iexact H8
  iintro ⟨H1, H2, H3, H4, H5, H6, H7, H9, H10, H11, H12, H15, H16, H13, H14, H8⟩
  isplitl [Hr H1 H9 H10 H11 H12 H13 H14 H15 H16]
  · isplitl [H9]
    · iexists _; isplitr; swap; · iexact H9
      ipureintro; exact fun _ => rfl
    isplitl [H10]
    · iexists _; isplitr; swap; · iexact H10
      ipureintro; exact fun _ => rfl
    isplitl [H11]
    · iexists _; isplitr; swap; · iexact H11
      ipureintro; exact fun _ => rfl
    isplitl [H12]
    · iexists _; isplitr; swap; · iexact H12
      ipureintro; exact fun _ => rfl
    isplitl [H13]; · iexact H13
    isplitl [H14]; · iexact H14
    isplitl [H15]
    · iexists _; isplitr; swap; · iexact H15
      ipureintro; exact fun _ => rfl
    isplitl [H16]
    · iexists _; isplitr; swap; · iexact H16
      ipureintro; exact fun _ => rfl
    isplitl [Hr]; · iexact Hr
    iexact H1
  isplitl [Ho]; · iexact Ho
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0, defs₀_row]
  refine triple_restated (sound_body m hc c t) rfl .rfl fun _ => ?_
  unfold bodyPost
  refine sep_mono .rfl (sep_mono .rfl (sep_mono .rfl (sep_mono .rfl (sep_mono .rfl (sep_mono .rfl (sep_mono .rfl (sep_mono .rfl ?_)))))))
  dsimp only
  have hf : (pcfg0.win (adm m) 6).flush t = true := flush_6 m t
  split
  · split
    · rename_i h
      exact absurd (h.symm.trans hf) (by decide)
    · exact .rfl
  · exact .rfl

end

theorem hin (c : Dev nD) : iprop(Pipeline.ΦA spec0 c ∗ Pipeline.ΦT pre0 (tbl m) c) ⊢ (dats m 0 c).Φ 0 := by
  rw [PhiT_eq, show (dats m 0 c).Φ 0 = Phi m c 0 from rfl]
  unfold Pipeline.ΦA Phi held
  rw [scopedRest0_eq]
  simp only [owns_whole]
  iintro ⟨⟨⟨⟨%f0, S0⟩, ⟨%f1, S1⟩, ⟨%f2, S2⟩, ⟨%f3, S3⟩, S4, S5, ⟨%f6, S6⟩, ⟨%f7, S7⟩⟩, Hr⟩, H1⟩
  isplitl [S0]
  · iexists f0; isplitr
    · ipureintro; exact fun h => absurd rfl h
    · iexact S0
  isplitl [S1]
  · iexists f1; isplitr
    · ipureintro; exact fun h => absurd rfl h
    · iexact S1
  isplitl [S2]
  · iexists f2; isplitr
    · ipureintro; exact fun h => absurd rfl h
    · iexact S2
  isplitl [S3]
  · iexists f3; isplitr
    · ipureintro; exact fun h => absurd rfl h
    · iexact S3
  isplitl [S4]; · iexact S4
  isplitl [S5]; · iexact S5
  isplitl [S6]
  · iexists f6; isplitr
    · ipureintro; exact fun h => absurd rfl h
    · iexact S6
  isplitl [S7]
  · iexists f7; isplitr
    · ipureintro; exact fun h => absurd rfl h
    · iexact S7
  isplitl [Hr]; · iexact Hr
  iexact H1

theorem hout (c : Dev nD) : (dats m 0 c).Φ (Fin.last (cfgM m).N) ⊢ Pipeline.ΦA spec0 c := by
  rw [show (dats m 0 c).Φ (Fin.last (cfgM m).N) = Phi m c (cfgM m).N from rfl]
  unfold Pipeline.ΦA Phi held
  rw [scopedRest0_eq]
  simp only [owns_whole]
  iintro ⟨⟨%f0, -, S0⟩, ⟨%f1, -, S1⟩, ⟨%f2, -, S2⟩, ⟨%f3, -, S3⟩, S4, S5, ⟨%f6, -, S6⟩, ⟨%f7, -, S7⟩, Hr, -⟩
  isplitr [Hr]
  swap; · iexact Hr
  isplitl [S0]; · iexists f0; iexact S0
  isplitl [S1]; · iexists f1; iexact S1
  isplitl [S2]; · iexists f2; iexact S2
  isplitl [S3]; · iexists f3; iexact S3
  isplitl [S4]; · iexact S4
  isplitl [S5]; · iexact S5
  isplitl [S6]; · iexists f6; iexact S6
  iexists f7; iexact S7

/-! ## The run -/

section
variable (hc : ∀ t : Fin (cfgM m).N, (cnt (grid0.coords t) (counts m)).toNat ≤ 768)
include hc

set_option backward.isDefEq.respectTransparency.types false in
set_option maxHeartbeats 800000 in
/-- The whole program runs, ends with every array as the proof data says, and with every counter at zero. -/
theorem run_main : θ_run defs (onTc (τ := τ) (main (F := F))) (s₀ m ρ)
    (fun r => (Pipeline.FramePost (Pipeline.pin (pcfgs (F := F)) fun _ => adm m) (dats m) 0 (V m)) r ∧ r.2.sem = fun _ => 0) :=
  Pipeline.θ_run_frameP_track (Q' := _) pcfgs (fun _ => adm m) (dats m) (0 : Fin 1) launch0 defs₀ Variants.none m ρ main
    (hbody := fun c => (body_obligation m hc c).loose) (hshare := fun c => (dats m 0 c).share_full fun _ => rfl)
    (howed := fun _ _ => rfl) (V := V m) (hmain := hmain m Variants.none) (hA := A_eq m) (hpf := V_pre m) (hin := hin m) (hout := hout m)

/-- The arguments end as they were and every counter at zero. -/
theorem frame_of_counts : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r ⟨h, hs⟩ => ⟨fun c => ⟨((h c).1 0).trans (((dats m 0 c).arrAt_in 0 rfl _).trans ((A_eq m c 0).trans (V_keep m c main_arg0 (by decide) (by decide)))),
      ((h c).2 main_arg1 (Pipeline.mem_restRefs_of main_arg1 (by decide) (by decide : ∀ w : Fin 7, (spec0 w).arr.view.ref ≠ main_arg1))).trans (V_keep m c main_arg1 (by decide) (by decide)),
      ((h c).1 2).trans (((dats m 0 c).arrAt_in 2 rfl _).trans ((A_eq m c 2).trans (V_keep m c main_arg2 (by decide) (by decide)))),
      ((h c).2 main_arg3 (Pipeline.mem_restRefs_of main_arg3 (by decide) (by decide : ∀ w : Fin 7, (spec0 w).arr.view.ref ≠ main_arg3))).trans (V_keep m c main_arg3 (by decide) (by decide)),
      ((h c).1 4).trans (((dats m 0 c).arrAt_in 4 rfl _).trans ((A_eq m c 4).trans (V_keep m c main_arg4 (by decide) (by decide)))),
      ((h c).1 5).trans (((dats m 0 c).arrAt_in 5 rfl _).trans ((A_eq m c 5).trans (V_keep m c main_arg5 (by decide) (by decide)))),
      ((h c).2 main_arg6 (Pipeline.mem_restRefs_of main_arg6 (by decide) (by decide : ∀ w : Fin 7, (spec0 w).arr.view.ref ≠ main_arg6))).trans (V_keep m c main_arg6 (by decide) (by decide))⟩, hs⟩) (run_main m ρ hc)

end

end Cert.KernelIdeal.Hand
-- ==== Proof.Counts.lean ====
module

public import proofs.«01_k».proof.Proof.Frame
public import proofs.«01_k».proof.Proof.Ranges
public import proofs.«01_k».proof.Defs
public import proofs.«01_k».proof.Proof.Gen.Pre_counts
public import proofs.«01_k».proof.Proof.Gen.Pre_pairs

@[expose] public section

/-!
  What the preconditions say of the kernel's own tables: no pair count exceeds 768, and, of `pairs`, every position
  in the two pair tables is a row number.
-/

namespace Cert.KernelIdeal.Hand

open Idealize.ShloMosaic Idealize.SL.Sem Cert.KernelIdeal Cert.KernelIdeal.Gen
open Idealize.ShloMosaic.Pipeline

variable (m : (ℓ : Loc nD τ sig) → Buf (Elt Ideal) ℓ)

/-- A bound on the table of pair counts is one on the count that a grid point reads. -/
theorem cnt_le_of (h : ∀ y, (m (((0 : Dev nD).tc : Thread nD τ).loc main_arg6) y).toNat ≤ 768) (t : Fin (cfgM m).N) :
    (cnt (grid0.coords t) (counts m)).toNat ≤ 768 := by
  unfold cnt
  rw [show counts m = m (((0 : Dev nD).tc : Thread nD τ).loc main_arg6) from V_keep m 0 main_arg6 (by decide) (by decide)]
  exact h _

/-- No grid point reads a count over 768. -/
theorem counts_le (h : Cert.Pre_KernelIdeal (hPre_counts := Cert.Pre_counts.Gen.facts) m) (t : Fin (cfgM m).N) :
    (cnt (grid0.coords t) (counts m)).toNat ≤ 768 := cnt_le_of m (Cert.Ranges.counts_range (h 0)) t

/-- The same from the stronger precondition. -/
theorem counts_le_pairs (h : Cert.Pre_KernelIdeal_pairs (hPre_pairs := Cert.Pre_pairs.Gen.facts) m) (t : Fin (cfgM m).N) :
    (cnt (grid0.coords t) (counts m)).toNat ≤ 768 := cnt_le_of m (Cert.Ranges.ranges (h 0)).2.2 t

/-- Every position in the table of input rows is a row number. -/
theorem pin_le (h : Cert.Pre_KernelIdeal_pairs (hPre_pairs := Cert.Pre_pairs.Gen.facts) m) (c : Dev nD) (y) :
    (m ((c.tc : Thread nD τ).loc main_arg4) y).toNat ≤ 767 := (Cert.Ranges.ranges (h c)).1 y

/-- Every position in the table of output rows is a row number. -/
theorem pout_le (h : Cert.Pre_KernelIdeal_pairs (hPre_pairs := Cert.Pre_pairs.Gen.facts) m) (c : Dev nD) (y) :
    (m ((c.tc : Thread nD τ).loc main_arg5) y).toNat ≤ 767 := (Cert.Ranges.ranges (h c)).2.1 y

/-- No pair count exceeds 768. -/
theorem cnt_le (h : Cert.Pre_KernelIdeal_pairs (hPre_pairs := Cert.Pre_pairs.Gen.facts) m) (c : Dev nD) (y) :
    (m ((c.tc : Thread nD τ).loc main_arg6) y).toNat ≤ 768 := (Cert.Ranges.ranges (h c)).2.2 y

end Cert.KernelIdeal.Hand

end
-- ==== Proof.GatherValue.lean ====
/- What the gather reads, entry by entry: the word of the row at the index the position table holds, whatever of the six blocks
   it lies in; the four bytes of a word are four consecutive rows; and the scale of a pair is the product of the two scales
   gathered, or zero from the pair count on. -/
module

public import proofs.«01_k».proof.Proof.Gather
public import Idealize.ShloMosaic.Lib.StableHlo.Predicate
public import Idealize.ShloMosaic.PureOps.Ideal.Laws

@[expose] public section

noncomputable section

namespace Cert.Gather

open Idealize.ShloMosaic Cert.Words

/-- The repeated row of indices, read at an entry: the index of its column. -/
theorem idxRows_apply (w : IVec Srow1 32) (y : S8.Idx) : idxRows w y = w (ix3 (n0 := 1) (n1 := 1) (n2 := 128) 0 0 (y 1)) := by
  unfold idxRows
  rw [broadcastTo_apply (s := Srow) (t := S8) _ _ y (ix2 (n0 := 1) (n1 := 128) 0 (y 1)) (fun a => by
    match a with
    | ⟨0, _⟩ => rfl
    | ⟨1, _⟩ => rfl)]
  rw [shapeCast_self]
  refine (shapeCast_dropUnit_apply (n := 2) ![1, 128] w _ _).trans (congrArg w ?_)
  funext a
  match a with
  | ⟨0, _⟩ => rfl
  | ⟨1, _⟩ => rfl
  | ⟨2, _⟩ => rfl

section
variable {r : IVec S8 32} {y : S8.Idx} {n : Nat} (hr : (r y).toNat = n) (hn : n ≤ 767)
include hr hn

theorem low_toNat : (low r y).toNat = n % 128 := by
  show (r y &&& 127#32).toNat = _
  rw [BitVec.toNat_and, hr]
  exact Nat.and_two_pow_sub_one_eq_mod n 7

theorem lane_toNat : (lane r y).toNat = n % 128 := by
  unfold lane
  rw [shapeCast_shapeCast]
  have e := low_toNat hr hn
  show (Scalar.select (IntOp.cmpi .slt (low r y) 0#32) _ (low r y)).toNat = _
  rw [show IntOp.cmpi .slt (low r y) 0#32 = 0#1 from by
    refine (BitVec.eq_zero_or_eq_one _).resolve_right fun h => ?_
    rw [StableHlo.Predicate.slt_iff_toNat (by omega) (by decide)] at h
    exact absurd h (Nat.not_lt_zero _)]
  exact e

theorem inBlock_apply (j : Nat) (hj : j < 6) : inBlock r (BitVec.ofNat 32 j) y = if n / 128 = j then 1#1 else 0#1 := by
  have e : ((r y) >>> 7).toNat = n / 128 := by rw [BitVec.toNat_ushiftRight, hr, Nat.shiftRight_eq_div_pow]
  have h : inBlock r (BitVec.ofNat 32 j) y = IntOp.cmpi .eq ((r y) >>> 7) (BitVec.ofNat 32 j) := by
    show IntOp.cmpi .eq (IntOp.shrui .vector (r y) 7#32) _ = _
    unfold IntOp.shrui
    rw [if_pos (by decide)]
    rfl
  rw [h]
  split
  · rw [StableHlo.Predicate.cmpi_eq_iff]
    apply BitVec.eq_of_toNat_eq; rw [e, BitVec.toNat_ofNat]; omega
  · refine (BitVec.eq_zero_or_eq_one _).resolve_right fun h => ?_
    rw [StableHlo.Predicate.cmpi_eq_iff] at h
    have := congrArg BitVec.toNat h
    rw [e, BitVec.toNat_ofNat] at this; omega

/-- One block's gather at an entry: the same row, the column the index's last seven bits name. -/
theorem block_gather {α : Type} (b : S8.Idx → α) :
    dynamicGather 1 b (lane r) y = b (ix2 (n0 := 8) (n1 := 128) (y 0) ⟨n % 128, Nat.mod_lt _ (by decide)⟩) := by
  show b _ = b _
  congr 1
  funext a
  match a with
  | ⟨0, _⟩ => rfl
  | ⟨1, _⟩ => exact Fin.ext (by show (lane r y).toNat % 128 = n % 128; rw [lane_toNat hr hn]; omega)

/-- The gather at an entry: the block and the column of the index. -/
theorem gather_apply {α : Type} (b : Fin 6 → S8.Idx → α) :
    gather b r y = b ⟨n / 128, by omega⟩ (ix2 (n0 := 8) (n1 := 128) (y 0) ⟨n % 128, Nat.mod_lt _ (by decide)⟩) := by
  have H := fun j hj => inBlock_apply hr hn j hj
  have G := fun j => block_gather hr hn (b j)
  unfold gather
  simp only [select, G]
  rw [H 5 (by decide), H 4 (by decide), H 3 (by decide), H 2 (by decide), H 1 (by decide)]
  have key : ∀ (q : Nat) (hq : q < 6) (z : S8.Idx),
      Scalar.select (if q = 5 then 1#1 else 0#1) (b 5 z) (Scalar.select (if q = 4 then 1#1 else 0#1) (b 4 z)
        (Scalar.select (if q = 3 then 1#1 else 0#1) (b 3 z) (Scalar.select (if q = 2 then 1#1 else 0#1) (b 2 z)
          (Scalar.select (if q = 1 then 1#1 else 0#1) (b 1 z) (b 0 z))))) = b ⟨q, hq⟩ z := by
    intro q hq z
    have c : q = 0 ∨ q = 1 ∨ q = 2 ∨ q = 3 ∨ q = 4 ∨ q = 5 := by omega
    rcases c with rfl | rfl | rfl | rfl | rfl | rfl <;> rfl
  exact key _ _ _

end

/-! ## Bytes -/

/-- A table of words holds a table of bytes, transposed: byte `b` of word `(a, l)` is the byte at row `l`, column `4 a + b`. -/
def Packs {n : Nat} (x : IVec ⟨2, ![8 * n, 768]⟩ 32) (X : IVec ⟨2, ![768, 32 * n]⟩ 8) : Prop :=
  ∀ (a : Fin (8 * n)) (l : Fin 768) (q : Nat) (hq : q < 32),
    (x (ix2 (n0 := 8 * n) (n1 := 768) a l)).getLsbD q
      = (X (ix2 (n0 := 768) (n1 := 32 * n) l ⟨4 * a.val + q / 8, by have := a.isLt; omega⟩)).getLsbD (q % 8)

/-- A byte of a block of words: row `q` of the bytes is byte `q % 4` of row `q / 4` of the words. -/
theorem bytes_getLsbD (W : IVec S8 32) (h : S8.Bitcasts 32 S32 8) (q : Fin 32) (l : Fin 128) (i : Nat) (hi : i < 8) :
    (bitcast S32 8 W h (ix2 (n0 := 32) (n1 := 128) q l)).getLsbD i
      = (W (ix2 (n0 := 8) (n1 := 128) ⟨q.val / 4, by have := q.isLt; omega⟩ l)).getLsbD (8 * (q.val % 4) + i) := by
  rw [bitcast_getLsbD W h _ i hi (by decide)]
  have hrow : S32.row (ix2 (n0 := 32) (n1 := 128) q l) = q.val := rfl
  have e1 : (S32.row (ix2 (n0 := 32) (n1 := 128) q l) * 8 + i) % 32 = 8 * (q.val % 4) + i := by rw [hrow]; omega
  have e2 : (S32.row (ix2 (n0 := 32) (n1 := 128) q l) * 8 + i) / 32 = q.val / 4 := by rw [hrow]; omega
  rw [e1]
  congr 2
  funext c
  match c with
  | ⟨0, _⟩ => exact Fin.ext ((h.srcIdx_row _ _ _ ⟨0, Nat.zero_lt_two⟩ rfl).trans e2)
  | ⟨1, _⟩ => exact Fin.ext (h.srcIdx_other _ _ _ ⟨1, Nat.one_lt_two⟩ (by show ¬ 1 + 2 = 2; omega))

/-- The gathered bytes of group `g` at an entry: the byte of the index's row, at the group's column. -/
theorem gather_bytes {n : Nat} {x : IVec ⟨2, ![8 * n, 768]⟩ 32} {X : IVec ⟨2, ![768, 32 * n]⟩ 8} (hx : Packs x X) (g : Fin n)
    (r : IVec S8 32) (h : S8.Bitcasts 32 S32 8) (q : Fin 32) (l : Fin 128) (p : Fin 768)
    (hr : (r (ix2 (n0 := 8) (n1 := 128) ⟨q.val / 4, by have := q.isLt; omega⟩ l)).toNat = p.val) :
    bitcast S32 8 (gather (fun j y => x ((block8 g j).toLoadRect.idx y)) r) h (ix2 (n0 := 32) (n1 := 128) q l)
      = X (ix2 (n0 := 768) (n1 := 32 * n) p ⟨32 * g.val + q.val, by have := q.isLt; have := g.isLt; omega⟩) := by
  have hp := p.isLt
  have hq := q.isLt
  have hg := g.isLt
  apply BitVec.eq_of_getLsbD_eq
  intro i hi
  rw [bytes_getLsbD _ _ _ _ _ hi, gather_apply hr (by omega)]
  have e : (block8 g (⟨p.val / 128, by omega⟩ : Fin 6)).toLoadRect.idx
        (ix2 (n0 := 8) (n1 := 128) ⟨q.val / 4, by omega⟩ ⟨p.val % 128, Nat.mod_lt _ (by decide)⟩)
      = ix2 (n0 := 8 * n) (n1 := 768) ⟨g.val * 8 + q.val / 4, by omega⟩ p := by
    funext a
    match a with
    | ⟨0, _⟩ => exact Fin.ext (by show g.val * 8 + 1 * (q.val / 4) = g.val * 8 + q.val / 4; omega)
    | ⟨1, _⟩ => exact Fin.ext (by show p.val / 128 * 128 + 1 * (p.val % 128) = p.val; omega)
  refine (congrArg (fun z => (x z).getLsbD (8 * (q.val % 4) + i)) e).trans ((hx _ _ _ (by omega)).trans ?_)
  have e3 : (8 * (q.val % 4) + i) % 8 = i := by omega
  have e4 : 4 * (g.val * 8 + q.val / 4) + (8 * (q.val % 4) + i) / 8 = 32 * g.val + q.val := by omega
  rw [e3]
  congr 3
  exact Fin.ext e4

/-! ## The scale of a pair -/

/-- The four copies of eight rows, rounded, are at `Ideal` the eight rows. -/
theorem scales_apply (s : FVec Ideal S8 .f32) (q : Fin 32) (l : Fin 128) :
    scales (F := Ideal) s (ix2 (n0 := 32) (n1 := 128) q l) = s (ix2 (n0 := 8) (n1 := 128) ⟨q.val % 8, Nat.mod_lt _ (by decide)⟩ l) :=
  concatenate_replicate_apply (t := S32) 0 4 s four_rows rfl _ _ rfl (fun b hb => by
    match b with
    | ⟨0, _⟩ => exact absurd rfl hb
    | ⟨1, _⟩ => rfl)

/-- The scale of trip `k` at an entry. -/
theorem scale_apply {v : BitVec 32} (hv : v.toNat ≤ 768) {k : Nat} (hk : k < 6) (xs ys : Fin 6 → FVec Ideal S8 .f32) (r q : IVec S8 32)
    (a : Fin 8) (l : Fin 128) :
    scale v k xs ys r q (ix2 (n0 := 8) (n1 := 128) a l)
      = if 128 * k + l.val < v.toNat then gather xs r (ix2 (n0 := 8) (n1 := 128) a l) * gather ys q (ix2 (n0 := 8) (n1 := 128) a l) else 0 := by
  have hl := l.isLt
  have hc : (colWord k + BitVec.ofNat 32 l.val).toNat = 128 * k + l.val := by
    rw [BitVec.toNat_add, colWord_toNat hk, BitVec.toNat_ofNat]; omega
  have hz : (Scalar.ofBits .f32 0x00000000#32 : Ideal .f32) = 0 := Ideal.ofBits_zero_f32
  show Scalar.select (IntOp.cmpi .slt (colWord k + iota .tc S8 32 [1] (by decide) (ix2 (n0 := 8) (n1 := 128) a l)) v) _
    (Scalar.ofBits .f32 0x00000000#32 : Ideal .f32) = _
  rw [hz, show iota .tc S8 32 [1] (by decide) (ix2 (n0 := 8) (n1 := 128) a l) = BitVec.ofNat 32 l.val from
    congrArg (BitVec.ofNat 32) (show 0 * 128 + l.val = l.val by omega)]
  split
  · rename_i h
    rw [show IntOp.cmpi .slt (colWord k + BitVec.ofNat 32 l.val) v = 1#1 from
      (StableHlo.Predicate.slt_iff_toNat (by omega) (by omega)).2 (by omega)]
    rfl
  · rename_i h
    rw [show IntOp.cmpi .slt (colWord k + BitVec.ofNat 32 l.val) v = 0#1 from
      (BitVec.eq_zero_or_eq_one _).resolve_right fun h' => h (by
        rw [StableHlo.Predicate.slt_iff_toNat (by omega) (by omega)] at h'; omega)]
    rfl

/-! ## The two gathered arrays -/

/-- The row a position word names. -/
def row (w : BitVec 32) : Fin 768 := ⟨w.toNat % 768, Nat.mod_lt _ (by decide)⟩

theorem row_val {w : BitVec 32} (h : w.toNat ≤ 767) : w.toNat = (row w).val := (Nat.mod_eq_of_lt (by omega)).symm

/-- A trip's row of indices at an entry: the position table at the trip's columns. -/
theorem idxRows_split (pin : IVec ⟨2, ![27, 768]⟩ 32) {i k : Nat} (hi : i < 27) (hk : k < 6) (a : Fin 8) (l : Fin 128) :
    idxRows (fun y => split pin ((rowAt hi hk).toLoadRect.idx y)) (ix2 (n0 := 8) (n1 := 128) a l)
      = pin (ix2 (n0 := 27) (n1 := 768) ⟨i, hi⟩ ⟨128 * k + l.val, by have := l.isLt; omega⟩) := by
  rw [idxRows_apply]
  unfold split
  congr 1
  funext b
  match b with
  | ⟨0, _⟩ => exact Fin.ext (by
      show (BitVec.ofNat 32 i).toNat + 1 * 0 = i
      rw [BitVec.toNat_ofNat]; omega)
  | ⟨1, _⟩ => exact Fin.ext (by
      show ((Scf.iv 0#32 1#32 k : BitVec 32).toNat + 1 * 0) * 128 + (0 + 1 * l.val) = 128 * k + l.val
      rw [ivWord_toNat hk]; omega)

section
variable {x9 : IVec ⟨2, ![96, 768]⟩ 32} {x10 : IVec ⟨2, ![240, 768]⟩ 32} {x11 x12 : FVec Ideal ⟨2, ![8, 768]⟩ .f32}
  {X : IVec ⟨2, ![768, 384]⟩ 8} {Y : IVec ⟨2, ![768, 960]⟩ 8} {xs ys : Fin 768 → EReal} {pin pout : IVec ⟨2, ![27, 768]⟩ 32}
  {i : Nat} (hi : i < 27) (hx : Packs (n := 12) x9 X) (hy : Packs (n := 30) x10 Y)
  (hxs : ∀ a p, x11 (ix2 (n0 := 8) (n1 := 768) a p) = xs p) (hys : ∀ a p, x12 (ix2 (n0 := 8) (n1 := 768) a p) = ys p)
  (hin : ∀ y, (pin y).toNat ≤ 767) (hout : ∀ y, (pout y).toNat ≤ 767) {v : BitVec 32} (hv : v.toNat ≤ 768)

/-- A gathered scale. -/
theorem gather_scale {x : FVec Ideal ⟨2, ![8, 768]⟩ .f32} {s : Fin 768 → EReal} (hs : ∀ a p, x (ix2 (n0 := 8) (n1 := 768) a p) = s p)
    (r : IVec S8 32) (a : Fin 8) (l : Fin 128) {w : BitVec 32} (hr : r (ix2 (n0 := 8) (n1 := 128) a l) = w) (hw : w.toNat ≤ 767) :
    gather (fun (j : Fin 6) (y : S8.Idx) => x ((block8 (0 : Fin 1) j).toLoadRect.idx y)) r (ix2 (n0 := 8) (n1 := 128) a l) = s (row w) := by
  rw [gather_apply (n := (row w).val) (by rw [hr]; exact row_val hw) (by have := (row w).isLt; omega)]
  refine Eq.trans (congrArg x ?_) (hs a (row w))
  funext b
  match b with
  | ⟨0, _⟩ => exact Fin.ext (by show 0 * 8 + 1 * a.val = a.val; omega)
  | ⟨1, _⟩ => exact Fin.ext (by show (row w).val / 128 * 128 + 1 * ((row w).val % 128) = (row w).val; omega)

include hx hxs hys hin hout hv in
/-- The array of scaled input codes, entry by entry: the code at the pair's input row, times the pair's scale. -/
theorem tile_gVal (c : Fin 384) (p : Fin 768) :
    tile (n := 12) (gVal (F := Ideal) (Tables.of x9 x10 x11 x12 (split pin) (split pout) hi) v) (ix2 (n0 := 384) (n1 := 768) c p)
      = (Ideal.ofBits .fp8e4m3 (X (ix2 (n0 := 768) (n1 := 384) (row (pin (ix2 (n0 := 27) (n1 := 768) ⟨i, hi⟩ p))) c)) : EReal)
        * (if p.val < v.toNat then xs (row (pin (ix2 (n0 := 27) (n1 := 768) ⟨i, hi⟩ p))) * ys (row (pout (ix2 (n0 := 27) (n1 := 768) ⟨i, hi⟩ p)))
           else 0) := by
  have hp := p.isLt
  have hc := c.isLt
  have hk : p.val / 128 < 6 := by omega
  have ep : (⟨128 * (p.val / 128) + p.val % 128, by omega⟩ : Fin 768) = p := Fin.ext (by show 128 * (p.val / 128) + p.val % 128 = p.val; omega)
  have ec : (⟨32 * (c.val / 32) + c.val % 32, by omega⟩ : Fin 384) = c := Fin.ext (by show 32 * (c.val / 32) + c.val % 32 = c.val; omega)
  have ri := fun a => (idxRows_split pin hi hk a ⟨p.val % 128, by omega⟩).trans (congrArg (fun z => pin (ix2 (n0 := 27) (n1 := 768) ⟨i, hi⟩ z)) ep)
  have ro := fun a => (idxRows_split pout hi hk a ⟨p.val % 128, by omega⟩).trans (congrArg (fun z => pout (ix2 (n0 := 27) (n1 := 768) ⟨i, hi⟩ z)) ep)
  show shapeCast S32 _ _ (ix2 (n0 := 32) (n1 := 128) ⟨c.val % 32, by omega⟩ ⟨p.val % 128, by omega⟩) = _
  rw [shapeCast_self]
  refine congrArg₂ (fun a b : EReal => a * b) (congrArg (Ideal.ofBits .fp8e4m3) ?_) ?_
  · refine (gather_bytes (n := 12) hx ⟨c.val / 32, by omega⟩ _ _ ⟨c.val % 32, by omega⟩ ⟨p.val % 128, by omega⟩
      (row (pin (ix2 (n0 := 27) (n1 := 768) ⟨i, hi⟩ p))) ?_).trans ?_
    · exact (congrArg BitVec.toNat (ri _)).trans (row_val (hin _))
    · exact congrArg (fun z => X (ix2 (n0 := 768) (n1 := 384) (row (pin (ix2 (n0 := 27) (n1 := 768) ⟨i, hi⟩ p))) z)) ec
  · refine (scales_apply _ _ _).trans ((scale_apply hv hk _ _ _ _ _ _).trans ?_)
    rw [show 128 * (p.val / 128) + (⟨p.val % 128, by omega⟩ : Fin 128).val = p.val from by show 128 * (p.val / 128) + p.val % 128 = p.val; omega]
    split
    · exact congrArg₂ (fun a b : EReal => a * b) (gather_scale hxs _ _ _ (ri _) (hin _)) (gather_scale hys _ _ _ (ro _) (hout _))
    · rfl

include hy hout in
/-- The array of gradient codes, entry by entry: the code at the pair's output row. -/
theorem tile_dVal (d : Fin 960) (p : Fin 768) :
    tile (n := 30) (dVal (F := Ideal) (Tables.of x9 x10 x11 x12 (split pin) (split pout) hi)) (ix2 (n0 := 960) (n1 := 768) d p)
      = (Ideal.ofBits .fp8e5m2 (Y (ix2 (n0 := 768) (n1 := 960) (row (pout (ix2 (n0 := 27) (n1 := 768) ⟨i, hi⟩ p))) d)) : EReal) := by
  have hp := p.isLt
  have hc := d.isLt
  have hk : p.val / 128 < 6 := by omega
  have ep : (⟨128 * (p.val / 128) + p.val % 128, by omega⟩ : Fin 768) = p := Fin.ext (by show 128 * (p.val / 128) + p.val % 128 = p.val; omega)
  have ec : (⟨32 * (d.val / 32) + d.val % 32, by omega⟩ : Fin 960) = d := Fin.ext (by show 32 * (d.val / 32) + d.val % 32 = d.val; omega)
  have ro := fun a => (idxRows_split pout hi hk a ⟨p.val % 128, by omega⟩).trans (congrArg (fun z => pout (ix2 (n0 := 27) (n1 := 768) ⟨i, hi⟩ z)) ep)
  show shapeCast S32 _ _ (ix2 (n0 := 32) (n1 := 128) ⟨d.val % 32, by omega⟩ ⟨p.val % 128, by omega⟩) = _
  rw [shapeCast_self]
  refine congrArg (Ideal.ofBits .fp8e5m2) ?_
  refine (gather_bytes (n := 30) hy ⟨d.val / 32, by omega⟩ _ _ ⟨d.val % 32, by omega⟩ ⟨p.val % 128, by omega⟩
    (row (pout (ix2 (n0 := 27) (n1 := 768) ⟨i, hi⟩ p))) ?_).trans ?_
  · exact (congrArg BitVec.toNat (ro _)).trans (row_val (hout _))
  · exact congrArg (fun z => Y (ix2 (n0 := 768) (n1 := 960) (row (pout (ix2 (n0 := 27) (n1 := 768) ⟨i, hi⟩ p))) z)) ec

end

end Cert.Gather

end
-- ==== Proof.Spec.lean ====
/- The result, written plainly: entry (k, c, d) is the sum over the 768 pair slots of offset k of the input code at the pair's input
   row times the pair's scale times the gradient code at the pair's output row; a slot from the pair count on has scale zero. -/
module

public import proofs.«01_k».proof.Proof.GatherValue

@[expose] public section

noncomputable section

namespace Cert.Spec

open Idealize.ShloMosaic Cert.Gather

variable (X : IVec ⟨2, ![768, 384]⟩ 8) (xs : Fin 768 → EReal) (Y : IVec ⟨2, ![768, 960]⟩ 8) (ys : Fin 768 → EReal)
  (pin pout : IVec ⟨2, ![27, 768]⟩ 32) (cnt : Fin 27 → BitVec 32)

/-- The scale of slot `p` of offset `k`. -/
def scaleOf (k : Fin 27) (p : Fin 768) : EReal :=
  if p.val < (cnt k).toNat then xs (row (pin (ix2 (n0 := 27) (n1 := 768) k p))) * ys (row (pout (ix2 (n0 := 27) (n1 := 768) k p))) else 0

/-- The product of slot `p` at columns `c` and `d`. -/
def term (k : Fin 27) (c : Fin 384) (d : Fin 960) (p : Fin 768) : EReal :=
  (Ideal.ofBits .fp8e4m3 (X (ix2 (n0 := 768) (n1 := 384) (row (pin (ix2 (n0 := 27) (n1 := 768) k p))) c)) : EReal) * scaleOf xs ys pin pout cnt k p
    * (Ideal.ofBits .fp8e5m2 (Y (ix2 (n0 := 768) (n1 := 960) (row (pout (ix2 (n0 := 27) (n1 := 768) k p))) d)) : EReal)

/-- Entry (k, c, d). -/
def entry (k : Fin 27) (c : Fin 384) (d : Fin 960) : EReal := ∑ p : Fin 768, term X xs Y ys pin pout cnt k c d p

/-- The whole result. -/
def total (y : (⟨3, ![27, 384, 960]⟩ : Shape).Idx) : EReal := entry X xs Y ys pin pout cnt (y 0) (y 1) (y 2)

/-- From the pair count on the products are zero, whatever the codes stand for. -/
theorem term_zero (k : Fin 27) (c : Fin 384) (d : Fin 960) (p : Fin 768) (h : (cnt k).toNat ≤ p.val) :
    term X xs Y ys pin pout cnt k c d p = 0 := by
  unfold term scaleOf
  rw [if_neg (by omega), mul_zero, zero_mul]

/-- So a sum over the first `n` slots is the entry, once `n` reaches the pair count. -/
theorem sum_first (k : Fin 27) (c : Fin 384) (d : Fin 960) {n : Nat} (hn : n ≤ 768) (h : (cnt k).toNat ≤ n) :
    ∑ p : Fin n, term X xs Y ys pin pout cnt k c d (Fin.castLE hn p) = entry X xs Y ys pin pout cnt k c d :=
  Fintype.sum_of_injective (Fin.castLE hn) (Fin.castLE_injective hn) _ _
    (fun p hp => term_zero X xs Y ys pin pout cnt k c d p (by
      by_contra hlt
      exact hp ⟨⟨p.val, by omega⟩, rfl⟩)) fun _ => rfl

end Cert.Spec

end
-- ==== Proof.BlockValue.lean ====
/- The block of the output that the kernel computes at a point, over the extended reals: the plain sum, whichever depth the
   pair count selects. -/
module

public import proofs.«01_k».proof.Proof.Spec
public import proofs.«01_k».proof.Proof.Body
public import Idealize.ShloMosaic.Lib.MatmulPlain

@[expose] public section

noncomputable section

namespace Cert.KernelIdeal.Hand

open Idealize.ShloMosaic Cert.KernelIdeal Cert.KernelIdeal.Gen Cert.Gather Cert.Words Cert.Spec

/-! ## The tables the kernel builds -/

/-- A table of bytes widened, transposed and narrowed again is the table transposed. -/
theorem transposed {R : Nat} (X : IVec ⟨2, ![768, R]⟩ 8) (h8 h32) (ht : (⟨2, ![768, R]⟩ : Shape).Transposes [1, 0] ⟨2, ![R, 768]⟩) (p : Fin R) (l : Fin 768) :
    trunci 8 (transpose ⟨2, ![R, 768]⟩ [1, 0] (extui 32 X h8) ht) h32 (ix2 (n0 := R) (n1 := 768) p l) = X (ix2 (n0 := 768) (n1 := R) l p) := by
  have e : transpose ⟨2, ![R, 768]⟩ [1, 0] (extui 32 X h8) ht (ix2 (n0 := R) (n1 := 768) p l) = extui 32 X h8 (ix2 (n0 := 768) (n1 := R) l p) :=
    transpose_apply _ _ _ _ _ (fun b => by
      match b with
      | ⟨0, _⟩ => rfl
      | ⟨1, _⟩ => rfl)
  show (transpose ⟨2, ![R, 768]⟩ [1, 0] (extui 32 X h8) ht (ix2 (n0 := R) (n1 := 768) p l)).setWidth 8 = _
  rw [e]
  show ((X _).setWidth 32).setWidth 8 = _
  apply BitVec.eq_of_getLsbD_eq
  intro i hi
  simp only [BitVec.getLsbD_setWidth]
  simp [hi]
  omega

/-- The words of the input codes hold the codes, transposed, -/
theorem packs_x (X : Vec Ideal S768x384 .i8) : Packs (n := 12) (k0_pay8 (F := Ideal) X) X := fun a l q hq => by
  unfold k0_pay8
  dsimp only
  rw [shapeCast_self]
  refine (bitcast_8_32_getLsbD_ix2 _ _ a l q hq ⟨4 * a.val + q / 8, by have := a.isLt; omega⟩ rfl).trans ?_
  exact congrArg (fun b : BitVec 8 => b.getLsbD (q % 8)) (transposed X _ _ _ _ _)

/-- and so do those of the gradient codes. -/
theorem packs_y (Y : Vec Ideal S768x960 .i8) : Packs (n := 30) (k0_pay9 (F := Ideal) Y) Y := fun a l q hq => by
  unfold k0_pay9
  dsimp only
  rw [shapeCast_self]
  refine (bitcast_8_32_getLsbD_ix2 _ _ a l q hq ⟨4 * a.val + q / 8, by have := a.isLt; omega⟩ rfl).trans ?_
  exact congrArg (fun b : BitVec 8 => b.getLsbD (q % 8)) (transposed Y _ _ _ _ _)

/-- The scales are repeated over eight rows, -/
theorem rows_x (x : Vec Ideal S1x768 .f32) (a : Fin 8) (p : Fin 768) :
    k0_pay10 (F := Ideal) x (ix2 (n0 := 8) (n1 := 768) a p) = x (ix2 (n0 := 1) (n1 := 768) 0 p) := by
  unfold k0_pay10
  rw [shapeCast_self, shapeCast_self, shapeCast_self]
  exact broadcastTo_apply _ _ _ _ (fun a => by
    match a with
    | ⟨0, _⟩ => rfl
    | ⟨1, _⟩ => rfl)

/-- both of them. -/
theorem rows_y (x : Vec Ideal S1x768 .f32) (a : Fin 8) (p : Fin 768) :
    k0_pay11 (F := Ideal) x (ix2 (n0 := 8) (n1 := 768) a p) = x (ix2 (n0 := 1) (n1 := 768) 0 p) := rows_x x a p

/-! ## The block -/

/-- A product of two arrays' first `n` columns, row by row. -/
theorem matmul_cols {n : Nat} (hn : n ≤ 768) (G : FVec Ideal ⟨2, ![384, 768]⟩ .bf16) (D : FVec Ideal ⟨2, ![960, 768]⟩ .fp8e5m2)
    (h : S384x960.ShapeCasts S1x384x960) (y : S1x384x960.Idx) :
    shapeCast (s := S384x960) S1x384x960 (FloatOps.matmul (DotDims.transposedRhs 384 n 960) none (cols hn G) (cols hn D) (constant S384x960 .f32 0x00000000#32)) h y
      = ∑ p : Fin n, (G (ix2 (n0 := 384) (n1 := 768) (y 1) (Fin.castLE hn p)) * D (ix2 (n0 := 960) (n1 := 768) (y 2) (Fin.castLE hn p)) : EReal) := by
  refine (shapeCast_addUnit_apply (n := 2) ![384, 960] _ _ _).trans ?_
  refine Eq.trans (congrArg _ ?_) ((Ideal.matmul_transposedRhs_apply none (cols hn G) (cols hn D) _ (y 1) (y 2)).trans ?_)
  · funext a
    match a with
    | ⟨0, _⟩ => rfl
    | ⟨1, _⟩ => rfl
  · refine (congrArg₂ (fun a b : EReal => a + b) Ideal.ofBits_zero_f32 rfl).trans (zero_add _)

section
variable (X : Vec Ideal S768x384 .i8) (xs : Vec Ideal S1x768 .f32) (Y : Vec Ideal S768x960 .i8) (ys : Vec Ideal S1x768 .f32)
  (pin pout : Vec Ideal S27x768 .i32) (cn : Fin 27 → BitVec 32) (i : Fin 27)
  (hin : ∀ y, (pin y).toNat ≤ 767) (hout : ∀ y, (pout y).toNat ≤ 767) (hv : (cn i).toNat ≤ 768)
include hin hout hv

/-- The block at point `i` is the result's block `i`. -/
theorem outBlk_value (y : S1x384x960.Idx) :
    outBlk (F := Ideal) (Tables.of (k0_pay8 X) (k0_pay9 Y) (k0_pay10 xs) (k0_pay11 ys) (split pin) (split pout) i.isLt) (cn i) y
      = entry X (fun p => xs (ix2 (n0 := 1) (n1 := 768) 0 p)) Y (fun p => ys (ix2 (n0 := 1) (n1 := 768) 0 p)) pin pout cn i (y 1) (y 2) := by
  have S := fun {n : Nat} (hn : n ≤ 768) (h : (cn i).toNat ≤ n) => sum_first X (fun p => xs (ix2 (n0 := 1) (n1 := 768) 0 p)) Y
    (fun p => ys (ix2 (n0 := 1) (n1 := 768) 0 p)) pin pout cn i (y 1) (y 2) hn h
  have M := fun {n : Nat} (hn : n ≤ 768) (h : (cn i).toNat ≤ n) (hc) => (matmul_cols hn
    (tile (n := 12) (gVal (F := Ideal) (Tables.of (k0_pay8 X) (k0_pay9 Y) (k0_pay10 xs) (k0_pay11 ys) (split pin) (split pout) i.isLt) (cn i)))
    (tile (n := 30) (dVal (F := Ideal) (Tables.of (k0_pay8 X) (k0_pay9 Y) (k0_pay10 xs) (k0_pay11 ys) (split pin) (split pout) i.isLt))) hc y).trans
    ((Finset.sum_congr rfl fun p _ => congrArg₂ (fun a b : EReal => a * b)
      (tile_gVal i.isLt (packs_x X) (rows_x xs) (rows_y ys) hin hout hv (y 1) (Fin.castLE hn p))
      (tile_dVal i.isLt (packs_y Y) hout (y 2) (Fin.castLE hn p))).trans (S hn h))
  have ht : tiles (cn i) = 0 ∨ tiles (cn i) = 1 ∨ tiles (cn i) = 2 ∨ tiles (cn i) = 3 := by have := tiles_le hv; omega
  rcases ht with h | h | h | h
  · rw [outBlk_0 _ h]
    refine Eq.trans Ideal.ofBits_zero_f32 ((S (n := 0) (by decide) ?_).symm.trans ?_).symm
    · unfold tiles at h; omega
    · exact Finset.sum_empty
  · rw [outBlk_1 _ h]
    exact M _ (by unfold tiles at h; omega) _
  · rw [outBlk_2 _ h]
    exact M _ (by unfold tiles at h; omega) _
  · rw [outBlk_3 _ h]
    exact M _ (by unfold tiles at h; omega) _

end

end Cert.KernelIdeal.Hand

end
-- ==== Proof.ArrayValue.lean ====
/- The kernel's whole output over the extended reals: the 27 blocks written back are the plain result, block by block. -/
module

public import proofs.«01_k».proof.Proof.BlockValue
public import proofs.«01_k».proof.Proof.Frame
public import Idealize.ShloMosaic.Lib.Pipeline.ValueKit

@[expose] public section

noncomputable section

namespace Cert.KernelIdeal.Hand

open Idealize.ShloMosaic Idealize.ShloMosaic.Pipeline Cert.KernelIdeal Cert.KernelIdeal.Gen Cert.Gather Cert.Words Cert.Spec

variable (m : (ℓ : Loc nD τ sig) → Buf (Elt Ideal) ℓ)

/-! ## The blocks of the inputs are the inputs -/

theorem in0_eq (c : Dev nD) : in0 m c = m ((c.tc : Thread nD τ).loc main_arg0) := by
  rw [← V_keep m c main_arg0 (by decide) (by decide)]
  funext y
  show V m c main_arg0 _ = V m c main_arg0 y
  congr 1
  funext a
  match a with
  | ⟨0, _⟩ => exact Fin.ext (by show 0 * 768 + 1 * (y 0).val = (y 0).val; omega)
  | ⟨1, _⟩ => exact Fin.ext (by show 0 * 384 + 1 * (y 1).val = (y 1).val; omega)

theorem in2_eq (c : Dev nD) : in2 m c = m ((c.tc : Thread nD τ).loc main_arg2) := by
  rw [← V_keep m c main_arg2 (by decide) (by decide)]
  funext y
  show V m c main_arg2 _ = V m c main_arg2 y
  congr 1
  funext a
  match a with
  | ⟨0, _⟩ => exact Fin.ext (by show 0 * 768 + 1 * (y 0).val = (y 0).val; omega)
  | ⟨1, _⟩ => exact Fin.ext (by show 0 * 960 + 1 * (y 1).val = (y 1).val; omega)

theorem in4_eq (c : Dev nD) : in4 m c = m ((c.tc : Thread nD τ).loc main_arg4) := by
  rw [← V_keep m c main_arg4 (by decide) (by decide)]
  funext y
  show V m c main_arg4 _ = V m c main_arg4 y
  congr 1
  funext a
  match a with
  | ⟨0, _⟩ => exact Fin.ext (by show 0 * 27 + 1 * (y 0).val = (y 0).val; omega)
  | ⟨1, _⟩ => exact Fin.ext (by show 0 * 768 + 1 * (y 1).val = (y 1).val; omega)

theorem in5_eq (c : Dev nD) : in5 m c = m ((c.tc : Thread nD τ).loc main_arg5) := by
  rw [← V_keep m c main_arg5 (by decide) (by decide)]
  funext y
  show V m c main_arg5 _ = V m c main_arg5 y
  congr 1
  funext a
  match a with
  | ⟨0, _⟩ => exact Fin.ext (by show 0 * 27 + 1 * (y 0).val = (y 0).val; omega)
  | ⟨1, _⟩ => exact Fin.ext (by show 0 * 768 + 1 * (y 1).val = (y 1).val; omega)

theorem in1_apply (c : Dev nD) (p : Fin 768) :
    in1 m c (ix2 (n0 := 1) (n1 := 768) 0 p) = m ((c.tc : Thread nD τ).loc main_arg1) (ix1 (n0 := 768) p) := by
  have e : V m c main_v0 = shapeCast S1x768 (m ((c.tc : Thread nD τ).loc main_arg1)) shapeCasts_S768_S1x768 := by
    unfold V
    after_results
    rfl
  have h : in1 m c (ix2 (n0 := 1) (n1 := 768) 0 p) = V m c main_v0 (ix2 (n0 := 1) (n1 := 768) 0 p) := by
    show V m c main_v0 _ = V m c main_v0 _
    congr 1
    funext a
    match a with
    | ⟨0, _⟩ => rfl
    | ⟨1, _⟩ => exact Fin.ext (by show 0 * 768 + 1 * p.val = p.val; omega)
  rw [h, e]
  refine (shapeCast_addUnit_apply (n := 1) ![768] _ _ _).trans (congrArg _ ?_)
  funext a
  match a with
  | ⟨0, _⟩ => rfl

theorem in3_apply (c : Dev nD) (p : Fin 768) :
    in3 m c (ix2 (n0 := 1) (n1 := 768) 0 p) = m ((c.tc : Thread nD τ).loc main_arg3) (ix1 (n0 := 768) p) := by
  have e : V m c main_v1 = shapeCast S1x768 (m ((c.tc : Thread nD τ).loc main_arg3)) shapeCasts_S768_S1x768 := by
    unfold V
    after_results
    rfl
  have h : in3 m c (ix2 (n0 := 1) (n1 := 768) 0 p) = V m c main_v1 (ix2 (n0 := 1) (n1 := 768) 0 p) := by
    show V m c main_v1 _ = V m c main_v1 _
    congr 1
    funext a
    match a with
    | ⟨0, _⟩ => rfl
    | ⟨1, _⟩ => exact Fin.ext (by show 0 * 768 + 1 * p.val = p.val; omega)
  rw [h, e]
  refine (shapeCast_addUnit_apply (n := 1) ![768] _ _ _).trans (congrArg _ ?_)
  funext a
  match a with
  | ⟨0, _⟩ => rfl

/-- The plain result on the kernel's arguments. -/
def result (c : Dev nD) : (⟨3, ![27, 384, 960]⟩ : Shape).Idx → EReal :=
  total (m ((c.tc : Thread nD τ).loc main_arg0)) (fun p => m ((c.tc : Thread nD τ).loc main_arg1) (ix1 (n0 := 768) p))
    (m ((c.tc : Thread nD τ).loc main_arg2)) (fun p => m ((c.tc : Thread nD τ).loc main_arg3) (ix1 (n0 := 768) p))
    (m ((c.tc : Thread nD τ).loc main_arg4)) (m ((c.tc : Thread nD τ).loc main_arg5))
    (fun k => m ((c.tc : Thread nD τ).loc main_arg6) (ix1 (n0 := 27) k))

/-- The grid's one coordinate is the point's number. -/
theorem coord_eq : ∀ t : Fin grid0.N, (grid0.coords t 0).val = t.val := by decide +kernel

/-- Where the output's block at a point lies. -/
theorem index_6 : ∀ t : Fin grid0.N, cc0_transform_6 (grid0.coords t) = ![t.val, 0, 0] := by decide +kernel

theorem points (t : Fin (cfgM m).N) : t.val < 27 := by
  have h := t.isLt
  have e : (cfgM m).N = 27 := N_0
  omega

section
variable (hc : ∀ t : Fin (cfgM m).N, (cnt (grid0.coords t) (counts m)).toNat ≤ 768)
  (hin : ∀ c : Dev nD, ∀ y, (m ((c.tc : Thread nD τ).loc main_arg4) y).toNat ≤ 767)
  (hout : ∀ c : Dev nD, ∀ y, (m ((c.tc : Thread nD τ).loc main_arg5) y).toNat ≤ 767)
include hc hin hout

/-- What point `t` leaves is the result's block `t`. -/
theorem outv_value (c : Dev nD) (t : Fin (cfgM m).N) (y : S1x384x960.Idx) :
    outv m c t y = result m c (ix3 (n0 := 27) (n1 := 384) (n2 := 960) ⟨t.val, points m t⟩ (y 1) (y 2)) := by
  obtain rfl : c = 0 := Subsingleton.elim c 0
  have ec : cnt (grid0.coords t) (counts m)
      = (fun k : Fin 27 => m (((0 : Dev nD).tc : Thread nD τ).loc main_arg6) (ix1 (n0 := 27) k)) (grid0.coords t 0) := by
    unfold cnt
    rw [show counts m = m (((0 : Dev nD).tc : Thread nD τ).loc main_arg6) from V_keep m 0 main_arg6 (by decide) (by decide)]
    congr 1
    funext a
    match a with
    | ⟨0, _⟩ => rfl
  have hk : (grid0.coords t 0 : Fin 27) = ⟨t.val, points m t⟩ := Fin.ext (coord_eq t)
  have hv := hc t
  unfold outv
  rw [ec] at hv ⊢
  refine (outBlk_value (in0 m 0) (in1 m 0) (in2 m 0) (in3 m 0) (in4 m 0) (in5 m 0)
    (fun k : Fin 27 => m (((0 : Dev nD).tc : Thread nD τ).loc main_arg6) (ix1 (n0 := 27) k)) (grid0.coords t 0)
    (by rw [in4_eq]; exact hin 0) (by rw [in5_eq]; exact hout 0) hv y).trans ?_
  rw [in0_eq, in2_eq, in4_eq, in5_eq, hk, funext (in1_apply m 0), funext (in3_apply m 0)]
  rfl

/-- The output array at the end of the run. -/
theorem final (c : Dev nD) : (dats m 0 c).arrAt 6 (cfgM m).N = result m c := by
  refine (dats m 0 c).arrAt_eq_of_emb 6 _ (fun t _ y => ?_) (fun i => ?_)
  · refine (outv_value m hc hin hout c t _).trans (congrArg (result m c) ?_)
    have e := index_6 t
    have r := fun a => ((cfgM m).win 6).rect_emb_val t y a
    have y0 : (y (0 : Fin 3)).val < 1 := (y (0 : Fin 3)).isLt
    funext a
    match a with
    | ⟨0, _⟩ =>
      refine Fin.ext ((r (0 : Fin 3)).trans ?_).symm
      show cc0_transform_6 (grid0.coords t) 0 * 1 + (y (0 : Fin 3)).val = t.val
      rw [e]
      show t.val * 1 + _ = _
      omega
    | ⟨1, _⟩ =>
      refine Fin.ext ((r (1 : Fin 3)).trans ?_).symm
      show cc0_transform_6 (grid0.coords t) 1 * 384 + (y (1 : Fin 3)).val = (y (1 : Fin 3)).val
      rw [e]
      show 0 * 384 + _ = _
      omega
    | ⟨2, _⟩ =>
      refine Fin.ext ((r (2 : Fin 3)).trans ?_).symm
      show cc0_transform_6 (grid0.coords t) 2 * 960 + (y (2 : Fin 3)).val = (y (2 : Fin 3)).val
      rw [e]
      show 0 * 960 + _ = _
      omega
  · have hi : (i (0 : Fin 3)).val < 27 := (i (0 : Fin 3)).isLt
    obtain ⟨t, ht⟩ : ∃ t : Fin grid0.N, t.val = (i (0 : Fin 3)).val := ⟨⟨_, hi.trans_eq (show 27 = grid0.N from N_0.symm)⟩, rfl⟩
    refine ⟨t, flush_6 m t, ?_⟩
    refine (((cfgM m).win 6).emb_mem_blk_iff _ i).2 fun a => ?_
    have e := index_6 t
    match a with
    | ⟨0, _⟩ =>
      show cc0_transform_6 (grid0.coords t) 0 * 1 ≤ (i (0 : Fin 3)).val ∧ (i (0 : Fin 3)).val < cc0_transform_6 (grid0.coords t) 0 * 1 + 1
      rw [e]
      show t.val * 1 ≤ _ ∧ _ < t.val * 1 + 1
      omega
    | ⟨1, _⟩ =>
      have h1 : (i (1 : Fin 3)).val < 384 := (i (1 : Fin 3)).isLt
      show cc0_transform_6 (grid0.coords t) 1 * 384 ≤ (i (1 : Fin 3)).val ∧ (i (1 : Fin 3)).val < cc0_transform_6 (grid0.coords t) 1 * 384 + 384
      rw [e]
      show 0 * 384 ≤ _ ∧ _ < 0 * 384 + 384
      omega
    | ⟨2, _⟩ =>
      have h2 : (i (2 : Fin 3)).val < 960 := (i (2 : Fin 3)).isLt
      show cc0_transform_6 (grid0.coords t) 2 * 960 ≤ (i (2 : Fin 3)).val ∧ (i (2 : Fin 3)).val < cc0_transform_6 (grid0.coords t) 2 * 960 + 960
      rw [e]
      show 0 * 960 ≤ _ ∧ _ < 0 * 960 + 960
      omega

/-- The run ends with the result in its place and the arguments as they were. -/
theorem run_value (ρ : Dev nD → PrngReg) : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r ⟨h, _⟩ => fun c => ⟨((h c).1 6).trans (final m hc hin hout c), ((h c).1 0).trans (((dats m 0 c).arrAt_in 0 rfl _).trans ((A_eq m c 0).trans (V_keep m c main_arg0 (by decide) (by decide)))),
      ((h c).2 main_arg1 (Pipeline.mem_restRefs_of main_arg1 (by decide) (by decide : ∀ w : Fin 7, (spec0 w).arr.view.ref ≠ main_arg1))).trans (V_keep m c main_arg1 (by decide) (by decide)),
      ((h c).1 2).trans (((dats m 0 c).arrAt_in 2 rfl _).trans ((A_eq m c 2).trans (V_keep m c main_arg2 (by decide) (by decide)))),
      ((h c).2 main_arg3 (Pipeline.mem_restRefs_of main_arg3 (by decide) (by decide : ∀ w : Fin 7, (spec0 w).arr.view.ref ≠ main_arg3))).trans (V_keep m c main_arg3 (by decide) (by decide)),
      ((h c).1 4).trans (((dats m 0 c).arrAt_in 4 rfl _).trans ((A_eq m c 4).trans (V_keep m c main_arg4 (by decide) (by decide)))),
      ((h c).1 5).trans (((dats m 0 c).arrAt_in 5 rfl _).trans ((A_eq m c 5).trans (V_keep m c main_arg5 (by decide) (by decide)))),
      ((h c).2 main_arg6 (Pipeline.mem_restRefs_of main_arg6 (by decide) (by decide : ∀ w : Fin 7, (spec0 w).arr.view.ref ≠ main_arg6))).trans (V_keep m c main_arg6 (by decide) (by decide))⟩) (run_main m ρ hc)

end

end Cert.KernelIdeal.Hand

end
-- ==== Proof.RefGather.lean ====
/- What the reference looks up: rows of a table at an array of row numbers, read at one index. -/
module

public import proofs.«01_k».proof.Proof.Spec
public import Idealize.ShloMosaic.Lib.ValueIdxCore

@[expose] public section

noncomputable section

namespace Cert.RefGather

open Idealize.ShloMosaic Cert.Gather

/-! ## Row numbers -/

/-- A row number is not negative, so nothing is added to it. -/
theorem wrap {w : BitVec 32} (h : w.toNat ≤ 767) (v : BitVec 32) :
    Scalar.select (BitVec.ofBool (w.slt 0#32)) v w = w := by
  have e : w.slt 0#32 = false := by
    rw [BitVec.slt_eq_decide, BitVec.toInt_eq_toNat_of_lt (by omega)]
    simp
  rw [e]
  rfl

/-- Its clamp into the rows is itself. -/
theorem clamp {w : BitVec 32} (h : w.toNat ≤ 767) (hlt : min w.toInt.toNat 767 < 768) : (⟨min w.toInt.toNat 767, hlt⟩ : Fin 768) = row w := by
  apply Fin.ext
  show min w.toInt.toNat 767 = w.toNat % 768
  rw [BitVec.toInt_eq_toNat_of_lt (by omega)]
  omega

/-! ## Looking rows up -/

variable {α : Type}

/-- The dimension numbers of a lookup of whole rows. -/
abbrev rowsDims (N C R P : Nat) (wf : GatherDims.WF ⟨2, ![N, C]⟩ ⟨3, ![R, P, 1]⟩ ⟨3, ![R, P, C]⟩ [2] [0] [] [0] [] 2 ![1, C]) :
    GatherDims ⟨2, ![N, C]⟩ ⟨3, ![R, P, 1]⟩ ⟨3, ![R, P, C]⟩ where
  offsetDims := [2]
  collapsedSliceDims := [0]
  operandBatchingDims := []
  startIndicesBatchingDims := []
  startIndexMap := [0]
  indexVectorDim := 2
  sliceSizes := ![1, C]
  wf := wf

/-- A lookup of whole rows, at an index: the table's row there, clamped into the table, at the same column. -/
theorem gather_rows_apply {N C R P w : Nat} (hN : 0 < N)
    (wf : GatherDims.WF ⟨2, ![N, C]⟩ ⟨3, ![R, P, 1]⟩ ⟨3, ![R, P, C]⟩ [2] [0] [] [0] [] 2 ![1, C])
    (x : (⟨2, ![N, C]⟩ : Shape).Idx → α) (idx : IVec ⟨3, ![R, P, 1]⟩ w) (r : Fin R) (p : Fin P) (c : Fin C) :
    Host.gather (rowsDims N C R P wf) x idx (ix3 (n0 := R) (n1 := P) (n2 := C) r p c)
      = x (ix2 (n0 := N) (n1 := C) ⟨min (idx (ix3 (n0 := R) (n1 := P) (n2 := 1) r p 0)).toInt.toNat (N - 1), by omega⟩ c) := by
  unfold Host.gather
  congr 1
  funext a
  refine Fin.ext ?_
  show (rowsDims N C R P wf).start (ix3 (n0 := R) (n1 := P) (n2 := C) r p c) idx a + (rowsDims N C R P wf).batchCoord (ix3 (n0 := R) (n1 := P) (n2 := C) r p c) a
      + (rowsDims N C R P wf).offCoord (ix3 (n0 := R) (n1 := P) (n2 := C) r p c) a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R P wf).startIndexMap from List.mem_singleton.mpr rfl)]
    have hsi : (rowsDims N C R P wf).siIdx (ix3 (n0 := R) (n1 := P) (n2 := C) r p c) ⟨List.idxOf (0 : Fin 2) (rowsDims N C R P wf).startIndexMap,
        List.idxOf_lt_length_iff.2 (List.mem_singleton.mpr rfl)⟩ = ix3 (n0 := R) (n1 := P) (n2 := 1) r p 0 := by
      funext b; refine Fin.ext ?_
      match b with
      | ⟨0, _⟩ => rfl
      | ⟨1, _⟩ => rfl
      | ⟨2, _⟩ => rfl
    rw [hsi]
    rfl
  · have hs : (rowsDims N C R P wf).start (ix3 (n0 := R) (n1 := P) (n2 := C) r p c) idx (1 : Fin 2) = 0 := by
      unfold GatherDims.start
      rw [dif_neg (fun h => by simp at h)]
    refine (congrArg (· + 0 + _) hs).trans ?_
    simp only [Nat.zero_add]
    unfold GatherDims.offCoord
    rw [dif_pos ((GatherDims.mem_sKept _ _).mpr ⟨fun h => by simp at h, List.not_mem_nil⟩)]
    rfl

/-- A lookup of rows among 768, at row numbers. -/
theorem rows_apply {C : Nat} (wf : GatherDims.WF ⟨2, ![768, C]⟩ ⟨3, ![27, 768, 1]⟩ ⟨3, ![27, 768, C]⟩ [2] [0] [] [0] [] 2 ![1, C])
    (x : (⟨2, ![768, C]⟩ : Shape).Idx → α) (idx : IVec ⟨3, ![27, 768, 1]⟩ 32) (k : Fin 27) (p : Fin 768) (c : Fin C) {w : BitVec 32}
    (hw : idx (ix3 (n0 := 27) (n1 := 768) (n2 := 1) k p 0) = w) (h : w.toNat ≤ 767) :
    Host.gather (rowsDims 768 C 27 768 wf) x idx (ix3 (n0 := 27) (n1 := 768) (n2 := C) k p c) = x (ix2 (n0 := 768) (n1 := C) (row w) c) := by
  subst hw
  exact (gather_rows_apply (by omega) wf x idx k p c).trans (congrArg (fun r => x (ix2 (n0 := 768) (n1 := C) r c)) (clamp h _))

/-- A lookup of single values among 768, at row numbers. -/
theorem values_apply (wf : GatherDims.WF ⟨1, ![768]⟩ ⟨3, ![27, 768, 1]⟩ ⟨2, ![27, 768]⟩ [] [0] [] [0] [] 2 ![1])
    (x : (⟨1, ![768]⟩ : Shape).Idx → α) (idx : IVec ⟨3, ![27, 768, 1]⟩ 32) (k : Fin 27) (p : Fin 768) {w : BitVec 32}
    (hw : idx (ix3 (n0 := 27) (n1 := 768) (n2 := 1) k p 0) = w) (h : w.toNat ≤ 767) :
    Host.gather (ValueIdx.takeDims 768 27 768 wf) x idx (ix2 (n0 := 27) (n1 := 768) k p) = x (ix1 (n0 := 768) (row w)) := by
  have e : ValueIdx.takeIdx (ix2 (n0 := 27) (n1 := 768) k p) = ix3 (n0 := 27) (n1 := 768) (n2 := 1) k p 0 := by
    funext a
    match a with
    | ⟨0, _⟩ => rfl
    | ⟨1, _⟩ => rfl
    | ⟨2, _⟩ => rfl
  refine (ValueIdx.gather_take_apply (by omega) wf x idx (ix2 (n0 := 27) (n1 := 768) k p)).trans ?_
  rw [← e] at hw
  subst hw
  exact congrArg (fun r => x (ix1 (n0 := 768) r)) (clamp h _)

end Cert.RefGather

end
-- ==== Proof.RefValue.lean ====
/- The reference's whole output over the extended reals: the plain result of its arguments. -/
module

public import proofs.«01_k».proof.Proof.RefGather
public import proofs.«01_k».proof.Proof.Gen.ReferenceIdeal.Value
public import Idealize.ShloMosaic.Lib.Pipeline.ValueKit
public import Idealize.ShloMosaic.Lib.Pipeline.Value
public import Idealize.ShloMosaic.Lib.Pointwise.Contract

@[expose] public section

noncomputable section

namespace Cert.ReferenceIdeal.Hand

open Idealize.ShloMosaic Idealize.ShloMosaic.Pipeline Cert.ReferenceIdeal Cert.ReferenceIdeal.Gen Cert.Gather Cert.Spec Cert.RefGather

/-! ## The product -/

/-- The body's result, entry by entry: a sum over the 768 pair slots. -/
theorem pay_apply (v0 : Vec Ideal S27x768x384 .i8) (v4 : Vec Ideal S27x768x960 .i8) (v8 : Vec Ideal S27x768 .bf16) (k : Fin 27) (c : Fin 384) (d : Fin 960) :
    k0_pay1 (F := Ideal) v0 v4 v8 (ix3 (n0 := 27) (n1 := 384) (n2 := 960) k c d)
      = ∑ p : Fin 768, ((Ideal.ofBits .fp8e4m3 (v0 (ix3 (n0 := 27) (n1 := 768) (n2 := 384) k p c)) : EReal) * (v8 (ix2 (n0 := 27) (n1 := 768) k p) : EReal)
          * (Ideal.ofBits .fp8e5m2 (v4 (ix3 (n0 := 27) (n1 := 768) (n2 := 960) k p d)) : EReal)) := by
  unfold k0_pay1
  rw [shapeCast_self, shapeCast_self, shapeCast_self]
  refine (Ideal.matmul_apply₁_of dot_S27x768x384_S27x768x960_S27x384x960_1_1_2_2_0_0 (a := (1 : Fin 3)) rfl (K := 768) rfl _ _ _ _
    (fun p => ix3 (n0 := 27) (n1 := 768) (n2 := 384) k p c) (fun p => ix3 (n0 := 27) (n1 := 768) (n2 := 960) k p d) (fun p => ?_) (fun p => ?_)).trans ?_
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl
  · refine ((congrArg (· + _) Ideal.ofBits_zero_f32).trans (zero_add _)).trans (Finset.sum_congr rfl fun p _ => ?_)
    refine congrArg₂ (fun a b : EReal => a * b) (congrArg₂ (fun a b : EReal => a * b) rfl ?_) rfl
    refine (broadcastTo_apply _ _ _ (ix3 (n0 := 27) (n1 := 768) (n2 := 1) k p 0) (fun a => ?_)).trans
      ((shapeCast_apply v8 shapeCasts_S27x768_S27x768x1 _ (ix2 (n0 := 27) (n1 := 768) k p) ?_))
    · match a with
      | ⟨0, _⟩ => rfl
      | ⟨1, _⟩ => rfl
      | ⟨2, _⟩ => rfl
    · rw [rowMajor_val2 _ 768 rfl, rowMajor_val3 _ 768 1 rfl rfl]
      show k.val * 768 + p.val = k.val * 768 + p.val * 1 + 0
      omega

variable (m : (ℓ : Loc nD τ sig) → Buf (Elt Ideal) ℓ)

/-! ## What the host looked up -/

/-- The row numbers as a lookup takes them: 768 is added to a negative one. -/
def wrapped (x : IVec S27x768 32) : IVec S27x768x1 32 :=
  broadcastInDim S27x768x1 ![0, 1] bcast_S27x768_S27x768x1_0_1
    (select (cmpi .slt x (broadcastInDim S27x768 ![] bcast_S_S27x768 (constantI S_ 32 0#32)))
      (addi x (broadcastInDim S27x768 ![] bcast_S_S27x768 (constantI S_ 32 768#32))) x)

theorem wrapped_apply (x : IVec S27x768 32) (hx : ∀ y, (x y).toNat ≤ 767) (k : Fin 27) (p : Fin 768) :
    wrapped x (ix3 (n0 := 27) (n1 := 768) (n2 := 1) k p 0) = x (ix2 (n0 := 27) (n1 := 768) k p) := by
  refine Eq.trans ?_ (wrap (hx (ix2 (n0 := 27) (n1 := 768) k p)) (IntOp.addi (x (ix2 (n0 := 27) (n1 := 768) k p)) 768#32))
  refine (broadcastInDim_apply _ _ _ _ (ix2 (n0 := 27) (n1 := 768) k p) (fun a => ?_)).trans rfl
  match a with
  | ⟨0, _⟩ => rfl
  | ⟨1, _⟩ => rfl

/-- The scales of the pair slots as the host leaves them. -/
def scales (xs ys : FVec Ideal S768 .f32) (pin pout : IVec S27x768 32) (cnt : IVec S27 32) : FVec Ideal S27x768 .bf16 :=
  truncf .bf16 (select (cmpi .slt (broadcastInDim S27x768 ![0, 1] bcast_S1x768_S27x768_0_1 (broadcastInDim S1x768 ![1] bcast_S768_S1x768_1 (iotaInDim S768 32 0)))
      (broadcastInDim S27x768 ![0, 1] bcast_S27x1_S27x768_0_1 (broadcastInDim S27x1 ![0] bcast_S27_S27x1_0 cnt)))
    (mulf (Host.gather gather_S768_S27x768x1_S27x768_n_0_n_n_0_2_1 xs (wrapped pin)) (Host.gather gather_S768_S27x768x1_S27x768_n_0_n_n_0_2_1 ys (wrapped pout)))
    (broadcastInDim S27x768 ![] bcast_S_S27x768 (constant S_ .f32 0x00000000#32))) bitsLt_bf16_f32

theorem scales_apply (xs ys : FVec Ideal S768 .f32) (pin pout : IVec S27x768 32) (cnt : IVec S27 32)
    (hin : ∀ y, (pin y).toNat ≤ 767) (hout : ∀ y, (pout y).toNat ≤ 767) (hc : ∀ y, (cnt y).toNat ≤ 768) (k : Fin 27) (p : Fin 768) :
    scales xs ys pin pout cnt (ix2 (n0 := 27) (n1 := 768) k p)
      = scaleOf (fun p => xs (ix1 (n0 := 768) p)) (fun p => ys (ix1 (n0 := 768) p)) pin pout (fun k => cnt (ix1 (n0 := 27) k)) k p := by
  have hi : (broadcastInDim S27x768 ![0, 1] bcast_S1x768_S27x768_0_1 (broadcastInDim S1x768 ![1] bcast_S768_S1x768_1 (iotaInDim S768 32 0)) : IVec S27x768 32)
      (ix2 (n0 := 27) (n1 := 768) k p) = BitVec.ofNat 32 p.val := by
    refine (broadcastInDim_apply _ _ _ _ (ix2 (n0 := 1) (n1 := 768) 0 p) (fun a => ?_)).trans
      ((broadcastInDim_apply _ _ _ _ (ix1 (n0 := 768) p) (fun a => ?_)).trans rfl)
    · match a with
      | ⟨0, _⟩ => rfl
      | ⟨1, _⟩ => rfl
    · match a with
      | ⟨0, _⟩ => rfl
  have hn : (broadcastInDim S27x768 ![0, 1] bcast_S27x1_S27x768_0_1 (broadcastInDim S27x1 ![0] bcast_S27_S27x1_0 cnt) : IVec S27x768 32)
      (ix2 (n0 := 27) (n1 := 768) k p) = cnt (ix1 (n0 := 27) k) := by
    refine (broadcastInDim_apply _ _ _ _ (ix2 (n0 := 27) (n1 := 1) k 0) (fun a => ?_)).trans
      ((broadcastInDim_apply _ _ _ _ (ix1 (n0 := 27) k) (fun a => ?_)).trans rfl)
    · match a with
      | ⟨0, _⟩ => rfl
      | ⟨1, _⟩ => rfl
    · match a with
      | ⟨0, _⟩ => rfl
  have hx := values_apply gather_S768_S27x768x1_S27x768_n_0_n_n_0_2_1_wf xs (wrapped pin) k p (wrapped_apply pin hin k p) (hin _)
  have hy := values_apply gather_S768_S27x768x1_S27x768_n_0_n_n_0_2_1_wf ys (wrapped pout) k p (wrapped_apply pout hout k p) (hout _)
  have hs : scales xs ys pin pout cnt (ix2 (n0 := 27) (n1 := 768) k p)
      = Scalar.select (BitVec.ofBool ((BitVec.ofNat 32 p.val).slt (cnt (ix1 (n0 := 27) k))))
        ((xs (ix1 (n0 := 768) (row (pin (ix2 (n0 := 27) (n1 := 768) k p)))) : EReal) * ys (ix1 (n0 := 768) (row (pout (ix2 (n0 := 27) (n1 := 768) k p))))) (0 : EReal) := by
    unfold scales
    show Scalar.select (IntOp.cmpi .slt _ _) (_ * _ : EReal) _ = _
    rw [hi, hn]
    exact congrArg₂ (Scalar.select _) (congrArg₂ (fun a b : EReal => a * b) hx hy) Ideal.ofBits_zero_f32
  rw [hs]
  unfold scaleOf
  have hk := hc (ix1 (n0 := 27) k)
  have hp := p.isLt
  have e : (BitVec.ofNat 32 p.val).slt (cnt (ix1 (n0 := 27) k)) = decide (p.val < (cnt (ix1 (n0 := 27) k)).toNat) := by
    have hp' : (BitVec.ofNat 32 p.val).toNat = p.val := by rw [BitVec.toNat_ofNat]; omega
    rw [BitVec.slt_eq_decide, BitVec.toInt_eq_toNat_of_lt (by omega), BitVec.toInt_eq_toNat_of_lt (by omega), hp']
    simp
  rw [e]
  by_cases h : p.val < (cnt (ix1 (n0 := 27) k)).toNat
  · rw [if_pos h, decide_eq_true h]; rfl
  · rw [if_neg h, decide_eq_false h]; rfl

section
variable (c : Dev nD)

theorem v6_eq : V m c main_v6 = Host.gather gather_S768x384_S27x768x1_S27x768x384_2_0_n_n_0_2_1384
    (m ((c.tc : Thread nD τ).loc main_arg0)) (wrapped (m ((c.tc : Thread nD τ).loc main_arg4))) := by
  show StableHlo.after (List.flatten [hostOps0, hostOps0_1, hostOps0_2]) (fun b => m (c, b)) (Proc.devRef .tc main_v6) = _
  simp only [hostOps0, hostOps0_1, hostOps0_2, List.flatten_cons, List.flatten_nil, List.append_nil, List.cons_append, List.nil_append]
  after_results
  rfl

theorem v13_eq : V m c main_v13 = Host.gather gather_S768x960_S27x768x1_S27x768x960_2_0_n_n_0_2_1960
    (m ((c.tc : Thread nD τ).loc main_arg2)) (wrapped (m ((c.tc : Thread nD τ).loc main_arg5))) := by
  show StableHlo.after (List.flatten [hostOps0, hostOps0_1, hostOps0_2]) (fun b => m (c, b)) (Proc.devRef .tc main_v13) = _
  simp only [hostOps0, hostOps0_1, hostOps0_2, List.flatten_cons, List.flatten_nil, List.append_nil, List.cons_append, List.nil_append]
  after_results
  rfl

theorem v36_eq : V m c main_v36 = scales (m ((c.tc : Thread nD τ).loc main_arg1)) (m ((c.tc : Thread nD τ).loc main_arg3))
    (m ((c.tc : Thread nD τ).loc main_arg4)) (m ((c.tc : Thread nD τ).loc main_arg5)) (m ((c.tc : Thread nD τ).loc main_arg6)) := by
  show StableHlo.after (List.flatten [hostOps0, hostOps0_1, hostOps0_2]) (fun b => m (c, b)) (Proc.devRef .tc main_v36) = _
  simp only [hostOps0, hostOps0_1, hostOps0_2, List.flatten_cons, List.flatten_nil, List.append_nil, List.cons_append, List.nil_append]
  after_results
  rfl

end

/-! ## The one point's blocks are the arrays -/

/-- Every input's block begins at the array's beginning. -/
theorem idx : ∀ t : Fin cfg0.N, win0_0.index t = ![0, 0, 0] ∧ win0_1.index t = ![0, 0] ∧ win0_2.index t = ![0, 0, 0] :=
  (by decide +kernel : ∀ t : Fin grid0.N, _)

theorem iblk0 (c : Dev nD) : iblk m c 0 t0_0 = V m c main_v6 := by
  blk_ext! [iblk, idx t0_0]

theorem iblk1 (c : Dev nD) : iblk m c 1 t0_0 = V m c main_v36 := by
  blk_ext! [iblk, idx t0_0]

theorem iblk2 (c : Dev nD) : iblk m c 2 t0_0 = V m c main_v13 := by
  blk_ext! [iblk, idx t0_0]

/-! ## The result -/

section
variable (c : Dev nD)

/-- The plain result of the reference's arguments. -/
def result : S27x384x960.Idx → EReal :=
  total (m ((c.tc : Thread nD τ).loc main_arg0)) (fun p => m ((c.tc : Thread nD τ).loc main_arg1) (ix1 (n0 := 768) p))
    (m ((c.tc : Thread nD τ).loc main_arg2)) (fun p => m ((c.tc : Thread nD τ).loc main_arg3) (ix1 (n0 := 768) p))
    (m ((c.tc : Thread nD τ).loc main_arg4)) (m ((c.tc : Thread nD τ).loc main_arg5)) (fun k => m ((c.tc : Thread nD τ).loc main_arg6) (ix1 (n0 := 27) k))

variable (hin : ∀ y, (m ((c.tc : Thread nD τ).loc main_arg4) y).toNat ≤ 767)
  (hout : ∀ y, (m ((c.tc : Thread nD τ).loc main_arg5) y).toNat ≤ 767)
  (hc : ∀ y, (m ((c.tc : Thread nD τ).loc main_arg6) y).toNat ≤ 768)
include hin hout hc

/-- The product of what the host looked up is the plain result. -/
theorem pay_value (y : S27x384x960.Idx) :
    k0_pay1 (F := Ideal) (V m c main_v6) (V m c main_v13) (V m c main_v36) y = result m c y := by
  obtain ⟨k, a, d, rfl⟩ : ∃ (k : Fin 27) (a : Fin 384) (d : Fin 960), y = ix3 (n0 := 27) (n1 := 384) (n2 := 960) k a d :=
    ⟨y 0, y 1, y 2, by
      funext i
      match i with
      | ⟨0, _⟩ => rfl
      | ⟨1, _⟩ => rfl
      | ⟨2, _⟩ => rfl⟩
  refine (pay_apply _ _ _ k a d).trans (Finset.sum_congr rfl fun p _ => ?_)
  rw [v6_eq, v13_eq, v36_eq, scales_apply _ _ _ _ _ hin hout hc]
  have hx := rows_apply gather_S768x384_S27x768x1_S27x768x384_2_0_n_n_0_2_1384_wf (m ((c.tc : Thread nD τ).loc main_arg0))
    (wrapped (m ((c.tc : Thread nD τ).loc main_arg4))) k p a (wrapped_apply _ hin k p) (hin _)
  have hy := rows_apply gather_S768x960_S27x768x1_S27x768x960_2_0_n_n_0_2_1960_wf (m ((c.tc : Thread nD τ).loc main_arg2))
    (wrapped (m ((c.tc : Thread nD τ).loc main_arg5))) k p d (wrapped_apply _ hout k p) (hout _)
  exact congrArg₂ (fun (a b : BitVec 8) => (Ideal.ofBits .fp8e4m3 a : EReal) * scaleOf _ _ _ _ _ k p * (Ideal.ofBits .fp8e5m2 b : EReal)) hx hy

/-- The output array at the end of the run. -/
theorem final : (dats m 0 c).arrAt 3 cfg0.N = result m c := by
  refine (dats m 0 c).arrAt_eq_of_after_last 3 t0_0 (by decide +kernel) _ (fun y => ?_)
  blk_simp
  rw [after0_3]
  unfold out0_3
  frame_out
  rw [iblk0, iblk1, iblk2]
  exact pay_value m c hin hout hc y

end

/-- The run ends with the plain result in its place and the arguments as they were. -/
theorem run_value (hin : ∀ (c : Dev nD) (y), (m ((c.tc : Thread nD τ).loc main_arg4) y).toNat ≤ 767)
    (hout : ∀ (c : Dev nD) (y), (m ((c.tc : Thread nD τ).loc main_arg5) y).toNat ≤ 767)
    (hc : ∀ (c : Dev nD) (y), (m ((c.tc : Thread nD τ).loc main_arg6) y).toNat ≤ 768) (ρ : Dev nD → PrngReg) :
    θ_run defs (onTc (τ := τ) (main (F := Ideal))) ⟨m, fun _ => 0, ρ⟩ (fun r => ∀ c : Dev nD,
      r.2.mem ((c.tc : Thread nD τ).loc main_v37) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (final m c (hin c) (hout c) (hc c)), (h c).2⟩) (Value.run_blocks m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_counts
public import proofs.«01_k».proof.Proof.Gen.Pre_pairs
public import proofs.«01_k».proof.Proof.KernelCounts
public import proofs.«01_k».proof.Proof.Counts
public import proofs.«01_k».proof.Proof.ArrayValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- Over the extended reals the kernel and the reference end with the same result, the plain sum of `Cert.Spec`. -/
theorem algebraic : Cert.algebraic_KernelIdeal_ReferenceIdeal_pre_pairs (hKernelIdeal := Cert.KernelIdeal.Gen.facts) (hReferenceIdeal := Cert.ReferenceIdeal.Gen.facts)
    (hPre_pairs := Cert.Pre_pairs.Gen.facts) := fun m g m' g' h e => by
  refine ⟨Cert.KernelIdeal.Hand.result m, Cert.KernelIdeal.Hand.run_value m (Cert.KernelIdeal.Hand.counts_le_pairs m h)
    (Cert.KernelIdeal.Hand.pin_le m h) (Cert.KernelIdeal.Hand.pout_le m h) g, ?_⟩
  have er : ∀ c, Cert.ReferenceIdeal.Hand.result m' c = Cert.KernelIdeal.Hand.result m c := fun c => by
    obtain ⟨e0, e1, e2, e3, e4, e5, e6⟩ := e c
    unfold Cert.ReferenceIdeal.Hand.result Cert.KernelIdeal.Hand.result
    rw [e0, e1, e2, e3, e4, e5, e6]
  refine (θ_run _ _ _).mono (fun r hr c => ⟨(hr c).1.trans (er c), (hr c).2⟩) (Cert.ReferenceIdeal.Hand.run_value m' (fun c y => ?_) (fun c y => ?_) (fun c y => ?_) g')
  · rw [(e c).2.2.2.2.1]; exact Cert.KernelIdeal.Hand.pin_le m h c y
  · rw [(e c).2.2.2.2.2.1]; exact Cert.KernelIdeal.Hand.pout_le m h c y
  · rw [(e c).2.2.2.2.2.2]; exact Cert.KernelIdeal.Hand.cnt_le m h c y

theorem claim : Cert.Claim := ⟨Cert.Kernel.Gen.facts, Cert.KernelIdeal.Gen.facts, Cert.ReferenceIdeal.Gen.facts, Cert.Pre_counts.Gen.facts, Cert.Pre_pairs.Gen.facts,
  fun m g h => Cert.Kernel.Hand.frame_of_counts m g (Cert.Kernel.Hand.counts_le m h),
  fun m g h => Cert.KernelIdeal.Hand.frame_of_counts m g (Cert.KernelIdeal.Hand.counts_le m h),
  fun m g h => Cert.KernelIdeal.Hand.frame_of_counts m g (Cert.KernelIdeal.Hand.counts_le_pairs m h),
  fun m g _ => Cert.ReferenceIdeal.Gen.frame m g, fun m g _ => Cert.ReferenceIdeal.Gen.frame m g, trivial, algebraic⟩

end Cert.Proof

end
